-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)) (v5 : (c : Dev Cert.KernelIdeal.nD) → Buf (Elt Ideal) ((c.tc : Thread Cert.KernelIdeal.nD Cert.KernelIdeal.τ).loc Cert.KernelIdeal.main_v4_5)) (v6 : (c : Dev Cert.KernelIdeal.nD) → Buf (Elt Ideal) ((c.tc : Thread Cert.KernelIdeal.nD Cert.KernelIdeal.τ).loc Cert.KernelIdeal.main_v4_6)) (v7 : (c : Dev Cert.KernelIdeal.nD) → Buf (Elt Ideal) ((c.tc : Thread Cert.KernelIdeal.nD Cert.KernelIdeal.τ).loc Cert.KernelIdeal.main_v4_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_v4_5) = v5 c
          ∧ r.2.mem ((c.tc : Thread Cert.KernelIdeal.nD Cert.KernelIdeal.τ).loc Cert.KernelIdeal.main_v4_6) = v6 c
          ∧ r.2.mem ((c.tc : Thread Cert.KernelIdeal.nD Cert.KernelIdeal.τ).loc Cert.KernelIdeal.main_v4_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20_0) = v0 c
          ∧ r.2.mem ((c.tc : Thread Cert.ReferenceIdeal.nD Cert.ReferenceIdeal.τ).loc Cert.ReferenceIdeal.main_v20_1) = v1 c
          ∧ r.2.mem ((c.tc : Thread Cert.ReferenceIdeal.nD Cert.ReferenceIdeal.τ).loc Cert.ReferenceIdeal.main_v20_2) = v2 c
          ∧ r.2.mem ((c.tc : Thread Cert.ReferenceIdeal.nD Cert.ReferenceIdeal.τ).loc Cert.ReferenceIdeal.main_v20_3) = v3 c
          ∧ r.2.mem ((c.tc : Thread Cert.ReferenceIdeal.nD Cert.ReferenceIdeal.τ).loc Cert.ReferenceIdeal.main_v20_4) = v4 c
          ∧ r.2.mem ((c.tc : Thread Cert.ReferenceIdeal.nD Cert.ReferenceIdeal.τ).loc Cert.ReferenceIdeal.main_v20_5) = v5 c
          ∧ r.2.mem ((c.tc : Thread Cert.ReferenceIdeal.nD Cert.ReferenceIdeal.τ).loc Cert.ReferenceIdeal.main_v20_6) = v6 c
          ∧ r.2.mem ((c.tc : Thread Cert.ReferenceIdeal.nD Cert.ReferenceIdeal.τ).loc Cert.ReferenceIdeal.main_v20_7) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x6x6480x128 : Shape := ⟨4, ![3, 6, 6480, 128]⟩
abbrev S3x6480x3072 : Shape := ⟨3, ![3, 6480, 3072]⟩
abbrev S3x6x3072 : Shape := ⟨3, ![3, 6, 3072]⟩
abbrev S768x3072 : Shape := ⟨2, ![768, 3072]⟩
abbrev S3072 : Shape := ⟨1, ![3072]⟩
abbrev S3072x2048 : Shape := ⟨2, ![3072, 2048]⟩
abbrev S2048 : Shape := ⟨1, ![2048]⟩
abbrev S2048x3072 : Shape := ⟨2, ![2048, 3072]⟩
abbrev S1x3072 : Shape := ⟨2, ![1, 3072]⟩
abbrev S1x2048 : Shape := ⟨2, ![1, 2048]⟩
abbrev S3x6480x768 : Shape := ⟨3, ![3, 6480, 768]⟩
abbrev S3x1x6480 : Shape := ⟨3, ![3, 1, 6480]⟩
abbrev S3x6480x2048 : Shape := ⟨3, ![3, 6480, 2048]⟩
abbrev S1x6x384x128 : Shape := ⟨4, ![1, 6, 384, 128]⟩
abbrev S1x384x3072 : Shape := ⟨3, ![1, 384, 3072]⟩
abbrev S1x6x3072 : Shape := ⟨3, ![1, 6, 3072]⟩
abbrev S1x384x768 : Shape := ⟨3, ![1, 384, 768]⟩
abbrev S1x1x384 : Shape := ⟨3, ![1, 1, 384]⟩
abbrev S384x768 : Shape := ⟨2, ![384, 768]⟩
abbrev S384x3072 : Shape := ⟨2, ![384, 3072]⟩
abbrev S384x2048 : Shape := ⟨2, ![384, 2048]⟩
abbrev S384x128 : Shape := ⟨2, ![384, 128]⟩
abbrev S6 : Shape := ⟨1, ![6]⟩
abbrev S1x1x32x128 : Shape := ⟨4, ![1, 1, 32, 128]⟩
abbrev S32x128 : Shape := ⟨2, ![32, 128]⟩
abbrev S32 : Shape := ⟨1, ![32]⟩
abbrev S32x1 : Shape := ⟨2, ![32, 1]⟩
abbrev S1x32x128 : Shape := ⟨3, ![1, 32, 128]⟩
abbrev S1 : Shape := ⟨1, ![1]⟩
abbrev S_ : Shape := ⟨0, ![]⟩
abbrev S1x336x768 : Shape := ⟨3, ![1, 336, 768]⟩
abbrev S336x768 : Shape := ⟨2, ![336, 768]⟩
abbrev S128x128 : Shape := ⟨2, ![128, 128]⟩
abbrev S1x128 : Shape := ⟨2, ![1, 128]⟩
abbrev S1x1x128 : Shape := ⟨3, ![1, 1, 128]⟩
abbrev S1x1x3072 : Shape := ⟨3, ![1, 1, 3072]⟩
abbrev S768x256 : Shape := ⟨2, ![768, 256]⟩
abbrev S384x256 : Shape := ⟨2, ![384, 256]⟩
abbrev S1x384x256 : Shape := ⟨3, ![1, 384, 256]⟩
abbrev S1x256 : Shape := ⟨2, ![1, 256]⟩
abbrev S32x3072 : Shape := ⟨2, ![32, 3072]⟩
abbrev S1x336x3072 : Shape := ⟨3, ![1, 336, 3072]⟩
abbrev S336x3072 : Shape := ⟨2, ![336, 3072]⟩
abbrev S3072x256 : Shape := ⟨2, ![3072, 256]⟩
abbrev S384 : Shape := ⟨1, ![384]⟩
abbrev S384x1 : Shape := ⟨2, ![384, 1]⟩
abbrev S1x384x2048 : Shape := ⟨3, ![1, 384, 2048]⟩
abbrev S1x336x2048 : Shape := ⟨3, ![1, 336, 2048]⟩
abbrev S336x2048 : Shape := ⟨2, ![336, 2048]⟩
abbrev S2048x256 : Shape := ⟨2, ![2048, 256]⟩

abbrev nBuf : Space → Nat
  | .hbm => 23
  | .vmem => 33
  | .smem => 0
  | _ => 0

abbrev bufTy : (tb : Table) → Fin (tcTables nBuf tb) → BufTy
  | .hbm, ⟨0, _⟩ => ⟨S3x6x6480x128, .f32⟩
  | .hbm, ⟨1, _⟩ => ⟨S3x6480x3072, .bf16⟩
  | .hbm, ⟨2, _⟩ => ⟨S3x6x3072, .f32⟩
  | .hbm, ⟨3, _⟩ => ⟨S768x3072, .fp8e4m3⟩
  | .hbm, ⟨4, _⟩ => ⟨S3072, .f32⟩
  | .hbm, ⟨5, _⟩ => ⟨S3072x2048, .fp8e4m3⟩
  | .hbm, ⟨6, _⟩ => ⟨S2048, .f32⟩
  | .hbm, ⟨7, _⟩ => ⟨S3072x2048, .fp8e4m3⟩
  | .hbm, ⟨8, _⟩ => ⟨S2048, .f32⟩
  | .hbm, ⟨9, _⟩ => ⟨S2048x3072, .fp8e4m3⟩
  | .hbm, ⟨10, _⟩ => ⟨S3072, .f32⟩
  | .hbm, ⟨11, _⟩ => ⟨S1x3072, .f32⟩
  | .hbm, ⟨12, _⟩ => ⟨S1x2048, .f32⟩
  | .hbm, ⟨13, _⟩ => ⟨S1x2048, .f32⟩
  | .hbm, ⟨14, _⟩ => ⟨S1x3072, .f32⟩
  | .hbm, ⟨15, _⟩ => ⟨S3x6480x768, .bf16⟩
  | .hbm, ⟨16, _⟩ => ⟨S3x6480x768, .fp8e4m3⟩
  | .hbm, ⟨17, _⟩ => ⟨S3x1x6480, .f32⟩
  | .hbm, ⟨18, _⟩ => ⟨S3x6480x3072, .fp8e4m3⟩
  | .hbm, ⟨19, _⟩ => ⟨S3x1x6480, .f32⟩
  | .hbm, ⟨20, _⟩ => ⟨S3x6480x2048, .fp8e4m3⟩
  | .hbm, ⟨21, _⟩ => ⟨S3x1x6480, .f32⟩
  | .hbm, ⟨22, _⟩ => ⟨S3x6480x3072, .bf16⟩
  | .local _ .vmem, ⟨0, _⟩ => ⟨S1x6x384x128, .f32⟩
  | .local _ .vmem, ⟨1, _⟩ => ⟨S1x6x384x128, .f32⟩
  | .local _ .vmem, ⟨2, _⟩ => ⟨S1x384x3072, .bf16⟩
  | .local _ .vmem, ⟨3, _⟩ => ⟨S1x384x3072, .bf16⟩
  | .local _ .vmem, ⟨4, _⟩ => ⟨S1x6x3072, .f32⟩
  | .local _ .vmem, ⟨5, _⟩ => ⟨S1x6x3072, .f32⟩
  | .local _ .vmem, ⟨6, _⟩ => ⟨S768x3072, .fp8e4m3⟩
  | .local _ .vmem, ⟨7, _⟩ => ⟨S1x3072, .f32⟩
  | .local _ .vmem, ⟨8, _⟩ => ⟨S3072x2048, .fp8e4m3⟩
  | .local _ .vmem, ⟨9, _⟩ => ⟨S1x2048, .f32⟩
  | .local _ .vmem, ⟨10, _⟩ => ⟨S3072x2048, .fp8e4m3⟩
  | .local _ .vmem, ⟨11, _⟩ => ⟨S1x2048, .f32⟩
  | .local _ .vmem, ⟨12, _⟩ => ⟨S2048x3072, .fp8e4m3⟩
  | .local _ .vmem, ⟨13, _⟩ => ⟨S1x3072, .f32⟩
  | .local _ .vmem, ⟨14, _⟩ => ⟨S1x384x768, .bf16⟩
  | .local _ .vmem, ⟨15, _⟩ => ⟨S1x384x768, .bf16⟩
  | .local _ .vmem, ⟨16, _⟩ => ⟨S1x1x384, .f32⟩
  | .local _ .vmem, ⟨17, _⟩ => ⟨S1x1x384, .f32⟩
  | .local _ .vmem, ⟨18, _⟩ => ⟨S1x1x384, .f32⟩
  | .local _ .vmem, ⟨19, _⟩ => ⟨S1x1x384, .f32⟩
  | .local _ .vmem, ⟨20, _⟩ => ⟨S1x1x384, .f32⟩
  | .local _ .vmem, ⟨21, _⟩ => ⟨S1x1x384, .f32⟩
  | .local _ .vmem, ⟨22, _⟩ => ⟨S1x384x3072, .bf16⟩
  | .local _ .vmem, ⟨23, _⟩ => ⟨S1x384x3072, .bf16⟩
  | .local _ .vmem, ⟨24, _⟩ => ⟨S384x768, .fp8e4m3⟩
  | .local _ .vmem, ⟨25, _⟩ => ⟨S384x3072, .fp8e4m3⟩
  | .local _ .vmem, ⟨26, _⟩ => ⟨S384x2048, .fp8e4m3⟩
  | .local _ .vmem, ⟨27, _⟩ => ⟨S384x3072, .f32⟩
  | .local _ .vmem, ⟨28, _⟩ => ⟨S384x3072, .f32⟩
  | .local _ .vmem, ⟨29, _⟩ => ⟨S384x128, .f32⟩
  | .local _ .vmem, ⟨30, _⟩ => ⟨S384x128, .f32⟩
  | .local _ .vmem, ⟨31, _⟩ => ⟨S384x128, .f32⟩
  | .local _ .vmem, ⟨32, _⟩ => ⟨S1x3072, .f32⟩
  | _, _ => ⟨S3x6x6480x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev main_v4_3 : Ref sig .tc := ⟨.hbm, 18, rfl⟩
abbrev main_v4_4 : Ref sig .tc := ⟨.hbm, 19, rfl⟩
abbrev main_v4_5 : Ref sig .tc := ⟨.hbm, 20, rfl⟩
abbrev main_v4_6 : Ref sig .tc := ⟨.hbm, 21, rfl⟩
abbrev main_v4_7 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_scratch7 : Ref sig .tc := ⟨.vmem, 31, rfl⟩
abbrev cc0_scratch8 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨2, ![3, 17], ![false, false]⟩

def k0_cond1 (i : grid0.Coords) : BitVec 1 :=
  let arg1 : BitVec 32 := BitVec.ofNat 32 (i 1).val
  let c16_i32 : BitVec 32 := 16#32
  let v1464 : BitVec 1 := Scalar.cmpi .slt arg1 c16_i32
  let v1465 : BitVec 32 := Scalar.extui v1464
  let c0_i32_855 : BitVec 32 := 0#32
  let v1466 : BitVec 1 := Scalar.cmpi .ne v1465 c0_i32_855
  v1466

def k0_mult1 (i : grid0.Coords) : BitVec 32 :=
  let arg1 : BitVec 32 := BitVec.ofNat 32 (i 1).val
  let c384_i32 : BitVec 32 := 384#32
  let v14095 : BitVec 32 := Scalar.muli arg1 c384_i32
  v14095
def k0_off1 (i : grid0.Coords) : Fin 3 → Nat :=
  let arg0 : BitVec 32 := BitVec.ofNat 32 (i 0).val
  let arg1 : BitVec 32 := BitVec.ofNat 32 (i 1).val
  let c384_i32 : BitVec 32 := 384#32
  let v14095 : BitVec 32 := Scalar.muli arg1 c384_i32
  let v14096 : BitVec 32 := v14095
  let c0_i32_10061 : BitVec 32 := 0#32
  ![arg0.toNat, v14096.toNat, 0]
def k0_cond2 (i : grid0.Coords) : BitVec 1 :=
  let arg1 : BitVec 32 := BitVec.ofNat 32 (i 1).val
  let c16_i32_856 : BitVec 32 := 16#32
  let v1467 : BitVec 1 := Scalar.cmpi .eq arg1 c16_i32_856
  let v1468 : BitVec 32 := Scalar.extui v1467
  let c0_i32_857 : BitVec 32 := 0#32
  let v1469 : BitVec 1 := Scalar.cmpi .ne v1468 c0_i32_857
  v1469

def k0_mult2 (i : grid0.Coords) : BitVec 32 :=
  let arg1 : BitVec 32 := BitVec.ofNat 32 (i 1).val
  let c384_i32 : BitVec 32 := 384#32
  let v14095 : BitVec 32 := Scalar.muli arg1 c384_i32
  v14095
def k0_off2 (i : grid0.Coords) : Fin 3 → Nat :=
  let arg0 : BitVec 32 := BitVec.ofNat 32 (i 0).val
  let arg1 : BitVec 32 := BitVec.ofNat 32 (i 1).val
  let c384_i32 : BitVec 32 := 384#32
  let v14095 : BitVec 32 := Scalar.muli arg1 c384_i32
  let v14096 : BitVec 32 := v14095
  let c0_i32_10061 : BitVec 32 := 0#32
  ![arg0.toNat, v14096.toNat, 0]
def k0_cond3 (i : grid0.Coords) : BitVec 1 :=
  let arg1 : BitVec 32 := BitVec.ofNat 32 (i 1).val
  let c16_i32_8421 : BitVec 32 := 16#32
  let v11551 : BitVec 1 := Scalar.cmpi .slt arg1 c16_i32_8421
  let v11552 : BitVec 32 := Scalar.extui v11551
  let c0_i32_8422 : BitVec 32 := 0#32
  let v11553 : BitVec 1 := Scalar.cmpi .ne v11552 c0_i32_8422
  v11553

def k0_mult3 (i : grid0.Coords) : BitVec 32 :=
  let arg1 : BitVec 32 := BitVec.ofNat 32 (i 1).val
  let c384_i32 : BitVec 32 := 384#32
  let v14095 : BitVec 32 := Scalar.muli arg1 c384_i32
  v14095
def k0_off3 (i : grid0.Coords) : Fin 3 → Nat :=
  let arg0 : BitVec 32 := BitVec.ofNat 32 (i 0).val
  let arg1 : BitVec 32 := BitVec.ofNat 32 (i 1).val
  let c384_i32 : BitVec 32 := 384#32
  let v14095 : BitVec 32 := Scalar.muli arg1 c384_i32
  let v14096 : BitVec 32 := v14095
  let c0_i32_10061 : BitVec 32 := 0#32
  ![arg0.toNat, v14096.toNat, 0]
def k0_cond4 (i : grid0.Coords) : BitVec 1 :=
  let arg1 : BitVec 32 := BitVec.ofNat 32 (i 1).val
  let c16_i32_8423 : BitVec 32 := 16#32
  let v11554 : BitVec 1 := Scalar.cmpi .eq arg1 c16_i32_8423
  let v11555 : BitVec 32 := Scalar.extui v11554
  let c0_i32_8424 : BitVec 32 := 0#32
  let v11556 : BitVec 1 := Scalar.cmpi .ne v11555 c0_i32_8424
  v11556

def k0_mult4 (i : grid0.Coords) : BitVec 32 :=
  let arg1 : BitVec 32 := BitVec.ofNat 32 (i 1).val
  let c384_i32 : BitVec 32 := 384#32
  let v14095 : BitVec 32 := Scalar.muli arg1 c384_i32
  v14095
def k0_off4 (i : grid0.Coords) : Fin 3 → Nat :=
  let arg0 : BitVec 32 := BitVec.ofNat 32 (i 0).val
  let arg1 : BitVec 32 := BitVec.ofNat 32 (i 1).val
  let c384_i32 : BitVec 32 := 384#32
  let v14095 : BitVec 32 := Scalar.muli arg1 c384_i32
  let v14096 : BitVec 32 := v14095
  let c0_i32_10061 : BitVec 32 := 0#32
  ![arg0.toNat, v14096.toNat, 0]
def k0_cond5 (i : grid0.Coords) : BitVec 1 :=
  let arg1 : BitVec 32 := BitVec.ofNat 32 (i 1).val
  let c16_i32_9810 : BitVec 32 := 16#32
  let v13819 : BitVec 1 := Scalar.cmpi .slt arg1 c16_i32_9810
  let v13820 : BitVec 32 := Scalar.extui v13819
  let c0_i32_9812 : BitVec 32 := 0#32
  let v13821 : BitVec 1 := Scalar.cmpi .ne v13820 c0_i32_9812
  v13821

def k0_mult5 (i : grid0.Coords) : BitVec 32 :=
  let arg1 : BitVec 32 := BitVec.ofNat 32 (i 1).val
  let c384_i32 : BitVec 32 := 384#32
  let v14095 : BitVec 32 := Scalar.muli arg1 c384_i32
  v14095
def k0_off5 (i : grid0.Coords) : Fin 3 → Nat :=
  let arg0 : BitVec 32 := BitVec.ofNat 32 (i 0).val
  let arg1 : BitVec 32 := BitVec.ofNat 32 (i 1).val
  let c384_i32 : BitVec 32 := 384#32
  let v14095 : BitVec 32 := Scalar.muli arg1 c384_i32
  let v14096 : BitVec 32 := v14095
  let c0_i32_10061 : BitVec 32 := 0#32
  ![arg0.toNat, v14096.toNat, 0]
def k0_cond6 (i : grid0.Coords) : BitVec 1 :=
  let arg1 : BitVec 32 := BitVec.ofNat 32 (i 1).val
  let c16_i32_9813 : BitVec 32 := 16#32
  let v13822 : BitVec 1 := Scalar.cmpi .eq arg1 c16_i32_9813
  let v13823 : BitVec 32 := Scalar.extui v13822
  let c0_i32_9814 : BitVec 32 := 0#32
  let v13824 : BitVec 1 := Scalar.cmpi .ne v13823 c0_i32_9814
  v13824

def k0_mult6 (i : grid0.Coords) : BitVec 32 :=
  let arg1 : BitVec 32 := BitVec.ofNat 32 (i 1).val
  let c384_i32 : BitVec 32 := 384#32
  let v14095 : BitVec 32 := Scalar.muli arg1 c384_i32
  v14095
def k0_off6 (i : grid0.Coords) : Fin 3 → Nat :=
  let arg0 : BitVec 32 := BitVec.ofNat 32 (i 0).val
  let arg1 : BitVec 32 := BitVec.ofNat 32 (i 1).val
  let c384_i32 : BitVec 32 := 384#32
  let v14095 : BitVec 32 := Scalar.muli arg1 c384_i32
  let v14096 : BitVec 32 := v14095
  let c0_i32_10061 : BitVec 32 := 0#32
  ![arg0.toNat, v14096.toNat, 0]
def k0_cond7 (i : grid0.Coords) : BitVec 1 :=
  let arg1 : BitVec 32 := BitVec.ofNat 32 (i 1).val
  let c16_i32_10043 : BitVec 32 := 16#32
  let v14077 : BitVec 1 := Scalar.cmpi .slt arg1 c16_i32_10043
  let v14078 : BitVec 32 := Scalar.extui v14077
  let c0_i32_10045 : BitVec 32 := 0#32
  let v14079 : BitVec 1 := Scalar.cmpi .ne v14078 c0_i32_10045
  v14079

def k0_mult7 (i : grid0.Coords) : BitVec 32 :=
  let arg1 : BitVec 32 := BitVec.ofNat 32 (i 1).val
  let c384_i32 : BitVec 32 := 384#32
  let v14095 : BitVec 32 := Scalar.muli arg1 c384_i32
  v14095
def k0_off7 (i : grid0.Coords) : Fin 3 → Nat :=
  let arg0 : BitVec 32 := BitVec.ofNat 32 (i 0).val
  let arg1 : BitVec 32 := BitVec.ofNat 32 (i 1).val
  let c384_i32 : BitVec 32 := 384#32
  let v14095 : BitVec 32 := Scalar.muli arg1 c384_i32
  let v14096 : BitVec 32 := v14095
  let c0_i32_10061 : BitVec 32 := 0#32
  ![arg0.toNat, v14096.toNat, 0]
def k0_cond8 (i : grid0.Coords) : BitVec 1 :=
  let arg1 : BitVec 32 := BitVec.ofNat 32 (i 1).val
  let c16_i32_10046 : BitVec 32 := 16#32
  let v14080 : BitVec 1 := Scalar.cmpi .eq arg1 c16_i32_10046
  let v14081 : BitVec 32 := Scalar.extui v14080
  let c0_i32_10048 : BitVec 32 := 0#32
  let v14082 : BitVec 1 := Scalar.cmpi .ne v14081 c0_i32_10048
  v14082

def k0_mult8 (i : grid0.Coords) : BitVec 32 :=
  let arg1 : BitVec 32 := BitVec.ofNat 32 (i 1).val
  let c384_i32 : BitVec 32 := 384#32
  let v14095 : BitVec 32 := Scalar.muli arg1 c384_i32
  v14095
def k0_off8 (i : grid0.Coords) : Fin 3 → Nat :=
  let arg0 : BitVec 32 := BitVec.ofNat 32 (i 0).val
  let arg1 : BitVec 32 := BitVec.ofNat 32 (i 1).val
  let c384_i32 : BitVec 32 := 384#32
  let v14095 : BitVec 32 := Scalar.muli arg1 c384_i32
  let v14096 : BitVec 32 := v14095
  let c0_i32_10061 : BitVec 32 := 0#32
  ![arg0.toNat, v14096.toNat, 0]
def k0_cond9 (i : grid0.Coords) : BitVec 1 :=
  let arg1 : BitVec 32 := BitVec.ofNat 32 (i 1).val
  let c16_i32_10049 : BitVec 32 := 16#32
  let v14083 : BitVec 1 := Scalar.cmpi .slt arg1 c16_i32_10049
  let v14084 : BitVec 32 := Scalar.extui v14083
  let c0_i32_10051 : BitVec 32 := 0#32
  let v14085 : BitVec 1 := Scalar.cmpi .ne v14084 c0_i32_10051
  v14085

def k0_mult9 (i : grid0.Coords) : BitVec 32 :=
  let arg1 : BitVec 32 := BitVec.ofNat 32 (i 1).val
  let c384_i32 : BitVec 32 := 384#32
  let v14095 : BitVec 32 := Scalar.muli arg1 c384_i32
  v14095
def k0_off9 (i : grid0.Coords) : Fin 3 → Nat :=
  let arg0 : BitVec 32 := BitVec.ofNat 32 (i 0).val
  let arg1 : BitVec 32 := BitVec.ofNat 32 (i 1).val
  let c384_i32 : BitVec 32 := 384#32
  let v14095 : BitVec 32 := Scalar.muli arg1 c384_i32
  let v14096 : BitVec 32 := v14095
  let c0_i32_10061 : BitVec 32 := 0#32
  ![arg0.toNat, v14096.toNat, 0]
def k0_cond10 (i : grid0.Coords) : BitVec 1 :=
  let arg1 : BitVec 32 := BitVec.ofNat 32 (i 1).val
  let c16_i32_10052 : BitVec 32 := 16#32
  let v14086 : BitVec 1 := Scalar.cmpi .eq arg1 c16_i32_10052
  let v14087 : BitVec 32 := Scalar.extui v14086
  let c0_i32_10054 : BitVec 32 := 0#32
  let v14088 : BitVec 1 := Scalar.cmpi .ne v14087 c0_i32_10054
  v14088

def k0_mult10 (i : grid0.Coords) : BitVec 32 :=
  let arg1 : BitVec 32 := BitVec.ofNat 32 (i 1).val
  let c384_i32 : BitVec 32 := 384#32
  let v14095 : BitVec 32 := Scalar.muli arg1 c384_i32
  v14095
def k0_off10 (i : grid0.Coords) : Fin 3 → Nat :=
  let arg0 : BitVec 32 := BitVec.ofNat 32 (i 0).val
  let arg1 : BitVec 32 := BitVec.ofNat 32 (i 1).val
  let c384_i32 : BitVec 32 := 384#32
  let v14095 : BitVec 32 := Scalar.muli arg1 c384_i32
  let v14096 : BitVec 32 := v14095
  let c0_i32_10061 : BitVec 32 := 0#32
  ![arg0.toNat, v14096.toNat, 0]
def k0_cond11 (i : grid0.Coords) : BitVec 1 :=
  let arg1 : BitVec 32 := BitVec.ofNat 32 (i 1).val
  let c16_i32_10055 : BitVec 32 := 16#32
  let v14089 : BitVec 1 := Scalar.cmpi .slt arg1 c16_i32_10055
  let v14090 : BitVec 32 := Scalar.extui v14089
  let c0_i32_10057 : BitVec 32 := 0#32
  let v14091 : BitVec 1 := Scalar.cmpi .ne v14090 c0_i32_10057
  v14091

def k0_mult11 (i : grid0.Coords) : BitVec 32 :=
  let arg1 : BitVec 32 := BitVec.ofNat 32 (i 1).val
  let c384_i32 : BitVec 32 := 384#32
  let v14095 : BitVec 32 := Scalar.muli arg1 c384_i32
  v14095
def k0_off11 (i : grid0.Coords) : Fin 3 → Nat :=
  let arg0 : BitVec 32 := BitVec.ofNat 32 (i 0).val
  let arg1 : BitVec 32 := BitVec.ofNat 32 (i 1).val
  let c384_i32 : BitVec 32 := 384#32
  let v14095 : BitVec 32 := Scalar.muli arg1 c384_i32
  let v14096 : BitVec 32 := v14095
  let c0_i32_10061 : BitVec 32 := 0#32
  ![arg0.toNat, v14096.toNat, 0]
def k0_cond12 (i : grid0.Coords) : BitVec 1 :=
  let arg1 : BitVec 32 := BitVec.ofNat 32 (i 1).val
  let c16_i32_10058 : BitVec 32 := 16#32
  let v14092 : BitVec 1 := Scalar.cmpi .eq arg1 c16_i32_10058
  let v14093 : BitVec 32 := Scalar.extui v14092
  let c0_i32_10060 : BitVec 32 := 0#32
  let v14094 : BitVec 1 := Scalar.cmpi .ne v14093 c0_i32_10060
  v14094

def k0_mult12 (i : grid0.Coords) : BitVec 32 :=
  let arg1 : BitVec 32 := BitVec.ofNat 32 (i 1).val
  let c384_i32 : BitVec 32 := 384#32
  let v14095 : BitVec 32 := Scalar.muli arg1 c384_i32
  v14095
def k0_off12 (i : grid0.Coords) : Fin 3 → Nat :=
  let arg0 : BitVec 32 := BitVec.ofNat 32 (i 0).val
  let arg1 : BitVec 32 := BitVec.ofNat 32 (i 1).val
  let c384_i32 : BitVec 32 := 384#32
  let v14095 : BitVec 32 := Scalar.muli arg1 c384_i32
  let v14096 : BitVec 32 := v14095
  let c0_i32_10061 : BitVec 32 := 0#32
  ![arg0.toNat, v14096.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x6x384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x384x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x6x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S768x3072 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3072x2048 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3072x2048 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2048x3072 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x384x768 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x384 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x384 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x384 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x384x3072 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== ReferenceIdeal.lean ====
abbrev S3x6x6480x128 : Shape := ⟨4, ![3, 6, 6480, 128]⟩
abbrev S3x6480x3072 : Shape := ⟨3, ![3, 6480, 3072]⟩
abbrev S3x6x3072 : Shape := ⟨3, ![3, 6, 3072]⟩
abbrev S768x3072 : Shape := ⟨2, ![768, 3072]⟩
abbrev S3072 : Shape := ⟨1, ![3072]⟩
abbrev S3072x2048 : Shape := ⟨2, ![3072, 2048]⟩
abbrev S2048 : Shape := ⟨1, ![2048]⟩
abbrev S2048x3072 : Shape := ⟨2, ![2048, 3072]⟩
abbrev S3x6480x6x128 : Shape := ⟨4, ![3, 6480, 6, 128]⟩
abbrev S3x6480x768 : Shape := ⟨3, ![3, 6480, 768]⟩
abbrev S19440x768 : Shape := ⟨2, ![19440, 768]⟩
abbrev S19440x3072 : Shape := ⟨2, ![19440, 3072]⟩
abbrev S3x1x3072 : Shape := ⟨3, ![3, 1, 3072]⟩
abbrev S1x3072 : Shape := ⟨2, ![1, 3072]⟩
abbrev S1x2048 : Shape := ⟨2, ![1, 2048]⟩
abbrev S3x1x6480 : Shape := ⟨3, ![3, 1, 6480]⟩
abbrev S3x6480x2048 : Shape := ⟨3, ![3, 6480, 2048]⟩
abbrev S19440 : Shape := ⟨1, ![19440]⟩
abbrev S19440x1 : Shape := ⟨2, ![19440, 1]⟩
abbrev S19440x2048 : Shape := ⟨2, ![19440, 2048]⟩

abbrev nBuf : Space → Nat
  | .hbm => 39
  | .vmem => 22
  | .smem => 0
  | _ => 0

abbrev bufTy : (tb : Table) → Fin (tcTables nBuf tb) → BufTy
  | .hbm, ⟨0, _⟩ => ⟨S3x6x6480x128, .f32⟩
  | .hbm, ⟨1, _⟩ => ⟨S3x6480x3072, .bf16⟩
  | .hbm, ⟨2, _⟩ => ⟨S3x6x3072, .f32⟩
  | .hbm, ⟨3, _⟩ => ⟨S768x3072, .fp8e4m3⟩
  | .hbm, ⟨4, _⟩ => ⟨S3072, .f32⟩
  | .hbm, ⟨5, _⟩ => ⟨S3072x2048, .fp8e4m3⟩
  | .hbm, ⟨6, _⟩ => ⟨S2048, .f32⟩
  | .hbm, ⟨7, _⟩ => ⟨S3072x2048, .fp8e4m3⟩
  | .hbm, ⟨8, _⟩ => ⟨S2048, .f32⟩
  | .hbm, ⟨9, _⟩ => ⟨S2048x3072, .fp8e4m3⟩
  | .hbm, ⟨10, _⟩ => ⟨S3072, .f32⟩
  | .hbm, ⟨11, _⟩ => ⟨S3x6480x6x128, .f32⟩
  | .hbm, ⟨12, _⟩ => ⟨S3x6480x768, .f32⟩
  | .hbm, ⟨13, _⟩ => ⟨S19440x768, .f32⟩
  | .hbm, ⟨14, _⟩ => ⟨S19440x3072, .bf16⟩
  | .hbm, ⟨15, _⟩ => ⟨S3x1x3072, .f32⟩
  | .hbm, ⟨16, _⟩ => ⟨S3x6480x3072, .f32⟩
  | .hbm, ⟨17, _⟩ => ⟨S19440x3072, .f32⟩
  | .hbm, ⟨18, _⟩ => ⟨S3x1x3072, .f32⟩
  | .hbm, ⟨19, _⟩ => ⟨S3x6480x3072, .f32⟩
  | .hbm, ⟨20, _⟩ => ⟨S19440x3072, .f32⟩
  | .hbm, ⟨21, _⟩ => ⟨S3x1x3072, .f32⟩
  | .hbm, ⟨22, _⟩ => ⟨S3x6480x3072, .f32⟩
  | .hbm, ⟨23, _⟩ => ⟨S19440x3072, .f32⟩
  | .hbm, ⟨24, _⟩ => ⟨S3x1x3072, .f32⟩
  | .hbm, ⟨25, _⟩ => ⟨S3x6480x3072, .f32⟩
  | .hbm, ⟨26, _⟩ => ⟨S19440x3072, .f32⟩
  | .hbm, ⟨27, _⟩ => ⟨S1x3072, .f32⟩
  | .hbm, ⟨28, _⟩ => ⟨S1x2048, .f32⟩
  | .hbm, ⟨29, _⟩ => ⟨S1x2048, .f32⟩
  | .hbm, ⟨30, _⟩ => ⟨S1x3072, .f32⟩
  | .hbm, ⟨31, _⟩ => ⟨S3x6480x768, .bf16⟩
  | .hbm, ⟨32, _⟩ => ⟨S3x6480x768, .fp8e4m3⟩
  | .hbm, ⟨33, _⟩ => ⟨S3x1x6480, .f32⟩
  | .hbm, ⟨34, _⟩ => ⟨S3x6480x3072, .fp8e4m3⟩
  | .hbm, ⟨35, _⟩ => ⟨S3x1x6480, .f32⟩
  | .hbm, ⟨36, _⟩ => ⟨S3x6480x2048, .fp8e4m3⟩
  | .hbm, ⟨37, _⟩ => ⟨S3x1x6480, .f32⟩
  | .hbm, ⟨38, _⟩ => ⟨S3x6480x3072, .bf16⟩
  | .local _ .vmem, ⟨0, _⟩ => ⟨S19440x768, .f32⟩
  | .local _ .vmem, ⟨1, _⟩ => ⟨S19440x3072, .bf16⟩
  | .local _ .vmem, ⟨2, _⟩ => ⟨S19440x3072, .f32⟩
  | .local _ .vmem, ⟨3, _⟩ => ⟨S19440x3072, .f32⟩
  | .local _ .vmem, ⟨4, _⟩ => ⟨S19440x3072, .f32⟩
  | .local _ .vmem, ⟨5, _⟩ => ⟨S19440x3072, .f32⟩
  | .local _ .vmem, ⟨6, _⟩ => ⟨S768x3072, .fp8e4m3⟩
  | .local _ .vmem, ⟨7, _⟩ => ⟨S1x3072, .f32⟩
  | .local _ .vmem, ⟨8, _⟩ => ⟨S3072x2048, .fp8e4m3⟩
  | .local _ .vmem, ⟨9, _⟩ => ⟨S1x2048, .f32⟩
  | .local _ .vmem, ⟨10, _⟩ => ⟨S3072x2048, .fp8e4m3⟩
  | .local _ .vmem, ⟨11, _⟩ => ⟨S1x2048, .f32⟩
  | .local _ .vmem, ⟨12, _⟩ => ⟨S2048x3072, .fp8e4m3⟩
  | .local _ .vmem, ⟨13, _⟩ => ⟨S1x3072, .f32⟩
  | .local _ .vmem, ⟨14, _⟩ => ⟨S3x6480x768, .bf16⟩
  | .local _ .vmem, ⟨15, _⟩ => ⟨S3x6480x768, .fp8e4m3⟩
  | .local _ .vmem, ⟨16, _⟩ => ⟨S3x1x6480, .f32⟩
  | .local _ .vmem, ⟨17, _⟩ => ⟨S3x6480x3072, .fp8e4m3⟩
  | .local _ .vmem, ⟨18, _⟩ => ⟨S3x1x6480, .f32⟩
  | .local _ .vmem, ⟨19, _⟩ => ⟨S3x6480x2048, .fp8e4m3⟩
  | .local _ .vmem, ⟨20, _⟩ => ⟨S3x1x6480, .f32⟩
  | .local _ .vmem, ⟨21, _⟩ => ⟨S3x6480x3072, .bf16⟩
  | _, _ => ⟨S3x6x6480x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_v20_2 : Ref sig .tc := ⟨.hbm, 33, rfl⟩
abbrev main_v20_3 : Ref sig .tc := ⟨.hbm, 34, rfl⟩
abbrev main_v20_4 : Ref sig .tc := ⟨.hbm, 35, rfl⟩
abbrev main_v20_5 : Ref sig .tc := ⟨.hbm, 36, rfl⟩
abbrev main_v20_6 : Ref sig .tc := ⟨.hbm, 37, rfl⟩
abbrev main_v20_7 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F]

abbrev grid0 : Pipeline.Grid := .none

abbrev stage0_0 : Fin 1 → Memref sig .tc .vmem S19440x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S19440x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S19440x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S19440x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S19440x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S19440x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S768x3072 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3072x2048 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3072x2048 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2048x3072 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x3072 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S3x6480x768 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S3x6480x768 .fp8e4m3 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S3x1x6480 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S3x6480x3072 .fp8e4m3 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S3x1x6480 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S3x6480x2048 .fp8e4m3 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S3x1x6480 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S3x6480x3072 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
-- ==== Proof.KernelBase.lean ====
/-
  Names for the buffers of the body of the MLP call.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's algebra: the pipeline's beside the transfers' counters. -/
local notation "𝕄" => MT nD τ sig Unit (Elt F) ℕ (Pipeline.UD sig nD τ) ℕ

/-- A memref's buffer on a core, and that buffer held whole. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

end Cert.Kernel.Hand

end
-- ==== Proof.KernelFull.lean ====
/-
  The body of one grid point of the MLP call, run once at symbolic operands part by part: what it leaves in
  the five result windows, as terms over the input windows' contents, and in the three arrays of codes it
  copies out itself. Two runs: a full tile of 384 rows, and the last tile, whose copies move 336 rows.
-/
module

public import proofs.«01_k».proof.Proof.KernelBase
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's algebra: the pipeline's beside the transfers' counters. -/
local notation "𝕄" => MT nD τ sig Unit (Elt F) ℕ (Pipeline.UD sig nD τ) ℕ

/-- A full tile: from the buffers held whole and the six counters at zero, the body runs to its return and hands back the inputs as they were, the results and the copied arrays at the contents found, the scratch at something, the counters at zero. -/
noncomputable def runFull (c : Dev nD) (i : grid0.Coords)
    (hc1 : k0_cond1 i = 1#1)
    (hc2 : ¬ k0_cond2 i = 1#1)
    (hc3 : k0_cond3 i = 1#1)
    (hc4 : ¬ k0_cond4 i = 1#1)
    (hc5 : k0_cond5 i = 1#1)
    (hc6 : ¬ k0_cond6 i = 1#1)
    (hc7 : k0_cond7 i = 1#1)
    (hc8 : ¬ k0_cond8 i = 1#1)
    (hc9 : k0_cond9 i = 1#1)
    (hc10 : ¬ k0_cond10 i = 1#1)
    (hc11 : k0_cond11 i = 1#1)
    (hc12 : ¬ k0_cond12 i = 1#1)
    (M2 : Memref sig .tc .vmem S1x6x384x128 .f32) (h2 : M2.IsWhole)
    (M3 : Memref sig .tc .vmem S1x384x3072 .bf16) (h3 : M3.IsWhole)
    (M4 : Memref sig .tc .vmem S1x6x3072 .f32) (h4 : M4.IsWhole)
    (M5 : Memref sig .tc .vmem S768x3072 .fp8e4m3) (h5 : M5.IsWhole)
    (M6 : Memref sig .tc .vmem S1x3072 .f32) (h6 : M6.IsWhole)
    (M7 : Memref sig .tc .vmem S3072x2048 .fp8e4m3) (h7 : M7.IsWhole)
    (M8 : Memref sig .tc .vmem S1x2048 .f32) (h8 : M8.IsWhole)
    (M9 : Memref sig .tc .vmem S3072x2048 .fp8e4m3) (h9 : M9.IsWhole)
    (M10 : Memref sig .tc .vmem S1x2048 .f32) (h10 : M10.IsWhole)
    (M11 : Memref sig .tc .vmem S2048x3072 .fp8e4m3) (h11 : M11.IsWhole)
    (M12 : Memref sig .tc .vmem S1x3072 .f32) (h12 : M12.IsWhole)
    (M13 : Memref sig .tc .vmem S1x384x768 .bf16) (h13 : M13.IsWhole)
    (M15 : Memref sig .tc .vmem S1x1x384 .f32) (h15 : M15.IsWhole)
    (M17 : Memref sig .tc .vmem S1x1x384 .f32) (h17 : M17.IsWhole)
    (M19 : Memref sig .tc .vmem S1x1x384 .f32) (h19 : M19.IsWhole)
    (M20 : Memref sig .tc .vmem S1x384x3072 .bf16) (h20 : M20.IsWhole)
    (f2 : Bf (F := F) c M2)
    (f3 : Bf (F := F) c M3)
    (f4 : Bf (F := F) c M4)
    (f5 : Bf (F := F) c M5)
    (f6 : Bf (F := F) c M6)
    (f7 : Bf (F := F) c M7)
    (f8 : Bf (F := F) c M8)
    (f9 : Bf (F := F) c M9)
    (f10 : Bf (F := F) c M10)
    (f11 : Bf (F := F) c M11)
    (f12 : Bf (F := F) c M12)
    (f14 : Bf (F := F) c (Memref.whole main_v4_1))
    (f16 : Bf (F := F) c (Memref.whole main_v4_3))
    (f18 : Bf (F := F) c (Memref.whole main_v4_5))
    (f21 : Bf (F := F) c (Memref.whole cc0_scratch0))
    (f22 : Bf (F := F) c (Memref.whole cc0_scratch1))
    (f23 : Bf (F := F) c (Memref.whole cc0_scratch2))
    : { W : Bf (F := F) c M13 × Bf (F := F) c M15 × Bf (F := F) c M17 × Bf (F := F) c M19 × Bf (F := F) c M20 × Bf (F := F) c (Memref.whole main_v4_1) × Bf (F := F) c (Memref.whole main_v4_3) × Bf (F := F) c (Memref.whole main_v4_5) //
      ∀ (f13 : Bf (F := F) c M13) (f15 : Bf (F := F) c M15) (f17 : Bf (F := F) c M17) (f19 : Bf (F := F) c M19) (f20 : Bf (F := F) c M20)
        (f24 : Bf (F := F) c (Memref.whole cc0_scratch3)) (f25 : Bf (F := F) c (Memref.whole cc0_scratch4)) (f26 : Bf (F := F) c (Memref.whole cc0_scratch5)) (f27 : Bf (F := F) c (Memref.whole cc0_scratch6)) (f28 : Bf (F := F) c (Memref.whole cc0_scratch7)) (f29 : Bf (F := F) c (Memref.whole cc0_scratch8))
        (Ws : Waits sig Unit) (Q : PUnit → sProp 𝕄),
        iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M15 f15 ∗ pt c M17 f17 ∗ pt c M19 f19 ∗ pt c M20 f20 ∗ pt c (Memref.whole main_v4_1) f14 ∗ pt c (Memref.whole main_v4_3) f16 ∗ pt c (Memref.whole main_v4_5) f18 ∗ pt c (Memref.whole cc0_scratch0) f21 ∗ pt c (Memref.whole cc0_scratch1) f22 ∗ pt c (Memref.whole cc0_scratch2) f23 ∗ pt c (Memref.whole cc0_scratch3) f24 ∗ pt c (Memref.whole cc0_scratch4) f25 ∗ pt c (Memref.whole cc0_scratch5) f26 ∗ pt c (Memref.whole cc0_scratch6) f27 ∗ pt c (Memref.whole cc0_scratch7) f28 ∗ pt c (Memref.whole cc0_scratch8) f29 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ owes (c : Thread nD τ) 0 Ws
          ∗ (iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 (W.1) ∗ pt c M15 (W.2.1) ∗ pt c M17 (W.2.2.1) ∗ pt c M19 (W.2.2.2.1) ∗ pt c M20 (W.2.2.2.2.1) ∗ pt c (Memref.whole main_v4_1) (W.2.2.2.2.2.1) ∗ pt c (Memref.whole main_v4_3) (W.2.2.2.2.2.2.1) ∗ pt c (Memref.whole main_v4_5) (W.2.2.2.2.2.2.2) ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f) ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ (∃ W', owes (c : Thread nD τ) 0 W')) -∗ Q ⟨⟩))
        ⊢ wp frame (wpE (defs₀ (F := F)) Variants.none c none) Set.univ
            (cc0_mlp_vid i M2 h2 M3 h3 M4 h4 M5 h5 M6 h6 M7 h7 M8 h8 M9 h9 M10 h10 M11 h11 M12 h12 M13 h13 (Memref.whole main_v4_1) (Memref.isWhole_whole _) M15 h15 (Memref.whole main_v4_3) (Memref.isWhole_whole _) M17 h17 (Memref.whole main_v4_5) (Memref.isWhole_whole _) M19 h19 M20 h20 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9) Q } := by
  refine ⟨⟨?_, ?_, ?_, ?_, ?_, ?_, ?_, ?_⟩, fun f13 f15 f17 f19 f20 f24 f25 f26 f27 f28 f29 Ws Q => ?run⟩
  case run =>
    iintro ⟨H2, H3, H4, H5, H6, H7, H8, H9, H10, H11, H12, H13, H15, H17, H19, H20, H14, H16, H18, H21, H22, H23, H24, H25, H26, H27, H28, H29, Hq0, Hq1, Hq2, Hq3, Hq4, Hq5, HW, Hk⟩
    set_option sl_exec.lendShare "H21 H22 H23" in
    sl_exec_parts!
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H15]; · iexact H15
    isplitl [H17]; · iexact H17
    isplitl [H19]; · iexact H19
    isplitl [H20]; · iexact H20
    isplitl [H14]; · iexact H14
    isplitl [H16]; · iexact H16
    isplitl [H18]; · iexact H18
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    iexists _; iexact HW

end Cert.Kernel.Hand

end
-- ==== Proof.KernelTail.lean ====
/-
  The body of one grid point of the MLP call, run once at symbolic operands part by part: what it leaves in
  the five result windows, as terms over the input windows' contents, and in the three arrays of codes it
  copies out itself. Two runs: a full tile of 384 rows, and the last tile, whose copies move 336 rows.
-/
module

public import proofs.«01_k».proof.Proof.KernelBase
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's algebra: the pipeline's beside the transfers' counters. -/
local notation "𝕄" => MT nD τ sig Unit (Elt F) ℕ (Pipeline.UD sig nD τ) ℕ

/-- The last tile of a batch: the same, the copies moving 336 rows. -/
noncomputable def runTail (c : Dev nD) (i : grid0.Coords)
    (hc1 : ¬ k0_cond1 i = 1#1)
    (hc2 : k0_cond2 i = 1#1)
    (hc3 : ¬ k0_cond3 i = 1#1)
    (hc4 : k0_cond4 i = 1#1)
    (hc5 : ¬ k0_cond5 i = 1#1)
    (hc6 : k0_cond6 i = 1#1)
    (hc7 : ¬ k0_cond7 i = 1#1)
    (hc8 : k0_cond8 i = 1#1)
    (hc9 : ¬ k0_cond9 i = 1#1)
    (hc10 : k0_cond10 i = 1#1)
    (hc11 : ¬ k0_cond11 i = 1#1)
    (hc12 : k0_cond12 i = 1#1)
    (M2 : Memref sig .tc .vmem S1x6x384x128 .f32) (h2 : M2.IsWhole)
    (M3 : Memref sig .tc .vmem S1x384x3072 .bf16) (h3 : M3.IsWhole)
    (M4 : Memref sig .tc .vmem S1x6x3072 .f32) (h4 : M4.IsWhole)
    (M5 : Memref sig .tc .vmem S768x3072 .fp8e4m3) (h5 : M5.IsWhole)
    (M6 : Memref sig .tc .vmem S1x3072 .f32) (h6 : M6.IsWhole)
    (M7 : Memref sig .tc .vmem S3072x2048 .fp8e4m3) (h7 : M7.IsWhole)
    (M8 : Memref sig .tc .vmem S1x2048 .f32) (h8 : M8.IsWhole)
    (M9 : Memref sig .tc .vmem S3072x2048 .fp8e4m3) (h9 : M9.IsWhole)
    (M10 : Memref sig .tc .vmem S1x2048 .f32) (h10 : M10.IsWhole)
    (M11 : Memref sig .tc .vmem S2048x3072 .fp8e4m3) (h11 : M11.IsWhole)
    (M12 : Memref sig .tc .vmem S1x3072 .f32) (h12 : M12.IsWhole)
    (M13 : Memref sig .tc .vmem S1x384x768 .bf16) (h13 : M13.IsWhole)
    (M15 : Memref sig .tc .vmem S1x1x384 .f32) (h15 : M15.IsWhole)
    (M17 : Memref sig .tc .vmem S1x1x384 .f32) (h17 : M17.IsWhole)
    (M19 : Memref sig .tc .vmem S1x1x384 .f32) (h19 : M19.IsWhole)
    (M20 : Memref sig .tc .vmem S1x384x3072 .bf16) (h20 : M20.IsWhole)
    (f2 : Bf (F := F) c M2)
    (f3 : Bf (F := F) c M3)
    (f4 : Bf (F := F) c M4)
    (f5 : Bf (F := F) c M5)
    (f6 : Bf (F := F) c M6)
    (f7 : Bf (F := F) c M7)
    (f8 : Bf (F := F) c M8)
    (f9 : Bf (F := F) c M9)
    (f10 : Bf (F := F) c M10)
    (f11 : Bf (F := F) c M11)
    (f12 : Bf (F := F) c M12)
    (f14 : Bf (F := F) c (Memref.whole main_v4_1))
    (f16 : Bf (F := F) c (Memref.whole main_v4_3))
    (f18 : Bf (F := F) c (Memref.whole main_v4_5))
    (f21 : Bf (F := F) c (Memref.whole cc0_scratch0))
    (f22 : Bf (F := F) c (Memref.whole cc0_scratch1))
    (f23 : Bf (F := F) c (Memref.whole cc0_scratch2))
    : { W : Bf (F := F) c M13 × Bf (F := F) c M15 × Bf (F := F) c M17 × Bf (F := F) c M19 × Bf (F := F) c M20 × Bf (F := F) c (Memref.whole main_v4_1) × Bf (F := F) c (Memref.whole main_v4_3) × Bf (F := F) c (Memref.whole main_v4_5) //
      ∀ (f13 : Bf (F := F) c M13) (f15 : Bf (F := F) c M15) (f17 : Bf (F := F) c M17) (f19 : Bf (F := F) c M19) (f20 : Bf (F := F) c M20)
        (f24 : Bf (F := F) c (Memref.whole cc0_scratch3)) (f25 : Bf (F := F) c (Memref.whole cc0_scratch4)) (f26 : Bf (F := F) c (Memref.whole cc0_scratch5)) (f27 : Bf (F := F) c (Memref.whole cc0_scratch6)) (f28 : Bf (F := F) c (Memref.whole cc0_scratch7)) (f29 : Bf (F := F) c (Memref.whole cc0_scratch8))
        (Ws : Waits sig Unit) (Q : PUnit → sProp 𝕄),
        iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M15 f15 ∗ pt c M17 f17 ∗ pt c M19 f19 ∗ pt c M20 f20 ∗ pt c (Memref.whole main_v4_1) f14 ∗ pt c (Memref.whole main_v4_3) f16 ∗ pt c (Memref.whole main_v4_5) f18 ∗ pt c (Memref.whole cc0_scratch0) f21 ∗ pt c (Memref.whole cc0_scratch1) f22 ∗ pt c (Memref.whole cc0_scratch2) f23 ∗ pt c (Memref.whole cc0_scratch3) f24 ∗ pt c (Memref.whole cc0_scratch4) f25 ∗ pt c (Memref.whole cc0_scratch5) f26 ∗ pt c (Memref.whole cc0_scratch6) f27 ∗ pt c (Memref.whole cc0_scratch7) f28 ∗ pt c (Memref.whole cc0_scratch8) f29 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ owes (c : Thread nD τ) 0 Ws
          ∗ (iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 (W.1) ∗ pt c M15 (W.2.1) ∗ pt c M17 (W.2.2.1) ∗ pt c M19 (W.2.2.2.1) ∗ pt c M20 (W.2.2.2.2.1) ∗ pt c (Memref.whole main_v4_1) (W.2.2.2.2.2.1) ∗ pt c (Memref.whole main_v4_3) (W.2.2.2.2.2.2.1) ∗ pt c (Memref.whole main_v4_5) (W.2.2.2.2.2.2.2) ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f) ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ (∃ W', owes (c : Thread nD τ) 0 W')) -∗ Q ⟨⟩))
        ⊢ wp frame (wpE (defs₀ (F := F)) Variants.none c none) Set.univ
            (cc0_mlp_vid i M2 h2 M3 h3 M4 h4 M5 h5 M6 h6 M7 h7 M8 h8 M9 h9 M10 h10 M11 h11 M12 h12 M13 h13 (Memref.whole main_v4_1) (Memref.isWhole_whole _) M15 h15 (Memref.whole main_v4_3) (Memref.isWhole_whole _) M17 h17 (Memref.whole main_v4_5) (Memref.isWhole_whole _) M19 h19 M20 h20 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9) Q } := by
  refine ⟨⟨?_, ?_, ?_, ?_, ?_, ?_, ?_, ?_⟩, fun f13 f15 f17 f19 f20 f24 f25 f26 f27 f28 f29 Ws Q => ?run⟩
  case run =>
    iintro ⟨H2, H3, H4, H5, H6, H7, H8, H9, H10, H11, H12, H13, H15, H17, H19, H20, H14, H16, H18, H21, H22, H23, H24, H25, H26, H27, H28, H29, Hq0, Hq1, Hq2, Hq3, Hq4, Hq5, HW, Hk⟩
    set_option sl_exec.lendShare "H21 H22 H23" in
    sl_exec_parts!
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H15]; · iexact H15
    isplitl [H17]; · iexact H17
    isplitl [H19]; · iexact H19
    isplitl [H20]; · iexact H20
    isplitl [H14]; · iexact H14
    isplitl [H16]; · iexact H16
    isplitl [H18]; · iexact H18
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    iexists _; iexact HW

end Cert.Kernel.Hand

end
-- ==== Proof.KernelFrame.lean ====
/-
  The frame of the MLP call: it terminates, nothing faults, its eleven argument arrays end unchanged, every semaphore
  counter ends at zero. Every staging window is forgotten; the three arrays of codes which the body copies out itself are
  owned at contents nothing names.
-/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import proofs.«01_k».proof.Proof.KernelFull
public import proofs.«01_k».proof.Proof.KernelTail
public import Idealize.ShloMosaic.Lib.Pipeline.FrameBody
public import Idealize.ShloMosaic.Lib.Tactic

@[expose] public section

set_option maxHeartbeats 2000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The proof's algebra: the pipeline's beside the transfers' counters. -/
local notation "𝕄" => MT nD τ sig Unit (Elt F) ℕ (Pipeline.UD sig nD τ) ℕ

variable (m : (ℓ : Loc nD τ sig) → Buf (Elt F) ℓ) (ρ : Dev nD → PrngReg)

/-! ## The two kinds of tile -/

/-- The twelve branch conditions at a full tile. -/
theorem conds_full (i : grid0.Coords) (h : (i 1).val < 16) : k0_cond1 i = 1#1 ∧ ¬ k0_cond2 i = 1#1 ∧ k0_cond3 i = 1#1 ∧ ¬ k0_cond4 i = 1#1 ∧ k0_cond5 i = 1#1 ∧ ¬ k0_cond6 i = 1#1 ∧ k0_cond7 i = 1#1 ∧ ¬ k0_cond8 i = 1#1 ∧ k0_cond9 i = 1#1 ∧ ¬ k0_cond10 i = 1#1 ∧ k0_cond11 i = 1#1 ∧ ¬ k0_cond12 i = 1#1 := by
  have key : ∀ j : Fin 17, j.val < 16 → k0_cond1 (fun a => match a with | 0 => (0 : Fin 3) | 1 => j) = 1#1 ∧ ¬ k0_cond2 (fun a => match a with | 0 => (0 : Fin 3) | 1 => j) = 1#1 ∧ k0_cond3 (fun a => match a with | 0 => (0 : Fin 3) | 1 => j) = 1#1 ∧ ¬ k0_cond4 (fun a => match a with | 0 => (0 : Fin 3) | 1 => j) = 1#1 ∧ k0_cond5 (fun a => match a with | 0 => (0 : Fin 3) | 1 => j) = 1#1 ∧ ¬ k0_cond6 (fun a => match a with | 0 => (0 : Fin 3) | 1 => j) = 1#1 ∧ k0_cond7 (fun a => match a with | 0 => (0 : Fin 3) | 1 => j) = 1#1 ∧ ¬ k0_cond8 (fun a => match a with | 0 => (0 : Fin 3) | 1 => j) = 1#1 ∧ k0_cond9 (fun a => match a with | 0 => (0 : Fin 3) | 1 => j) = 1#1 ∧ ¬ k0_cond10 (fun a => match a with | 0 => (0 : Fin 3) | 1 => j) = 1#1 ∧ k0_cond11 (fun a => match a with | 0 => (0 : Fin 3) | 1 => j) = 1#1 ∧ ¬ k0_cond12 (fun a => match a with | 0 => (0 : Fin 3) | 1 => j) = 1#1 := by decide
  exact key (i 1) h

/-- The twelve branch conditions at a last tile. -/
theorem conds_tail (i : grid0.Coords) (h : ¬ (i 1).val < 16) : ¬ k0_cond1 i = 1#1 ∧ k0_cond2 i = 1#1 ∧ ¬ k0_cond3 i = 1#1 ∧ k0_cond4 i = 1#1 ∧ ¬ k0_cond5 i = 1#1 ∧ k0_cond6 i = 1#1 ∧ ¬ k0_cond7 i = 1#1 ∧ k0_cond8 i = 1#1 ∧ ¬ k0_cond9 i = 1#1 ∧ k0_cond10 i = 1#1 ∧ ¬ k0_cond11 i = 1#1 ∧ k0_cond12 i = 1#1 := by
  have key : ∀ j : Fin 17, ¬ j.val < 16 → ¬ k0_cond1 (fun a => match a with | 0 => (0 : Fin 3) | 1 => j) = 1#1 ∧ k0_cond2 (fun a => match a with | 0 => (0 : Fin 3) | 1 => j) = 1#1 ∧ ¬ k0_cond3 (fun a => match a with | 0 => (0 : Fin 3) | 1 => j) = 1#1 ∧ k0_cond4 (fun a => match a with | 0 => (0 : Fin 3) | 1 => j) = 1#1 ∧ ¬ k0_cond5 (fun a => match a with | 0 => (0 : Fin 3) | 1 => j) = 1#1 ∧ k0_cond6 (fun a => match a with | 0 => (0 : Fin 3) | 1 => j) = 1#1 ∧ ¬ k0_cond7 (fun a => match a with | 0 => (0 : Fin 3) | 1 => j) = 1#1 ∧ k0_cond8 (fun a => match a with | 0 => (0 : Fin 3) | 1 => j) = 1#1 ∧ ¬ k0_cond9 (fun a => match a with | 0 => (0 : Fin 3) | 1 => j) = 1#1 ∧ k0_cond10 (fun a => match a with | 0 => (0 : Fin 3) | 1 => j) = 1#1 ∧ ¬ k0_cond11 (fun a => match a with | 0 => (0 : Fin 3) | 1 => j) = 1#1 ∧ k0_cond12 (fun a => match a with | 0 => (0 : Fin 3) | 1 => j) = 1#1 := by decide
  exact key (i 1) h

/-! ## One point, every buffer at something -/

theorem owns_any_pt (c : Dev nD) {sp : Space} {S : Shape} {e : EltTy} (M : Memref sig .tc sp S e) (h : M.IsWhole) :
    (iprop(∃ X, owns (c : Thread nD τ) M fullShare X) : sProp 𝕄) ⊢ iprop(∃ f, pt c M f) := by
  unfold owns pt
  rw [h.set_eq_univ]
  iintro ⟨%X, %f, -, H⟩
  iexists f; iexact H

theorem pt_owns_any (c : Dev nD) {sp : Space} {S : Shape} {e : EltTy} (M : Memref sig .tc sp S e) (h : M.IsWhole) (f : Bf (F := F) c M) :
    (pt c M f : sProp 𝕄) ⊢ iprop(∃ X, owns (c : Thread nD τ) M fullShare X) := by
  unfold owns pt
  rw [h.set_eq_univ]
  iintro H
  iexists _; iexists f; isplitr; · ipureintro; rfl
  iexact H

theorem run_any (c : Dev nD) (i : grid0.Coords)
    (M2 : Memref sig .tc .vmem S1x6x384x128 .f32) (h2 : M2.IsWhole)
    (M3 : Memref sig .tc .vmem S1x384x3072 .bf16) (h3 : M3.IsWhole)
    (M4 : Memref sig .tc .vmem S1x6x3072 .f32) (h4 : M4.IsWhole)
    (M5 : Memref sig .tc .vmem S768x3072 .fp8e4m3) (h5 : M5.IsWhole)
    (M6 : Memref sig .tc .vmem S1x3072 .f32) (h6 : M6.IsWhole)
    (M7 : Memref sig .tc .vmem S3072x2048 .fp8e4m3) (h7 : M7.IsWhole)
    (M8 : Memref sig .tc .vmem S1x2048 .f32) (h8 : M8.IsWhole)
    (M9 : Memref sig .tc .vmem S3072x2048 .fp8e4m3) (h9 : M9.IsWhole)
    (M10 : Memref sig .tc .vmem S1x2048 .f32) (h10 : M10.IsWhole)
    (M11 : Memref sig .tc .vmem S2048x3072 .fp8e4m3) (h11 : M11.IsWhole)
    (M12 : Memref sig .tc .vmem S1x3072 .f32) (h12 : M12.IsWhole)
    (M13 : Memref sig .tc .vmem S1x384x768 .bf16) (h13 : M13.IsWhole)
    (M15 : Memref sig .tc .vmem S1x1x384 .f32) (h15 : M15.IsWhole)
    (M17 : Memref sig .tc .vmem S1x1x384 .f32) (h17 : M17.IsWhole)
    (M19 : Memref sig .tc .vmem S1x1x384 .f32) (h19 : M19.IsWhole)
    (M20 : Memref sig .tc .vmem S1x384x3072 .bf16) (h20 : M20.IsWhole)
    (Ws : Waits sig Unit) (K : PUnit → sProp 𝕄) :
    iprop((∃ X, owns (c : Thread nD τ) M2 fullShare X) ∗ (∃ X, owns (c : Thread nD τ) M3 fullShare X) ∗ (∃ X, owns (c : Thread nD τ) M4 fullShare X) ∗ (∃ X, owns (c : Thread nD τ) M5 fullShare X) ∗ (∃ X, owns (c : Thread nD τ) M6 fullShare X) ∗ (∃ X, owns (c : Thread nD τ) M7 fullShare X) ∗ (∃ X, owns (c : Thread nD τ) M8 fullShare X) ∗ (∃ X, owns (c : Thread nD τ) M9 fullShare X) ∗ (∃ X, owns (c : Thread nD τ) M10 fullShare X) ∗ (∃ X, owns (c : Thread nD τ) M11 fullShare X) ∗ (∃ X, owns (c : Thread nD τ) M12 fullShare X) ∗ (∃ X, owns (c : Thread nD τ) M13 fullShare X) ∗ (∃ X, owns (c : Thread nD τ) M15 fullShare X) ∗ (∃ X, owns (c : Thread nD τ) M17 fullShare X) ∗ (∃ X, owns (c : Thread nD τ) M19 fullShare X) ∗ (∃ X, owns (c : Thread nD τ) M20 fullShare X) ∗ (∃ f, pt c (Memref.whole main_v4_1) f) ∗ (∃ f, pt c (Memref.whole main_v4_3) f) ∗ (∃ f, pt c (Memref.whole main_v4_5) f) ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f) ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ owes (c : Thread nD τ) 0 Ws
      ∗ (iprop((∃ X, owns (c : Thread nD τ) M2 fullShare X) ∗ (∃ X, owns (c : Thread nD τ) M3 fullShare X) ∗ (∃ X, owns (c : Thread nD τ) M4 fullShare X) ∗ (∃ X, owns (c : Thread nD τ) M5 fullShare X) ∗ (∃ X, owns (c : Thread nD τ) M6 fullShare X) ∗ (∃ X, owns (c : Thread nD τ) M7 fullShare X) ∗ (∃ X, owns (c : Thread nD τ) M8 fullShare X) ∗ (∃ X, owns (c : Thread nD τ) M9 fullShare X) ∗ (∃ X, owns (c : Thread nD τ) M10 fullShare X) ∗ (∃ X, owns (c : Thread nD τ) M11 fullShare X) ∗ (∃ X, owns (c : Thread nD τ) M12 fullShare X) ∗ (∃ X, owns (c : Thread nD τ) M13 fullShare X) ∗ (∃ X, owns (c : Thread nD τ) M15 fullShare X) ∗ (∃ X, owns (c : Thread nD τ) M17 fullShare X) ∗ (∃ X, owns (c : Thread nD τ) M19 fullShare X) ∗ (∃ X, owns (c : Thread nD τ) M20 fullShare X) ∗ (∃ f, pt c (Memref.whole main_v4_1) f) ∗ (∃ f, pt c (Memref.whole main_v4_3) f) ∗ (∃ f, pt c (Memref.whole main_v4_5) f) ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f) ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ (∃ W', owes (c : Thread nD τ) 0 W')) -∗ K ⟨⟩))
    ⊢ wp frame (wpE (defs₀ (F := F)) Variants.none c none) Set.univ
        (cc0_mlp_vid i M2 h2 M3 h3 M4 h4 M5 h5 M6 h6 M7 h7 M8 h8 M9 h9 M10 h10 M11 h11 M12 h12 M13 h13 (Memref.whole main_v4_1) (Memref.isWhole_whole _) M15 h15 (Memref.whole main_v4_3) (Memref.isWhole_whole _) M17 h17 (Memref.whole main_v4_5) (Memref.isWhole_whole _) M19 h19 M20 h20 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9) K := by
  have hpost : ∀ (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f15 : Bf (F := F) c M15) (f17 : Bf (F := F) c M17) (f19 : Bf (F := F) c M19) (f20 : Bf (F := F) c M20) (f14 : Bf (F := F) c (Memref.whole main_v4_1)) (f16 : Bf (F := F) c (Memref.whole main_v4_3)) (f18 : Bf (F := F) c (Memref.whole main_v4_5)),
      (iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M15 f15 ∗ pt c M17 f17 ∗ pt c M19 f19 ∗ pt c M20 f20 ∗ pt c (Memref.whole main_v4_1) f14 ∗ pt c (Memref.whole main_v4_3) f16 ∗ pt c (Memref.whole main_v4_5) f18 ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f) ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ (∃ W', owes (c : Thread nD τ) 0 W')) : sProp 𝕄) ⊢ iprop((∃ X, owns (c : Thread nD τ) M2 fullShare X) ∗ (∃ X, owns (c : Thread nD τ) M3 fullShare X) ∗ (∃ X, owns (c : Thread nD τ) M4 fullShare X) ∗ (∃ X, owns (c : Thread nD τ) M5 fullShare X) ∗ (∃ X, owns (c : Thread nD τ) M6 fullShare X) ∗ (∃ X, owns (c : Thread nD τ) M7 fullShare X) ∗ (∃ X, owns (c : Thread nD τ) M8 fullShare X) ∗ (∃ X, owns (c : Thread nD τ) M9 fullShare X) ∗ (∃ X, owns (c : Thread nD τ) M10 fullShare X) ∗ (∃ X, owns (c : Thread nD τ) M11 fullShare X) ∗ (∃ X, owns (c : Thread nD τ) M12 fullShare X) ∗ (∃ X, owns (c : Thread nD τ) M13 fullShare X) ∗ (∃ X, owns (c : Thread nD τ) M15 fullShare X) ∗ (∃ X, owns (c : Thread nD τ) M17 fullShare X) ∗ (∃ X, owns (c : Thread nD τ) M19 fullShare X) ∗ (∃ X, owns (c : Thread nD τ) M20 fullShare X) ∗ (∃ f, pt c (Memref.whole main_v4_1) f) ∗ (∃ f, pt c (Memref.whole main_v4_3) f) ∗ (∃ f, pt c (Memref.whole main_v4_5) f) ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f) ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ (∃ W', owes (c : Thread nD τ) 0 W')) := by
    intro f2 f3 f4 f5 f6 f7 f8 f9 f10 f11 f12 f13 f15 f17 f19 f20 f14 f16 f18
    iintro ⟨H2, H3, H4, H5, H6, H7, H8, H9, H10, H11, H12, H13, H15, H17, H19, H20, H14, H16, H18, Hr⟩
    isplitl [H2]; · iapply (pt_owns_any c M2 h2 f2); iexact H2
    isplitl [H3]; · iapply (pt_owns_any c M3 h3 f3); iexact H3
    isplitl [H4]; · iapply (pt_owns_any c M4 h4 f4); iexact H4
    isplitl [H5]; · iapply (pt_owns_any c M5 h5 f5); iexact H5
    isplitl [H6]; · iapply (pt_owns_any c M6 h6 f6); iexact H6
    isplitl [H7]; · iapply (pt_owns_any c M7 h7 f7); iexact H7
    isplitl [H8]; · iapply (pt_owns_any c M8 h8 f8); iexact H8
    isplitl [H9]; · iapply (pt_owns_any c M9 h9 f9); iexact H9
    isplitl [H10]; · iapply (pt_owns_any c M10 h10 f10); iexact H10
    isplitl [H11]; · iapply (pt_owns_any c M11 h11 f11); iexact H11
    isplitl [H12]; · iapply (pt_owns_any c M12 h12 f12); iexact H12
    isplitl [H13]; · iapply (pt_owns_any c M13 h13 f13); iexact H13
    isplitl [H15]; · iapply (pt_owns_any c M15 h15 f15); iexact H15
    isplitl [H17]; · iapply (pt_owns_any c M17 h17 f17); iexact H17
    isplitl [H19]; · iapply (pt_owns_any c M19 h19 f19); iexact H19
    isplitl [H20]; · iapply (pt_owns_any c M20 h20 f20); iexact H20
    isplitl [H14]; · iexists _; iexact H14
    isplitl [H16]; · iexists _; iexact H16
    isplitl [H18]; · iexists _; iexact H18
    iexact Hr
  iintro ⟨H2, H3, H4, H5, H6, H7, H8, H9, H10, H11, H12, H13, H15, H17, H19, H20, H14, H16, H18, H21, H22, H23, H24, H25, H26, H27, H28, H29, Hq0, Hq1, Hq2, Hq3, Hq4, Hq5, HW, Hk⟩
  ihave H2 := (owns_any_pt (F := F) c M2 h2) $$ H2
  icases H2 with ⟨%f2, H2⟩
  ihave H3 := (owns_any_pt (F := F) c M3 h3) $$ H3
  icases H3 with ⟨%f3, H3⟩
  ihave H4 := (owns_any_pt (F := F) c M4 h4) $$ H4
  icases H4 with ⟨%f4, H4⟩
  ihave H5 := (owns_any_pt (F := F) c M5 h5) $$ H5
  icases H5 with ⟨%f5, H5⟩
  ihave H6 := (owns_any_pt (F := F) c M6 h6) $$ H6
  icases H6 with ⟨%f6, H6⟩
  ihave H7 := (owns_any_pt (F := F) c M7 h7) $$ H7
  icases H7 with ⟨%f7, H7⟩
  ihave H8 := (owns_any_pt (F := F) c M8 h8) $$ H8
  icases H8 with ⟨%f8, H8⟩
  ihave H9 := (owns_any_pt (F := F) c M9 h9) $$ H9
  icases H9 with ⟨%f9, H9⟩
  ihave H10 := (owns_any_pt (F := F) c M10 h10) $$ H10
  icases H10 with ⟨%f10, H10⟩
  ihave H11 := (owns_any_pt (F := F) c M11 h11) $$ H11
  icases H11 with ⟨%f11, H11⟩
  ihave H12 := (owns_any_pt (F := F) c M12 h12) $$ H12
  icases H12 with ⟨%f12, H12⟩
  ihave H13 := (owns_any_pt (F := F) c M13 h13) $$ H13
  icases H13 with ⟨%f13, H13⟩
  ihave H15 := (owns_any_pt (F := F) c M15 h15) $$ H15
  icases H15 with ⟨%f15, H15⟩
  ihave H17 := (owns_any_pt (F := F) c M17 h17) $$ H17
  icases H17 with ⟨%f17, H17⟩
  ihave H19 := (owns_any_pt (F := F) c M19 h19) $$ H19
  icases H19 with ⟨%f19, H19⟩
  ihave H20 := (owns_any_pt (F := F) c M20 h20) $$ H20
  icases H20 with ⟨%f20, H20⟩
  icases H14 with ⟨%f14, H14⟩
  icases H16 with ⟨%f16, H16⟩
  icases H18 with ⟨%f18, H18⟩
  icases H21 with ⟨%f21, H21⟩
  icases H22 with ⟨%f22, H22⟩
  icases H23 with ⟨%f23, H23⟩
  icases H24 with ⟨%f24, H24⟩
  icases H25 with ⟨%f25, H25⟩
  icases H26 with ⟨%f26, H26⟩
  icases H27 with ⟨%f27, H27⟩
  icases H28 with ⟨%f28, H28⟩
  icases H29 with ⟨%f29, H29⟩
  by_cases h : (i 1).val < 16
  · obtain ⟨hc1, hc2, hc3, hc4, hc5, hc6, hc7, hc8, hc9, hc10, hc11, hc12⟩ := conds_full i h
    iapply ((runFull c i hc1 hc2 hc3 hc4 hc5 hc6 hc7 hc8 hc9 hc10 hc11 hc12 M2 h2 M3 h3 M4 h4 M5 h5 M6 h6 M7 h7 M8 h8 M9 h9 M10 h10 M11 h11 M12 h12 M13 h13 M15 h15 M17 h17 M19 h19 M20 h20 f2 f3 f4 f5 f6 f7 f8 f9 f10 f11 f12 f14 f16 f18 f21 f22 f23).2 f13 f15 f17 f19 f20 f24 f25 f26 f27 f28 f29 Ws _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H15]; · iexact H15
    isplitl [H17]; · iexact H17
    isplitl [H19]; · iexact H19
    isplitl [H20]; · iexact H20
    isplitl [H14]; · iexact H14
    isplitl [H16]; · iexact H16
    isplitl [H18]; · iexact H18
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [HW]; · iexact HW
    iintro Hpost; iapply Hk; iapply (hpost f2 f3 f4 f5 f6 f7 f8 f9 f10 f11 f12 _ _ _ _ _ _ _ _); iexact Hpost
  · obtain ⟨hc1, hc2, hc3, hc4, hc5, hc6, hc7, hc8, hc9, hc10, hc11, hc12⟩ := conds_tail i h
    iapply ((runTail c i hc1 hc2 hc3 hc4 hc5 hc6 hc7 hc8 hc9 hc10 hc11 hc12 M2 h2 M3 h3 M4 h4 M5 h5 M6 h6 M7 h7 M8 h8 M9 h9 M10 h10 M11 h11 M12 h12 M13 h13 M15 h15 M17 h17 M19 h19 M20 h20 f2 f3 f4 f5 f6 f7 f8 f9 f10 f11 f12 f14 f16 f18 f21 f22 f23).2 f13 f15 f17 f19 f20 f24 f25 f26 f27 f28 f29 Ws _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H15]; · iexact H15
    isplitl [H17]; · iexact H17
    isplitl [H19]; · iexact H19
    isplitl [H20]; · iexact H20
    isplitl [H14]; · iexact H14
    isplitl [H16]; · iexact H16
    isplitl [H18]; · iexact H18
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [HW]; · iexact HW
    iintro Hpost; iapply Hk; iapply (hpost f2 f3 f4 f5 f6 f7 f8 f9 f10 f11 f12 _ _ _ _ _ _ _ _); iexact Hpost

/-! ## The call -/

abbrev V (c : Dev nD) (b : Ref sig .tc) : Buf (Elt F) ((c : Thread nD τ).loc b) := Cert.Kernel.Gen.V m c b

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The arrays the body writes by its own transfers. -/
def R0 : Finset (Ref sig .tc) := {main_v4_1, main_v4_3, main_v4_5}
/-- The arrays the body's own transfers only read: none. -/
def H0 : Finset (Ref sig .tc) := ∅
theorem H0_sub : H0 ⊆ Pipeline.restRefs sig spec0 := by decide
theorem R0_sub : R0 ⊆ Pipeline.restRefs sig spec0 \ H0 := by decide

/-- The body's six transfer counters: three for the full tiles' copies, three for the last tile's. -/
abbrev osem0 : Fin 6 → SemLoc sig := fun j => (![SemLoc.dma 24, SemLoc.dma 25, SemLoc.dma 26, SemLoc.dma 27, SemLoc.dma 28, SemLoc.dma 29] : Fin 6 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0) := by
  rw [Pipeline.ownSems0_eq_of_list c osem0 [0, 1, 2, 3, 4, 5] (by decide) (by decide)]; rfl

theorem ownedPts0_eq (c : Dev nD) :
    (Pipeline.owned R0 c : sProp 𝕄)
      = iprop((∃ f, pt c (Memref.whole main_v4_1) f) ∗ (∃ f, pt c (Memref.whole main_v4_3) f) ∗ (∃ f, pt c (Memref.whole main_v4_5) f)) := by
  unfold Pipeline.owned; rw [BI.bigSep_eq_bigSepL_of_eq [main_v4_1, main_v4_3, main_v4_5] (by decide) (by decide)]; rfl

theorem PhiDR0_eq (c : Dev nD) :
    (Pipeline.ΦDR osem0 spec0 H0 R0 (V m) c : sProp 𝕄)
      = iprop(iprop((∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f))
          ∗ (∃ r, prngReg c r)
          ∗ iprop(semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0)
          ∗ iprop(emp)
          ∗ iprop((∃ f, pt c (Memref.whole main_v4_1) f) ∗ (∃ f, pt c (Memref.whole main_v4_3) f) ∗ (∃ f, pt c (Memref.whole main_v4_5) f))) := by
  rw [Pipeline.ΦDR_eq, scopedRest0_eq, ownSems00_eq, ownedPts0_eq]; rfl

/-- The proof data: the arrays as the region finds them; nothing is said of what the body leaves. -/
def dats (_ : Fin 1) (c : Dev nD) : Dat τ (Elt F) Unit ℕ (Pipeline.UD sig nD τ) ℕ cfg0 c where
  A w := V m c (Pipeline.arrRef spec0 w)
  after w t := Dat.unnamed w t
  Φ _ := Pipeline.ΦDR osem0 spec0 H0 R0 (V m) c
  q _ := fullShare
  owed _ := 0

theorem A_eq (c : Dev nD) (w : Fin cfg0.W) : (dats m 0 c).A w = V m c (Pipeline.arrRef spec0 w) := by
  dsimp only [dats]

theorem sound_body (c : Dev nD) (t : Fin cfg0.N) :
    iprop((dats m 0 c).Φ t.castSucc ∗ (dats m 0 c).owesAt () t.castSucc
      ∗ (∃ X, owns (c : Thread nD τ) (st0_0 t) fullShare X) ∗ (∃ X, owns (c : Thread nD τ) (st0_1 t) fullShare X) ∗ (∃ X, owns (c : Thread nD τ) (st0_2 t) fullShare X) ∗ (∃ X, owns (c : Thread nD τ) (st0_3 t) fullShare X) ∗ (∃ X, owns (c : Thread nD τ) (st0_4 t) fullShare X) ∗ (∃ X, owns (c : Thread nD τ) (st0_5 t) fullShare X) ∗ (∃ X, owns (c : Thread nD τ) (st0_6 t) fullShare X) ∗ (∃ X, owns (c : Thread nD τ) (st0_7 t) fullShare X) ∗ (∃ X, owns (c : Thread nD τ) (st0_8 t) fullShare X) ∗ (∃ X, owns (c : Thread nD τ) (st0_9 t) fullShare X) ∗ (∃ X, owns (c : Thread nD τ) (st0_10 t) fullShare X) ∗ (∃ X, owns (c : Thread nD τ) (st0_11 t) fullShare X) ∗ (∃ X, owns (c : Thread nD τ) (st0_12 t) fullShare X) ∗ (∃ X, owns (c : Thread nD τ) (st0_13 t) fullShare X) ∗ (∃ X, owns (c : Thread nD τ) (st0_14 t) fullShare X) ∗ (∃ X, owns (c : Thread nD τ) (st0_15 t) fullShare X))
    ⊢ wp frame (wpE (defs₀ (F := F)) Variants.none c none) Set.univ (bodyAt0 t) (fun _ =>
      iprop((dats m 0 c).Φ t.succ ∗ (dats m 0 c).owesAt () t.succ
      ∗ (∃ X, owns (c : Thread nD τ) (st0_0 t) fullShare X) ∗ (∃ X, owns (c : Thread nD τ) (st0_1 t) fullShare X) ∗ (∃ X, owns (c : Thread nD τ) (st0_2 t) fullShare X) ∗ (∃ X, owns (c : Thread nD τ) (st0_3 t) fullShare X) ∗ (∃ X, owns (c : Thread nD τ) (st0_4 t) fullShare X) ∗ (∃ X, owns (c : Thread nD τ) (st0_5 t) fullShare X) ∗ (∃ X, owns (c : Thread nD τ) (st0_6 t) fullShare X) ∗ (∃ X, owns (c : Thread nD τ) (st0_7 t) fullShare X) ∗ (∃ X, owns (c : Thread nD τ) (st0_8 t) fullShare X) ∗ (∃ X, owns (c : Thread nD τ) (st0_9 t) fullShare X) ∗ (∃ X, owns (c : Thread nD τ) (st0_10 t) fullShare X) ∗ (∃ X, owns (c : Thread nD τ) (st0_11 t) fullShare X) ∗ (∃ X, owns (c : Thread nD τ) (st0_12 t) fullShare X) ∗ (∃ X, owns (c : Thread nD τ) (st0_13 t) fullShare X) ∗ (∃ X, owns (c : Thread nD τ) (st0_14 t) fullShare X) ∗ (∃ X, owns (c : Thread nD τ) (st0_15 t) fullShare X))) := by
  rw [show (dats m 0 c).Φ t.succ = Pipeline.ΦDR osem0 spec0 H0 R0 (V m) c from rfl,
    show (dats m 0 c).Φ t.castSucc = Pipeline.ΦDR osem0 spec0 H0 R0 (V m) c from rfl, PhiDR0_eq]
  unfold Dat.owesAt Pipeline.owesWithin
  rw [show (dats m 0 c).owed t.castSucc = 0 from rfl, show (dats m 0 c).owed t.succ = 0 from rfl]
  iintro ⟨⟨⟨H21, H22, H23, H24, H25, H26, H27, H28, H29⟩, Hg, ⟨Hq0, Hq1, Hq2, Hq3, Hq4, Hq5⟩, He, ⟨H14, H16, H18⟩⟩, ⟨%Ws, -, HW⟩, H2, H3, H4, H5, H6, H7, H8, H9, H10, H11, H12, H13, H15, H17, H19, H20⟩
  iapply (run_any (F := F) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) _ (hstage0_14 ((cfg0.slots t 14).cast nbuf0_14)) _ (hstage0_15 ((cfg0.slots t 15).cast nbuf0_15)) Ws _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H15]; · iexact H15
  isplitl [H17]; · iexact H17
  isplitl [H19]; · iexact H19
  isplitl [H20]; · iexact H20
  isplitl [H14]; · iexact H14
  isplitl [H16]; · iexact H16
  isplitl [H18]; · iexact H18
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [HW]; · iexact HW
  iintro ⟨H2, H3, H4, H5, H6, H7, H8, H9, H10, H11, H12, H13, H15, H17, H19, H20, H14, H16, H18, H21, H22, H23, H24, H25, H26, H27, H28, H29, Hq0, Hq1, Hq2, Hq3, Hq4, Hq5, ⟨%W', HW'⟩⟩
  isplitl [H21 H22 H23 H24 H25 H26 H27 H28 H29 H14 H16 H18 Hg He Hq0 Hq1 Hq2 Hq3 Hq4 Hq5]
  · isplitl [H21 H22 H23 H24 H25 H26 H27 H28 H29]
    · isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      iexact H29
    isplitl [Hg]; · iexact Hg
    isplitl [Hq0 Hq1 Hq2 Hq3 Hq4 Hq5]
    · isplitl [Hq0]; · iexact Hq0
      isplitl [Hq1]; · iexact Hq1
      isplitl [Hq2]; · iexact Hq2
      isplitl [Hq3]; · iexact Hq3
      isplitl [Hq4]; · iexact Hq4
      iexact Hq5
    isplitl [He]; · iexact He
    isplitl [H14]; · iexact H14
    isplitl [H16]; · iexact H16
    iexact H18
  isplitl [HW']
  · iexists W'; isplitr; · ipureintro; exact fun _ _ => Or.inl trivial
    iexact HW'
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H15]; · iexact H15
  isplitl [H17]; · iexact H17
  isplitl [H19]; · iexact H19
  iexact H20

theorem defs₀_row (t : Fin cfg0.N) :
    defs₀ (F := F) .tc cfg0.body (cfg0.bodyArgs t (cfg0.slots t)) = bodyAt0 t := by
  unfold defs₀; rw [Defs.onTc_tc]

/-- Every window is forgotten. -/
abbrev fgt : Fin cfg0.W → Bool := fun _ => true

theorem body_obligation (c : Dev nD) : BodyObligation (dats (F := F) m 0 c) (defs₀ (F := F)) Variants.none () Set.univ fgt := fun t => by
  simp only [bigSep_W0]
  rw [defs₀_row]
  exact triple_restated (sound_body m c t) rfl .rfl fun _ => .rfl

set_option backward.isDefEq.respectTransparency.types false in
theorem run_main : θ_run defs (onTc (τ := τ) (main (F := F))) (s₀ m ρ) (fun r =>
    Pipeline.RDat.FramePostR cfg0 (fun c => (dats m 0 c).toRForget fgt) R0 (V m) r ∧ r.2.sem = fun _ => 0) :=
  Pipeline.θ_run_frame_dmaR_forget (Q' := _) cfgs (dats m) (0 : Fin 1) launch0 osem0 defs₀ Variants.none fgt ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => ⟨(h.1.arr_in c 0 rfl).trans ((A_eq m c 0).trans (V_main_arg0 m c)),
      (h.1.arr_in c 1 rfl).trans ((A_eq m c 1).trans (V_main_arg1 m c)),
      (h.1.arr_in c 2 rfl).trans ((A_eq m c 2).trans (V_main_arg2 m c)),
      (h.1.arr_in c 3 rfl).trans ((A_eq m c 3).trans (V_main_arg3 m c)),
      ((h.1 c).2 main_arg4 (Finset.mem_sdiff.mpr ⟨Pipeline.mem_restRefs_of main_arg4 (by decide) (by decide), by decide⟩)).trans (V_main_arg4 m c),
      (h.1.arr_in c 5 rfl).trans ((A_eq m c 5).trans (V_main_arg5 m c)),
      ((h.1 c).2 main_arg6 (Finset.mem_sdiff.mpr ⟨Pipeline.mem_restRefs_of main_arg6 (by decide) (by decide), by decide⟩)).trans (V_main_arg6 m c),
      (h.1.arr_in c 7 rfl).trans ((A_eq m c 7).trans (V_main_arg7 m c)),
      ((h.1 c).2 main_arg8 (Finset.mem_sdiff.mpr ⟨Pipeline.mem_restRefs_of main_arg8 (by decide) (by decide), by decide⟩)).trans (V_main_arg8 m c),
      (h.1.arr_in c 9 rfl).trans ((A_eq m c 9).trans (V_main_arg9 m c)),
      ((h.1 c).2 main_arg10 (Finset.mem_sdiff.mpr ⟨Pipeline.mem_restRefs_of main_arg10 (by decide) (by decide), by decide⟩)).trans (V_main_arg10 m c)⟩, h.2⟩) (run_main m ρ)

end Cert.Kernel.Hand

end
-- ==== Proof.KernelIdealBase.lean ====
/-
  Names for the buffers of the body of the MLP call.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's algebra: the pipeline's beside the transfers' counters. -/
local notation "𝕄" => MT nD τ sig Unit (Elt F) ℕ (Pipeline.UD sig nD τ) ℕ

/-- A memref's buffer on a core, and that buffer held whole. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

end Cert.KernelIdeal.Hand

end
-- ==== Proof.KernelIdealFull.lean ====
/-
  The body of one grid point of the MLP call, run once at symbolic operands part by part: what it leaves in
  the five result windows, as terms over the input windows' contents, and in the three arrays of codes it
  copies out itself. Two runs: a full tile of 384 rows, and the last tile, whose copies move 336 rows.
-/
module

public import proofs.«01_k».proof.Proof.KernelIdealBase
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's algebra: the pipeline's beside the transfers' counters. -/
local notation "𝕄" => MT nD τ sig Unit (Elt F) ℕ (Pipeline.UD sig nD τ) ℕ

/-- A full tile: from the buffers held whole and the six counters at zero, the body runs to its return and hands back the inputs as they were, the results and the copied arrays at the contents found, the scratch at something, the counters at zero. -/
noncomputable def runFull (c : Dev nD) (i : grid0.Coords)
    (hc1 : k0_cond1 i = 1#1)
    (hc2 : ¬ k0_cond2 i = 1#1)
    (hc3 : k0_cond3 i = 1#1)
    (hc4 : ¬ k0_cond4 i = 1#1)
    (hc5 : k0_cond5 i = 1#1)
    (hc6 : ¬ k0_cond6 i = 1#1)
    (hc7 : k0_cond7 i = 1#1)
    (hc8 : ¬ k0_cond8 i = 1#1)
    (hc9 : k0_cond9 i = 1#1)
    (hc10 : ¬ k0_cond10 i = 1#1)
    (hc11 : k0_cond11 i = 1#1)
    (hc12 : ¬ k0_cond12 i = 1#1)
    (M2 : Memref sig .tc .vmem S1x6x384x128 .f32) (h2 : M2.IsWhole)
    (M3 : Memref sig .tc .vmem S1x384x3072 .bf16) (h3 : M3.IsWhole)
    (M4 : Memref sig .tc .vmem S1x6x3072 .f32) (h4 : M4.IsWhole)
    (M5 : Memref sig .tc .vmem S768x3072 .fp8e4m3) (h5 : M5.IsWhole)
    (M6 : Memref sig .tc .vmem S1x3072 .f32) (h6 : M6.IsWhole)
    (M7 : Memref sig .tc .vmem S3072x2048 .fp8e4m3) (h7 : M7.IsWhole)
    (M8 : Memref sig .tc .vmem S1x2048 .f32) (h8 : M8.IsWhole)
    (M9 : Memref sig .tc .vmem S3072x2048 .fp8e4m3) (h9 : M9.IsWhole)
    (M10 : Memref sig .tc .vmem S1x2048 .f32) (h10 : M10.IsWhole)
    (M11 : Memref sig .tc .vmem S2048x3072 .fp8e4m3) (h11 : M11.IsWhole)
    (M12 : Memref sig .tc .vmem S1x3072 .f32) (h12 : M12.IsWhole)
    (M13 : Memref sig .tc .vmem S1x384x768 .bf16) (h13 : M13.IsWhole)
    (M15 : Memref sig .tc .vmem S1x1x384 .f32) (h15 : M15.IsWhole)
    (M17 : Memref sig .tc .vmem S1x1x384 .f32) (h17 : M17.IsWhole)
    (M19 : Memref sig .tc .vmem S1x1x384 .f32) (h19 : M19.IsWhole)
    (M20 : Memref sig .tc .vmem S1x384x3072 .bf16) (h20 : M20.IsWhole)
    (f2 : Bf (F := F) c M2)
    (f3 : Bf (F := F) c M3)
    (f4 : Bf (F := F) c M4)
    (f5 : Bf (F := F) c M5)
    (f6 : Bf (F := F) c M6)
    (f7 : Bf (F := F) c M7)
    (f8 : Bf (F := F) c M8)
    (f9 : Bf (F := F) c M9)
    (f10 : Bf (F := F) c M10)
    (f11 : Bf (F := F) c M11)
    (f12 : Bf (F := F) c M12)
    (f14 : Bf (F := F) c (Memref.whole main_v4_1))
    (f16 : Bf (F := F) c (Memref.whole main_v4_3))
    (f18 : Bf (F := F) c (Memref.whole main_v4_5))
    (f21 : Bf (F := F) c (Memref.whole cc0_scratch0))
    (f22 : Bf (F := F) c (Memref.whole cc0_scratch1))
    (f23 : Bf (F := F) c (Memref.whole cc0_scratch2))
    : { W : Bf (F := F) c M13 × Bf (F := F) c M15 × Bf (F := F) c M17 × Bf (F := F) c M19 × Bf (F := F) c M20 × Bf (F := F) c (Memref.whole main_v4_1) × Bf (F := F) c (Memref.whole main_v4_3) × Bf (F := F) c (Memref.whole main_v4_5) //
      ∀ (f13 : Bf (F := F) c M13) (f15 : Bf (F := F) c M15) (f17 : Bf (F := F) c M17) (f19 : Bf (F := F) c M19) (f20 : Bf (F := F) c M20)
        (f24 : Bf (F := F) c (Memref.whole cc0_scratch3)) (f25 : Bf (F := F) c (Memref.whole cc0_scratch4)) (f26 : Bf (F := F) c (Memref.whole cc0_scratch5)) (f27 : Bf (F := F) c (Memref.whole cc0_scratch6)) (f28 : Bf (F := F) c (Memref.whole cc0_scratch7)) (f29 : Bf (F := F) c (Memref.whole cc0_scratch8))
        (Ws : Waits sig Unit) (Q : PUnit → sProp 𝕄),
        iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M15 f15 ∗ pt c M17 f17 ∗ pt c M19 f19 ∗ pt c M20 f20 ∗ pt c (Memref.whole main_v4_1) f14 ∗ pt c (Memref.whole main_v4_3) f16 ∗ pt c (Memref.whole main_v4_5) f18 ∗ pt c (Memref.whole cc0_scratch0) f21 ∗ pt c (Memref.whole cc0_scratch1) f22 ∗ pt c (Memref.whole cc0_scratch2) f23 ∗ pt c (Memref.whole cc0_scratch3) f24 ∗ pt c (Memref.whole cc0_scratch4) f25 ∗ pt c (Memref.whole cc0_scratch5) f26 ∗ pt c (Memref.whole cc0_scratch6) f27 ∗ pt c (Memref.whole cc0_scratch7) f28 ∗ pt c (Memref.whole cc0_scratch8) f29 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ owes (c : Thread nD τ) 0 Ws
          ∗ (iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 (W.1) ∗ pt c M15 (W.2.1) ∗ pt c M17 (W.2.2.1) ∗ pt c M19 (W.2.2.2.1) ∗ pt c M20 (W.2.2.2.2.1) ∗ pt c (Memref.whole main_v4_1) (W.2.2.2.2.2.1) ∗ pt c (Memref.whole main_v4_3) (W.2.2.2.2.2.2.1) ∗ pt c (Memref.whole main_v4_5) (W.2.2.2.2.2.2.2) ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f) ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ (∃ W', owes (c : Thread nD τ) 0 W')) -∗ Q ⟨⟩))
        ⊢ wp frame (wpE (defs₀ (F := F)) Variants.none c none) Set.univ
            (cc0_mlp_vid i M2 h2 M3 h3 M4 h4 M5 h5 M6 h6 M7 h7 M8 h8 M9 h9 M10 h10 M11 h11 M12 h12 M13 h13 (Memref.whole main_v4_1) (Memref.isWhole_whole _) M15 h15 (Memref.whole main_v4_3) (Memref.isWhole_whole _) M17 h17 (Memref.whole main_v4_5) (Memref.isWhole_whole _) M19 h19 M20 h20 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9) Q } := by
  refine ⟨⟨?_, ?_, ?_, ?_, ?_, ?_, ?_, ?_⟩, fun f13 f15 f17 f19 f20 f24 f25 f26 f27 f28 f29 Ws Q => ?run⟩
  case run =>
    iintro ⟨H2, H3, H4, H5, H6, H7, H8, H9, H10, H11, H12, H13, H15, H17, H19, H20, H14, H16, H18, H21, H22, H23, H24, H25, H26, H27, H28, H29, Hq0, Hq1, Hq2, Hq3, Hq4, Hq5, HW, Hk⟩
    set_option sl_exec.lendShare "H21 H22 H23" in
    sl_exec_parts!
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H15]; · iexact H15
    isplitl [H17]; · iexact H17
    isplitl [H19]; · iexact H19
    isplitl [H20]; · iexact H20
    isplitl [H14]; · iexact H14
    isplitl [H16]; · iexact H16
    isplitl [H18]; · iexact H18
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    iexists _; iexact HW

end Cert.KernelIdeal.Hand

end
-- ==== Proof.KernelIdealTail.lean ====
/-
  The body of one grid point of the MLP call, run once at symbolic operands part by part: what it leaves in
  the five result windows, as terms over the input windows' contents, and in the three arrays of codes it
  copies out itself. Two runs: a full tile of 384 rows, and the last tile, whose copies move 336 rows.
-/
module

public import proofs.«01_k».proof.Proof.KernelIdealBase
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's algebra: the pipeline's beside the transfers' counters. -/
local notation "𝕄" => MT nD τ sig Unit (Elt F) ℕ (Pipeline.UD sig nD τ) ℕ

/-- The last tile of a batch: the same, the copies moving 336 rows. -/
noncomputable def runTail (c : Dev nD) (i : grid0.Coords)
    (hc1 : ¬ k0_cond1 i = 1#1)
    (hc2 : k0_cond2 i = 1#1)
    (hc3 : ¬ k0_cond3 i = 1#1)
    (hc4 : k0_cond4 i = 1#1)
    (hc5 : ¬ k0_cond5 i = 1#1)
    (hc6 : k0_cond6 i = 1#1)
    (hc7 : ¬ k0_cond7 i = 1#1)
    (hc8 : k0_cond8 i = 1#1)
    (hc9 : ¬ k0_cond9 i = 1#1)
    (hc10 : k0_cond10 i = 1#1)
    (hc11 : ¬ k0_cond11 i = 1#1)
    (hc12 : k0_cond12 i = 1#1)
    (M2 : Memref sig .tc .vmem S1x6x384x128 .f32) (h2 : M2.IsWhole)
    (M3 : Memref sig .tc .vmem S1x384x3072 .bf16) (h3 : M3.IsWhole)
    (M4 : Memref sig .tc .vmem S1x6x3072 .f32) (h4 : M4.IsWhole)
    (M5 : Memref sig .tc .vmem S768x3072 .fp8e4m3) (h5 : M5.IsWhole)
    (M6 : Memref sig .tc .vmem S1x3072 .f32) (h6 : M6.IsWhole)
    (M7 : Memref sig .tc .vmem S3072x2048 .fp8e4m3) (h7 : M7.IsWhole)
    (M8 : Memref sig .tc .vmem S1x2048 .f32) (h8 : M8.IsWhole)
    (M9 : Memref sig .tc .vmem S3072x2048 .fp8e4m3) (h9 : M9.IsWhole)
    (M10 : Memref sig .tc .vmem S1x2048 .f32) (h10 : M10.IsWhole)
    (M11 : Memref sig .tc .vmem S2048x3072 .fp8e4m3) (h11 : M11.IsWhole)
    (M12 : Memref sig .tc .vmem S1x3072 .f32) (h12 : M12.IsWhole)
    (M13 : Memref sig .tc .vmem S1x384x768 .bf16) (h13 : M13.IsWhole)
    (M15 : Memref sig .tc .vmem S1x1x384 .f32) (h15 : M15.IsWhole)
    (M17 : Memref sig .tc .vmem S1x1x384 .f32) (h17 : M17.IsWhole)
    (M19 : Memref sig .tc .vmem S1x1x384 .f32) (h19 : M19.IsWhole)
    (M20 : Memref sig .tc .vmem S1x384x3072 .bf16) (h20 : M20.IsWhole)
    (f2 : Bf (F := F) c M2)
    (f3 : Bf (F := F) c M3)
    (f4 : Bf (F := F) c M4)
    (f5 : Bf (F := F) c M5)
    (f6 : Bf (F := F) c M6)
    (f7 : Bf (F := F) c M7)
    (f8 : Bf (F := F) c M8)
    (f9 : Bf (F := F) c M9)
    (f10 : Bf (F := F) c M10)
    (f11 : Bf (F := F) c M11)
    (f12 : Bf (F := F) c M12)
    (f14 : Bf (F := F) c (Memref.whole main_v4_1))
    (f16 : Bf (F := F) c (Memref.whole main_v4_3))
    (f18 : Bf (F := F) c (Memref.whole main_v4_5))
    (f21 : Bf (F := F) c (Memref.whole cc0_scratch0))
    (f22 : Bf (F := F) c (Memref.whole cc0_scratch1))
    (f23 : Bf (F := F) c (Memref.whole cc0_scratch2))
    : { W : Bf (F := F) c M13 × Bf (F := F) c M15 × Bf (F := F) c M17 × Bf (F := F) c M19 × Bf (F := F) c M20 × Bf (F := F) c (Memref.whole main_v4_1) × Bf (F := F) c (Memref.whole main_v4_3) × Bf (F := F) c (Memref.whole main_v4_5) //
      ∀ (f13 : Bf (F := F) c M13) (f15 : Bf (F := F) c M15) (f17 : Bf (F := F) c M17) (f19 : Bf (F := F) c M19) (f20 : Bf (F := F) c M20)
        (f24 : Bf (F := F) c (Memref.whole cc0_scratch3)) (f25 : Bf (F := F) c (Memref.whole cc0_scratch4)) (f26 : Bf (F := F) c (Memref.whole cc0_scratch5)) (f27 : Bf (F := F) c (Memref.whole cc0_scratch6)) (f28 : Bf (F := F) c (Memref.whole cc0_scratch7)) (f29 : Bf (F := F) c (Memref.whole cc0_scratch8))
        (Ws : Waits sig Unit) (Q : PUnit → sProp 𝕄),
        iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M15 f15 ∗ pt c M17 f17 ∗ pt c M19 f19 ∗ pt c M20 f20 ∗ pt c (Memref.whole main_v4_1) f14 ∗ pt c (Memref.whole main_v4_3) f16 ∗ pt c (Memref.whole main_v4_5) f18 ∗ pt c (Memref.whole cc0_scratch0) f21 ∗ pt c (Memref.whole cc0_scratch1) f22 ∗ pt c (Memref.whole cc0_scratch2) f23 ∗ pt c (Memref.whole cc0_scratch3) f24 ∗ pt c (Memref.whole cc0_scratch4) f25 ∗ pt c (Memref.whole cc0_scratch5) f26 ∗ pt c (Memref.whole cc0_scratch6) f27 ∗ pt c (Memref.whole cc0_scratch7) f28 ∗ pt c (Memref.whole cc0_scratch8) f29 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ owes (c : Thread nD τ) 0 Ws
          ∗ (iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 (W.1) ∗ pt c M15 (W.2.1) ∗ pt c M17 (W.2.2.1) ∗ pt c M19 (W.2.2.2.1) ∗ pt c M20 (W.2.2.2.2.1) ∗ pt c (Memref.whole main_v4_1) (W.2.2.2.2.2.1) ∗ pt c (Memref.whole main_v4_3) (W.2.2.2.2.2.2.1) ∗ pt c (Memref.whole main_v4_5) (W.2.2.2.2.2.2.2) ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f) ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ (∃ W', owes (c : Thread nD τ) 0 W')) -∗ Q ⟨⟩))
        ⊢ wp frame (wpE (defs₀ (F := F)) Variants.none c none) Set.univ
            (cc0_mlp_vid i M2 h2 M3 h3 M4 h4 M5 h5 M6 h6 M7 h7 M8 h8 M9 h9 M10 h10 M11 h11 M12 h12 M13 h13 (Memref.whole main_v4_1) (Memref.isWhole_whole _) M15 h15 (Memref.whole main_v4_3) (Memref.isWhole_whole _) M17 h17 (Memref.whole main_v4_5) (Memref.isWhole_whole _) M19 h19 M20 h20 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9) Q } := by
  refine ⟨⟨?_, ?_, ?_, ?_, ?_, ?_, ?_, ?_⟩, fun f13 f15 f17 f19 f20 f24 f25 f26 f27 f28 f29 Ws Q => ?run⟩
  case run =>
    iintro ⟨H2, H3, H4, H5, H6, H7, H8, H9, H10, H11, H12, H13, H15, H17, H19, H20, H14, H16, H18, H21, H22, H23, H24, H25, H26, H27, H28, H29, Hq0, Hq1, Hq2, Hq3, Hq4, Hq5, HW, Hk⟩
    set_option sl_exec.lendShare "H21 H22 H23" in
    sl_exec_parts!
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H15]; · iexact H15
    isplitl [H17]; · iexact H17
    isplitl [H19]; · iexact H19
    isplitl [H20]; · iexact H20
    isplitl [H14]; · iexact H14
    isplitl [H16]; · iexact H16
    isplitl [H18]; · iexact H18
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    iexists _; iexact HW

end Cert.KernelIdeal.Hand

end
-- ==== Proof.KernelIdealFrame.lean ====
/-
  The frame of the MLP call: it terminates, nothing faults, its eleven argument arrays end unchanged, every semaphore
  counter ends at zero. Every staging window is forgotten; the three arrays of codes which the body copies out itself are
  owned at contents nothing names.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.KernelIdealFull
public import proofs.«01_k».proof.Proof.KernelIdealTail
public import Idealize.ShloMosaic.Lib.Pipeline.FrameBody
public import Idealize.ShloMosaic.Lib.Tactic

@[expose] public section

set_option maxHeartbeats 2000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The proof's algebra: the pipeline's beside the transfers' counters. -/
local notation "𝕄" => MT nD τ sig Unit (Elt F) ℕ (Pipeline.UD sig nD τ) ℕ

variable (m : (ℓ : Loc nD τ sig) → Buf (Elt F) ℓ) (ρ : Dev nD → PrngReg)

/-! ## The two kinds of tile -/

/-- The twelve branch conditions at a full tile. -/
theorem conds_full (i : grid0.Coords) (h : (i 1).val < 16) : k0_cond1 i = 1#1 ∧ ¬ k0_cond2 i = 1#1 ∧ k0_cond3 i = 1#1 ∧ ¬ k0_cond4 i = 1#1 ∧ k0_cond5 i = 1#1 ∧ ¬ k0_cond6 i = 1#1 ∧ k0_cond7 i = 1#1 ∧ ¬ k0_cond8 i = 1#1 ∧ k0_cond9 i = 1#1 ∧ ¬ k0_cond10 i = 1#1 ∧ k0_cond11 i = 1#1 ∧ ¬ k0_cond12 i = 1#1 := by
  have key : ∀ j : Fin 17, j.val < 16 → k0_cond1 (fun a => match a with | 0 => (0 : Fin 3) | 1 => j) = 1#1 ∧ ¬ k0_cond2 (fun a => match a with | 0 => (0 : Fin 3) | 1 => j) = 1#1 ∧ k0_cond3 (fun a => match a with | 0 => (0 : Fin 3) | 1 => j) = 1#1 ∧ ¬ k0_cond4 (fun a => match a with | 0 => (0 : Fin 3) | 1 => j) = 1#1 ∧ k0_cond5 (fun a => match a with | 0 => (0 : Fin 3) | 1 => j) = 1#1 ∧ ¬ k0_cond6 (fun a => match a with | 0 => (0 : Fin 3) | 1 => j) = 1#1 ∧ k0_cond7 (fun a => match a with | 0 => (0 : Fin 3) | 1 => j) = 1#1 ∧ ¬ k0_cond8 (fun a => match a with | 0 => (0 : Fin 3) | 1 => j) = 1#1 ∧ k0_cond9 (fun a => match a with | 0 => (0 : Fin 3) | 1 => j) = 1#1 ∧ ¬ k0_cond10 (fun a => match a with | 0 => (0 : Fin 3) | 1 => j) = 1#1 ∧ k0_cond11 (fun a => match a with | 0 => (0 : Fin 3) | 1 => j) = 1#1 ∧ ¬ k0_cond12 (fun a => match a with | 0 => (0 : Fin 3) | 1 => j) = 1#1 := by decide
  exact key (i 1) h

/-- The twelve branch conditions at a last tile. -/
theorem conds_tail (i : grid0.Coords) (h : ¬ (i 1).val < 16) : ¬ k0_cond1 i = 1#1 ∧ k0_cond2 i = 1#1 ∧ ¬ k0_cond3 i = 1#1 ∧ k0_cond4 i = 1#1 ∧ ¬ k0_cond5 i = 1#1 ∧ k0_cond6 i = 1#1 ∧ ¬ k0_cond7 i = 1#1 ∧ k0_cond8 i = 1#1 ∧ ¬ k0_cond9 i = 1#1 ∧ k0_cond10 i = 1#1 ∧ ¬ k0_cond11 i = 1#1 ∧ k0_cond12 i = 1#1 := by
  have key : ∀ j : Fin 17, ¬ j.val < 16 → ¬ k0_cond1 (fun a => match a with | 0 => (0 : Fin 3) | 1 => j) = 1#1 ∧ k0_cond2 (fun a => match a with | 0 => (0 : Fin 3) | 1 => j) = 1#1 ∧ ¬ k0_cond3 (fun a => match a with | 0 => (0 : Fin 3) | 1 => j) = 1#1 ∧ k0_cond4 (fun a => match a with | 0 => (0 : Fin 3) | 1 => j) = 1#1 ∧ ¬ k0_cond5 (fun a => match a with | 0 => (0 : Fin 3) | 1 => j) = 1#1 ∧ k0_cond6 (fun a => match a with | 0 => (0 : Fin 3) | 1 => j) = 1#1 ∧ ¬ k0_cond7 (fun a => match a with | 0 => (0 : Fin 3) | 1 => j) = 1#1 ∧ k0_cond8 (fun a => match a with | 0 => (0 : Fin 3) | 1 => j) = 1#1 ∧ ¬ k0_cond9 (fun a => match a with | 0 => (0 : Fin 3) | 1 => j) = 1#1 ∧ k0_cond10 (fun a => match a with | 0 => (0 : Fin 3) | 1 => j) = 1#1 ∧ ¬ k0_cond11 (fun a => match a with | 0 => (0 : Fin 3) | 1 => j) = 1#1 ∧ k0_cond12 (fun a => match a with | 0 => (0 : Fin 3) | 1 => j) = 1#1 := by decide
  exact key (i 1) h

/-! ## One point, every buffer at something -/

theorem owns_any_pt (c : Dev nD) {sp : Space} {S : Shape} {e : EltTy} (M : Memref sig .tc sp S e) (h : M.IsWhole) :
    (iprop(∃ X, owns (c : Thread nD τ) M fullShare X) : sProp 𝕄) ⊢ iprop(∃ f, pt c M f) := by
  unfold owns pt
  rw [h.set_eq_univ]
  iintro ⟨%X, %f, -, H⟩
  iexists f; iexact H

theorem pt_owns_any (c : Dev nD) {sp : Space} {S : Shape} {e : EltTy} (M : Memref sig .tc sp S e) (h : M.IsWhole) (f : Bf (F := F) c M) :
    (pt c M f : sProp 𝕄) ⊢ iprop(∃ X, owns (c : Thread nD τ) M fullShare X) := by
  unfold owns pt
  rw [h.set_eq_univ]
  iintro H
  iexists _; iexists f; isplitr; · ipureintro; rfl
  iexact H

theorem run_any (c : Dev nD) (i : grid0.Coords)
    (M2 : Memref sig .tc .vmem S1x6x384x128 .f32) (h2 : M2.IsWhole)
    (M3 : Memref sig .tc .vmem S1x384x3072 .bf16) (h3 : M3.IsWhole)
    (M4 : Memref sig .tc .vmem S1x6x3072 .f32) (h4 : M4.IsWhole)
    (M5 : Memref sig .tc .vmem S768x3072 .fp8e4m3) (h5 : M5.IsWhole)
    (M6 : Memref sig .tc .vmem S1x3072 .f32) (h6 : M6.IsWhole)
    (M7 : Memref sig .tc .vmem S3072x2048 .fp8e4m3) (h7 : M7.IsWhole)
    (M8 : Memref sig .tc .vmem S1x2048 .f32) (h8 : M8.IsWhole)
    (M9 : Memref sig .tc .vmem S3072x2048 .fp8e4m3) (h9 : M9.IsWhole)
    (M10 : Memref sig .tc .vmem S1x2048 .f32) (h10 : M10.IsWhole)
    (M11 : Memref sig .tc .vmem S2048x3072 .fp8e4m3) (h11 : M11.IsWhole)
    (M12 : Memref sig .tc .vmem S1x3072 .f32) (h12 : M12.IsWhole)
    (M13 : Memref sig .tc .vmem S1x384x768 .bf16) (h13 : M13.IsWhole)
    (M15 : Memref sig .tc .vmem S1x1x384 .f32) (h15 : M15.IsWhole)
    (M17 : Memref sig .tc .vmem S1x1x384 .f32) (h17 : M17.IsWhole)
    (M19 : Memref sig .tc .vmem S1x1x384 .f32) (h19 : M19.IsWhole)
    (M20 : Memref sig .tc .vmem S1x384x3072 .bf16) (h20 : M20.IsWhole)
    (Ws : Waits sig Unit) (K : PUnit → sProp 𝕄) :
    iprop((∃ X, owns (c : Thread nD τ) M2 fullShare X) ∗ (∃ X, owns (c : Thread nD τ) M3 fullShare X) ∗ (∃ X, owns (c : Thread nD τ) M4 fullShare X) ∗ (∃ X, owns (c : Thread nD τ) M5 fullShare X) ∗ (∃ X, owns (c : Thread nD τ) M6 fullShare X) ∗ (∃ X, owns (c : Thread nD τ) M7 fullShare X) ∗ (∃ X, owns (c : Thread nD τ) M8 fullShare X) ∗ (∃ X, owns (c : Thread nD τ) M9 fullShare X) ∗ (∃ X, owns (c : Thread nD τ) M10 fullShare X) ∗ (∃ X, owns (c : Thread nD τ) M11 fullShare X) ∗ (∃ X, owns (c : Thread nD τ) M12 fullShare X) ∗ (∃ X, owns (c : Thread nD τ) M13 fullShare X) ∗ (∃ X, owns (c : Thread nD τ) M15 fullShare X) ∗ (∃ X, owns (c : Thread nD τ) M17 fullShare X) ∗ (∃ X, owns (c : Thread nD τ) M19 fullShare X) ∗ (∃ X, owns (c : Thread nD τ) M20 fullShare X) ∗ (∃ f, pt c (Memref.whole main_v4_1) f) ∗ (∃ f, pt c (Memref.whole main_v4_3) f) ∗ (∃ f, pt c (Memref.whole main_v4_5) f) ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f) ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ owes (c : Thread nD τ) 0 Ws
      ∗ (iprop((∃ X, owns (c : Thread nD τ) M2 fullShare X) ∗ (∃ X, owns (c : Thread nD τ) M3 fullShare X) ∗ (∃ X, owns (c : Thread nD τ) M4 fullShare X) ∗ (∃ X, owns (c : Thread nD τ) M5 fullShare X) ∗ (∃ X, owns (c : Thread nD τ) M6 fullShare X) ∗ (∃ X, owns (c : Thread nD τ) M7 fullShare X) ∗ (∃ X, owns (c : Thread nD τ) M8 fullShare X) ∗ (∃ X, owns (c : Thread nD τ) M9 fullShare X) ∗ (∃ X, owns (c : Thread nD τ) M10 fullShare X) ∗ (∃ X, owns (c : Thread nD τ) M11 fullShare X) ∗ (∃ X, owns (c : Thread nD τ) M12 fullShare X) ∗ (∃ X, owns (c : Thread nD τ) M13 fullShare X) ∗ (∃ X, owns (c : Thread nD τ) M15 fullShare X) ∗ (∃ X, owns (c : Thread nD τ) M17 fullShare X) ∗ (∃ X, owns (c : Thread nD τ) M19 fullShare X) ∗ (∃ X, owns (c : Thread nD τ) M20 fullShare X) ∗ (∃ f, pt c (Memref.whole main_v4_1) f) ∗ (∃ f, pt c (Memref.whole main_v4_3) f) ∗ (∃ f, pt c (Memref.whole main_v4_5) f) ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f) ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ (∃ W', owes (c : Thread nD τ) 0 W')) -∗ K ⟨⟩))
    ⊢ wp frame (wpE (defs₀ (F := F)) Variants.none c none) Set.univ
        (cc0_mlp_vid i M2 h2 M3 h3 M4 h4 M5 h5 M6 h6 M7 h7 M8 h8 M9 h9 M10 h10 M11 h11 M12 h12 M13 h13 (Memref.whole main_v4_1) (Memref.isWhole_whole _) M15 h15 (Memref.whole main_v4_3) (Memref.isWhole_whole _) M17 h17 (Memref.whole main_v4_5) (Memref.isWhole_whole _) M19 h19 M20 h20 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9) K := by
  have hpost : ∀ (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f15 : Bf (F := F) c M15) (f17 : Bf (F := F) c M17) (f19 : Bf (F := F) c M19) (f20 : Bf (F := F) c M20) (f14 : Bf (F := F) c (Memref.whole main_v4_1)) (f16 : Bf (F := F) c (Memref.whole main_v4_3)) (f18 : Bf (F := F) c (Memref.whole main_v4_5)),
      (iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M15 f15 ∗ pt c M17 f17 ∗ pt c M19 f19 ∗ pt c M20 f20 ∗ pt c (Memref.whole main_v4_1) f14 ∗ pt c (Memref.whole main_v4_3) f16 ∗ pt c (Memref.whole main_v4_5) f18 ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f) ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ (∃ W', owes (c : Thread nD τ) 0 W')) : sProp 𝕄) ⊢ iprop((∃ X, owns (c : Thread nD τ) M2 fullShare X) ∗ (∃ X, owns (c : Thread nD τ) M3 fullShare X) ∗ (∃ X, owns (c : Thread nD τ) M4 fullShare X) ∗ (∃ X, owns (c : Thread nD τ) M5 fullShare X) ∗ (∃ X, owns (c : Thread nD τ) M6 fullShare X) ∗ (∃ X, owns (c : Thread nD τ) M7 fullShare X) ∗ (∃ X, owns (c : Thread nD τ) M8 fullShare X) ∗ (∃ X, owns (c : Thread nD τ) M9 fullShare X) ∗ (∃ X, owns (c : Thread nD τ) M10 fullShare X) ∗ (∃ X, owns (c : Thread nD τ) M11 fullShare X) ∗ (∃ X, owns (c : Thread nD τ) M12 fullShare X) ∗ (∃ X, owns (c : Thread nD τ) M13 fullShare X) ∗ (∃ X, owns (c : Thread nD τ) M15 fullShare X) ∗ (∃ X, owns (c : Thread nD τ) M17 fullShare X) ∗ (∃ X, owns (c : Thread nD τ) M19 fullShare X) ∗ (∃ X, owns (c : Thread nD τ) M20 fullShare X) ∗ (∃ f, pt c (Memref.whole main_v4_1) f) ∗ (∃ f, pt c (Memref.whole main_v4_3) f) ∗ (∃ f, pt c (Memref.whole main_v4_5) f) ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f) ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ (∃ W', owes (c : Thread nD τ) 0 W')) := by
    intro f2 f3 f4 f5 f6 f7 f8 f9 f10 f11 f12 f13 f15 f17 f19 f20 f14 f16 f18
    iintro ⟨H2, H3, H4, H5, H6, H7, H8, H9, H10, H11, H12, H13, H15, H17, H19, H20, H14, H16, H18, Hr⟩
    isplitl [H2]; · iapply (pt_owns_any c M2 h2 f2); iexact H2
    isplitl [H3]; · iapply (pt_owns_any c M3 h3 f3); iexact H3
    isplitl [H4]; · iapply (pt_owns_any c M4 h4 f4); iexact H4
    isplitl [H5]; · iapply (pt_owns_any c M5 h5 f5); iexact H5
    isplitl [H6]; · iapply (pt_owns_any c M6 h6 f6); iexact H6
    isplitl [H7]; · iapply (pt_owns_any c M7 h7 f7); iexact H7
    isplitl [H8]; · iapply (pt_owns_any c M8 h8 f8); iexact H8
    isplitl [H9]; · iapply (pt_owns_any c M9 h9 f9); iexact H9
    isplitl [H10]; · iapply (pt_owns_any c M10 h10 f10); iexact H10
    isplitl [H11]; · iapply (pt_owns_any c M11 h11 f11); iexact H11
    isplitl [H12]; · iapply (pt_owns_any c M12 h12 f12); iexact H12
    isplitl [H13]; · iapply (pt_owns_any c M13 h13 f13); iexact H13
    isplitl [H15]; · iapply (pt_owns_any c M15 h15 f15); iexact H15
    isplitl [H17]; · iapply (pt_owns_any c M17 h17 f17); iexact H17
    isplitl [H19]; · iapply (pt_owns_any c M19 h19 f19); iexact H19
    isplitl [H20]; · iapply (pt_owns_any c M20 h20 f20); iexact H20
    isplitl [H14]; · iexists _; iexact H14
    isplitl [H16]; · iexists _; iexact H16
    isplitl [H18]; · iexists _; iexact H18
    iexact Hr
  iintro ⟨H2, H3, H4, H5, H6, H7, H8, H9, H10, H11, H12, H13, H15, H17, H19, H20, H14, H16, H18, H21, H22, H23, H24, H25, H26, H27, H28, H29, Hq0, Hq1, Hq2, Hq3, Hq4, Hq5, HW, Hk⟩
  ihave H2 := (owns_any_pt (F := F) c M2 h2) $$ H2
  icases H2 with ⟨%f2, H2⟩
  ihave H3 := (owns_any_pt (F := F) c M3 h3) $$ H3
  icases H3 with ⟨%f3, H3⟩
  ihave H4 := (owns_any_pt (F := F) c M4 h4) $$ H4
  icases H4 with ⟨%f4, H4⟩
  ihave H5 := (owns_any_pt (F := F) c M5 h5) $$ H5
  icases H5 with ⟨%f5, H5⟩
  ihave H6 := (owns_any_pt (F := F) c M6 h6) $$ H6
  icases H6 with ⟨%f6, H6⟩
  ihave H7 := (owns_any_pt (F := F) c M7 h7) $$ H7
  icases H7 with ⟨%f7, H7⟩
  ihave H8 := (owns_any_pt (F := F) c M8 h8) $$ H8
  icases H8 with ⟨%f8, H8⟩
  ihave H9 := (owns_any_pt (F := F) c M9 h9) $$ H9
  icases H9 with ⟨%f9, H9⟩
  ihave H10 := (owns_any_pt (F := F) c M10 h10) $$ H10
  icases H10 with ⟨%f10, H10⟩
  ihave H11 := (owns_any_pt (F := F) c M11 h11) $$ H11
  icases H11 with ⟨%f11, H11⟩
  ihave H12 := (owns_any_pt (F := F) c M12 h12) $$ H12
  icases H12 with ⟨%f12, H12⟩
  ihave H13 := (owns_any_pt (F := F) c M13 h13) $$ H13
  icases H13 with ⟨%f13, H13⟩
  ihave H15 := (owns_any_pt (F := F) c M15 h15) $$ H15
  icases H15 with ⟨%f15, H15⟩
  ihave H17 := (owns_any_pt (F := F) c M17 h17) $$ H17
  icases H17 with ⟨%f17, H17⟩
  ihave H19 := (owns_any_pt (F := F) c M19 h19) $$ H19
  icases H19 with ⟨%f19, H19⟩
  ihave H20 := (owns_any_pt (F := F) c M20 h20) $$ H20
  icases H20 with ⟨%f20, H20⟩
  icases H14 with ⟨%f14, H14⟩
  icases H16 with ⟨%f16, H16⟩
  icases H18 with ⟨%f18, H18⟩
  icases H21 with ⟨%f21, H21⟩
  icases H22 with ⟨%f22, H22⟩
  icases H23 with ⟨%f23, H23⟩
  icases H24 with ⟨%f24, H24⟩
  icases H25 with ⟨%f25, H25⟩
  icases H26 with ⟨%f26, H26⟩
  icases H27 with ⟨%f27, H27⟩
  icases H28 with ⟨%f28, H28⟩
  icases H29 with ⟨%f29, H29⟩
  by_cases h : (i 1).val < 16
  · obtain ⟨hc1, hc2, hc3, hc4, hc5, hc6, hc7, hc8, hc9, hc10, hc11, hc12⟩ := conds_full i h
    iapply ((runFull c i hc1 hc2 hc3 hc4 hc5 hc6 hc7 hc8 hc9 hc10 hc11 hc12 M2 h2 M3 h3 M4 h4 M5 h5 M6 h6 M7 h7 M8 h8 M9 h9 M10 h10 M11 h11 M12 h12 M13 h13 M15 h15 M17 h17 M19 h19 M20 h20 f2 f3 f4 f5 f6 f7 f8 f9 f10 f11 f12 f14 f16 f18 f21 f22 f23).2 f13 f15 f17 f19 f20 f24 f25 f26 f27 f28 f29 Ws _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H15]; · iexact H15
    isplitl [H17]; · iexact H17
    isplitl [H19]; · iexact H19
    isplitl [H20]; · iexact H20
    isplitl [H14]; · iexact H14
    isplitl [H16]; · iexact H16
    isplitl [H18]; · iexact H18
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [HW]; · iexact HW
    iintro Hpost; iapply Hk; iapply (hpost f2 f3 f4 f5 f6 f7 f8 f9 f10 f11 f12 _ _ _ _ _ _ _ _); iexact Hpost
  · obtain ⟨hc1, hc2, hc3, hc4, hc5, hc6, hc7, hc8, hc9, hc10, hc11, hc12⟩ := conds_tail i h
    iapply ((runTail c i hc1 hc2 hc3 hc4 hc5 hc6 hc7 hc8 hc9 hc10 hc11 hc12 M2 h2 M3 h3 M4 h4 M5 h5 M6 h6 M7 h7 M8 h8 M9 h9 M10 h10 M11 h11 M12 h12 M13 h13 M15 h15 M17 h17 M19 h19 M20 h20 f2 f3 f4 f5 f6 f7 f8 f9 f10 f11 f12 f14 f16 f18 f21 f22 f23).2 f13 f15 f17 f19 f20 f24 f25 f26 f27 f28 f29 Ws _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H15]; · iexact H15
    isplitl [H17]; · iexact H17
    isplitl [H19]; · iexact H19
    isplitl [H20]; · iexact H20
    isplitl [H14]; · iexact H14
    isplitl [H16]; · iexact H16
    isplitl [H18]; · iexact H18
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [HW]; · iexact HW
    iintro Hpost; iapply Hk; iapply (hpost f2 f3 f4 f5 f6 f7 f8 f9 f10 f11 f12 _ _ _ _ _ _ _ _); iexact Hpost

/-! ## The call -/

abbrev V (c : Dev nD) (b : Ref sig .tc) : Buf (Elt F) ((c : Thread nD τ).loc b) := Cert.KernelIdeal.Gen.V m c b

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The arrays the body writes by its own transfers. -/
def R0 : Finset (Ref sig .tc) := {main_v4_1, main_v4_3, main_v4_5}
/-- The arrays the body's own transfers only read: none. -/
def H0 : Finset (Ref sig .tc) := ∅
theorem H0_sub : H0 ⊆ Pipeline.restRefs sig spec0 := by decide
theorem R0_sub : R0 ⊆ Pipeline.restRefs sig spec0 \ H0 := by decide

/-- The body's six transfer counters: three for the full tiles' copies, three for the last tile's. -/
abbrev osem0 : Fin 6 → SemLoc sig := fun j => (![SemLoc.dma 24, SemLoc.dma 25, SemLoc.dma 26, SemLoc.dma 27, SemLoc.dma 28, SemLoc.dma 29] : Fin 6 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0) := by
  rw [Pipeline.ownSems0_eq_of_list c osem0 [0, 1, 2, 3, 4, 5] (by decide) (by decide)]; rfl

theorem ownedPts0_eq (c : Dev nD) :
    (Pipeline.owned R0 c : sProp 𝕄)
      = iprop((∃ f, pt c (Memref.whole main_v4_1) f) ∗ (∃ f, pt c (Memref.whole main_v4_3) f) ∗ (∃ f, pt c (Memref.whole main_v4_5) f)) := by
  unfold Pipeline.owned; rw [BI.bigSep_eq_bigSepL_of_eq [main_v4_1, main_v4_3, main_v4_5] (by decide) (by decide)]; rfl

theorem PhiDR0_eq (c : Dev nD) :
    (Pipeline.ΦDR osem0 spec0 H0 R0 (V m) c : sProp 𝕄)
      = iprop(iprop((∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f))
          ∗ (∃ r, prngReg c r)
          ∗ iprop(semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0)
          ∗ iprop(emp)
          ∗ iprop((∃ f, pt c (Memref.whole main_v4_1) f) ∗ (∃ f, pt c (Memref.whole main_v4_3) f) ∗ (∃ f, pt c (Memref.whole main_v4_5) f))) := by
  rw [Pipeline.ΦDR_eq, scopedRest0_eq, ownSems00_eq, ownedPts0_eq]; rfl

/-- The proof data: the arrays as the region finds them; nothing is said of what the body leaves. -/
def dats (_ : Fin 1) (c : Dev nD) : Dat τ (Elt F) Unit ℕ (Pipeline.UD sig nD τ) ℕ cfg0 c where
  A w := V m c (Pipeline.arrRef spec0 w)
  after w t := Dat.unnamed w t
  Φ _ := Pipeline.ΦDR osem0 spec0 H0 R0 (V m) c
  q _ := fullShare
  owed _ := 0

theorem A_eq (c : Dev nD) (w : Fin cfg0.W) : (dats m 0 c).A w = V m c (Pipeline.arrRef spec0 w) := by
  dsimp only [dats]

theorem sound_body (c : Dev nD) (t : Fin cfg0.N) :
    iprop((dats m 0 c).Φ t.castSucc ∗ (dats m 0 c).owesAt () t.castSucc
      ∗ (∃ X, owns (c : Thread nD τ) (st0_0 t) fullShare X) ∗ (∃ X, owns (c : Thread nD τ) (st0_1 t) fullShare X) ∗ (∃ X, owns (c : Thread nD τ) (st0_2 t) fullShare X) ∗ (∃ X, owns (c : Thread nD τ) (st0_3 t) fullShare X) ∗ (∃ X, owns (c : Thread nD τ) (st0_4 t) fullShare X) ∗ (∃ X, owns (c : Thread nD τ) (st0_5 t) fullShare X) ∗ (∃ X, owns (c : Thread nD τ) (st0_6 t) fullShare X) ∗ (∃ X, owns (c : Thread nD τ) (st0_7 t) fullShare X) ∗ (∃ X, owns (c : Thread nD τ) (st0_8 t) fullShare X) ∗ (∃ X, owns (c : Thread nD τ) (st0_9 t) fullShare X) ∗ (∃ X, owns (c : Thread nD τ) (st0_10 t) fullShare X) ∗ (∃ X, owns (c : Thread nD τ) (st0_11 t) fullShare X) ∗ (∃ X, owns (c : Thread nD τ) (st0_12 t) fullShare X) ∗ (∃ X, owns (c : Thread nD τ) (st0_13 t) fullShare X) ∗ (∃ X, owns (c : Thread nD τ) (st0_14 t) fullShare X) ∗ (∃ X, owns (c : Thread nD τ) (st0_15 t) fullShare X))
    ⊢ wp frame (wpE (defs₀ (F := F)) Variants.none c none) Set.univ (bodyAt0 t) (fun _ =>
      iprop((dats m 0 c).Φ t.succ ∗ (dats m 0 c).owesAt () t.succ
      ∗ (∃ X, owns (c : Thread nD τ) (st0_0 t) fullShare X) ∗ (∃ X, owns (c : Thread nD τ) (st0_1 t) fullShare X) ∗ (∃ X, owns (c : Thread nD τ) (st0_2 t) fullShare X) ∗ (∃ X, owns (c : Thread nD τ) (st0_3 t) fullShare X) ∗ (∃ X, owns (c : Thread nD τ) (st0_4 t) fullShare X) ∗ (∃ X, owns (c : Thread nD τ) (st0_5 t) fullShare X) ∗ (∃ X, owns (c : Thread nD τ) (st0_6 t) fullShare X) ∗ (∃ X, owns (c : Thread nD τ) (st0_7 t) fullShare X) ∗ (∃ X, owns (c : Thread nD τ) (st0_8 t) fullShare X) ∗ (∃ X, owns (c : Thread nD τ) (st0_9 t) fullShare X) ∗ (∃ X, owns (c : Thread nD τ) (st0_10 t) fullShare X) ∗ (∃ X, owns (c : Thread nD τ) (st0_11 t) fullShare X) ∗ (∃ X, owns (c : Thread nD τ) (st0_12 t) fullShare X) ∗ (∃ X, owns (c : Thread nD τ) (st0_13 t) fullShare X) ∗ (∃ X, owns (c : Thread nD τ) (st0_14 t) fullShare X) ∗ (∃ X, owns (c : Thread nD τ) (st0_15 t) fullShare X))) := by
  rw [show (dats m 0 c).Φ t.succ = Pipeline.ΦDR osem0 spec0 H0 R0 (V m) c from rfl,
    show (dats m 0 c).Φ t.castSucc = Pipeline.ΦDR osem0 spec0 H0 R0 (V m) c from rfl, PhiDR0_eq]
  unfold Dat.owesAt Pipeline.owesWithin
  rw [show (dats m 0 c).owed t.castSucc = 0 from rfl, show (dats m 0 c).owed t.succ = 0 from rfl]
  iintro ⟨⟨⟨H21, H22, H23, H24, H25, H26, H27, H28, H29⟩, Hg, ⟨Hq0, Hq1, Hq2, Hq3, Hq4, Hq5⟩, He, ⟨H14, H16, H18⟩⟩, ⟨%Ws, -, HW⟩, H2, H3, H4, H5, H6, H7, H8, H9, H10, H11, H12, H13, H15, H17, H19, H20⟩
  iapply (run_any (F := F) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) _ (hstage0_14 ((cfg0.slots t 14).cast nbuf0_14)) _ (hstage0_15 ((cfg0.slots t 15).cast nbuf0_15)) Ws _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H15]; · iexact H15
  isplitl [H17]; · iexact H17
  isplitl [H19]; · iexact H19
  isplitl [H20]; · iexact H20
  isplitl [H14]; · iexact H14
  isplitl [H16]; · iexact H16
  isplitl [H18]; · iexact H18
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [HW]; · iexact HW
  iintro ⟨H2, H3, H4, H5, H6, H7, H8, H9, H10, H11, H12, H13, H15, H17, H19, H20, H14, H16, H18, H21, H22, H23, H24, H25, H26, H27, H28, H29, Hq0, Hq1, Hq2, Hq3, Hq4, Hq5, ⟨%W', HW'⟩⟩
  isplitl [H21 H22 H23 H24 H25 H26 H27 H28 H29 H14 H16 H18 Hg He Hq0 Hq1 Hq2 Hq3 Hq4 Hq5]
  · isplitl [H21 H22 H23 H24 H25 H26 H27 H28 H29]
    · isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      iexact H29
    isplitl [Hg]; · iexact Hg
    isplitl [Hq0 Hq1 Hq2 Hq3 Hq4 Hq5]
    · isplitl [Hq0]; · iexact Hq0
      isplitl [Hq1]; · iexact Hq1
      isplitl [Hq2]; · iexact Hq2
      isplitl [Hq3]; · iexact Hq3
      isplitl [Hq4]; · iexact Hq4
      iexact Hq5
    isplitl [He]; · iexact He
    isplitl [H14]; · iexact H14
    isplitl [H16]; · iexact H16
    iexact H18
  isplitl [HW']
  · iexists W'; isplitr; · ipureintro; exact fun _ _ => Or.inl trivial
    iexact HW'
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H15]; · iexact H15
  isplitl [H17]; · iexact H17
  isplitl [H19]; · iexact H19
  iexact H20

theorem defs₀_row (t : Fin cfg0.N) :
    defs₀ (F := F) .tc cfg0.body (cfg0.bodyArgs t (cfg0.slots t)) = bodyAt0 t := by
  unfold defs₀; rw [Defs.onTc_tc]

/-- Every window is forgotten. -/
abbrev fgt : Fin cfg0.W → Bool := fun _ => true

theorem body_obligation (c : Dev nD) : BodyObligation (dats (F := F) m 0 c) (defs₀ (F := F)) Variants.none () Set.univ fgt := fun t => by
  simp only [bigSep_W0]
  rw [defs₀_row]
  exact triple_restated (sound_body m c t) rfl .rfl fun _ => .rfl

set_option backward.isDefEq.respectTransparency.types false in
theorem run_main : θ_run defs (onTc (τ := τ) (main (F := F))) (s₀ m ρ) (fun r =>
    Pipeline.RDat.FramePostR cfg0 (fun c => (dats m 0 c).toRForget fgt) R0 (V m) r ∧ r.2.sem = fun _ => 0) :=
  Pipeline.θ_run_frame_dmaR_forget (Q' := _) cfgs (dats m) (0 : Fin 1) launch0 osem0 defs₀ Variants.none fgt ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => ⟨(h.1.arr_in c 0 rfl).trans ((A_eq m c 0).trans (V_main_arg0 m c)),
      (h.1.arr_in c 1 rfl).trans ((A_eq m c 1).trans (V_main_arg1 m c)),
      (h.1.arr_in c 2 rfl).trans ((A_eq m c 2).trans (V_main_arg2 m c)),
      (h.1.arr_in c 3 rfl).trans ((A_eq m c 3).trans (V_main_arg3 m c)),
      ((h.1 c).2 main_arg4 (Finset.mem_sdiff.mpr ⟨Pipeline.mem_restRefs_of main_arg4 (by decide) (by decide), by decide⟩)).trans (V_main_arg4 m c),
      (h.1.arr_in c 5 rfl).trans ((A_eq m c 5).trans (V_main_arg5 m c)),
      ((h.1 c).2 main_arg6 (Finset.mem_sdiff.mpr ⟨Pipeline.mem_restRefs_of main_arg6 (by decide) (by decide), by decide⟩)).trans (V_main_arg6 m c),
      (h.1.arr_in c 7 rfl).trans ((A_eq m c 7).trans (V_main_arg7 m c)),
      ((h.1 c).2 main_arg8 (Finset.mem_sdiff.mpr ⟨Pipeline.mem_restRefs_of main_arg8 (by decide) (by decide), by decide⟩)).trans (V_main_arg8 m c),
      (h.1.arr_in c 9 rfl).trans ((A_eq m c 9).trans (V_main_arg9 m c)),
      ((h.1 c).2 main_arg10 (Finset.mem_sdiff.mpr ⟨Pipeline.mem_restRefs_of main_arg10 (by decide) (by decide), by decide⟩)).trans (V_main_arg10 m c)⟩, h.2⟩) (run_main m ρ)

end Cert.KernelIdeal.Hand

end
-- ==== Proof.TileLoops.lean ====
/-
  The body of one tile of the MLP call written as loops over its chunks and columns: the writes it makes to each buffer,
  one function per buffer of the piece's number. The runs of the body part by part leave these lists (the theorems of
  `TileRun`).
-/
module

public import proofs.«01_k».proof.Proof.KernelIdealBase

@[expose] public section

set_option maxRecDepth 16384

noncomputable section

namespace Cert.KernelIdeal.Hand.Tile

open Cert.KernelIdeal Cert.KernelIdeal.Gen Cert.KernelIdeal.Hand
open Idealize.ShloMosaic Idealize.ShloMosaic.TcCoe
open Idealize.SL.Sem

variable {F : FTy → Type} [FloatOps F]

/-- The first `n` pieces of a family, newest first. -/
def pieces {S : Shape} {e : EltTy} (f : ℕ → View.Piece (Elt F) S e) : ℕ → List (View.Piece (Elt F) S e)
  | 0 => []
  | n + 1 => f n :: pieces f n

theorem inb2 {A B a b o p : ℕ} (ho : o + a ≤ A) (hp : p + b ≤ B) :
    ∀ x, (![o, p] : Fin 2 → ℕ) x + (⟨2, ![a, b]⟩ : Shape).size x ≤ (⟨2, ![A, B]⟩ : Shape).size x := by
  intro x
  match x with
  | ⟨0, _⟩ => exact ho
  | ⟨1, _⟩ => exact hp

theorem inb3 {A B C a b c o p q : ℕ} (ho : o + a ≤ A) (hp : p + b ≤ B) (hq : q + c ≤ C) :
    ∀ x, (![o, p, q] : Fin 3 → ℕ) x + (⟨3, ![a, b, c]⟩ : Shape).size x ≤ (⟨3, ![A, B, C]⟩ : Shape).size x := by
  intro x
  match x with
  | ⟨0, _⟩ => exact ho
  | ⟨1, _⟩ => exact hp
  | ⟨2, _⟩ => exact hq

theorem inb4 {A B C D a b c d o p q s : ℕ} (ho : o + a ≤ A) (hp : p + b ≤ B) (hq : q + c ≤ C) (hs : s + d ≤ D) :
    ∀ x, (![o, p, q, s] : Fin 4 → ℕ) x + (⟨4, ![a, b, c, d]⟩ : Shape).size x ≤ (⟨4, ![A, B, C, D]⟩ : Shape).size x := by
  intro x
  match x with
  | ⟨0, _⟩ => exact ho
  | ⟨1, _⟩ => exact hp
  | ⟨2, _⟩ => exact hq
  | ⟨3, _⟩ => exact hs

/-! ### The arithmetic of one step -/

/-- A column of largest magnitudes to a column of scales. -/
def scale32 (a : FVec F S32x1 .f32) : FVec F S32x1 .f32 :=
  select (cmpf .oeq a (broadcast S32x1 (Scalar.ofBits .f32 0x00000000#32))) (broadcast S32x1 (Scalar.ofBits .f32 0x3F800000#32))
    (divf a (broadcast S32x1 (Scalar.ofBits .f32 0x43E00000#32)))

/-- A block of values already multiplied, clamped and cast. -/
def codes32 (v : FVec F S32x128 .f32) : FVec F S32x128 .fp8e4m3 :=
  shapeCast S32x128 (truncf .fp8e4m3 (minimumf (broadcast S32x128 (Scalar.ofBits .f32 0x43E00000#32))
    (maximumf (broadcast S32x128 (Scalar.ofBits .f32 0xC3E00000#32)) v)) bitsLt_fp8e4m3_f32) shapeCasts_S32x128_S32x128

/-- One over a column of scales. -/
def inv32 (s : FVec F S32x1 .f32) : FVec F S32x1 .f32 := divf (broadcast S32x1 (Scalar.ofBits .f32 0x3F800000#32)) s

/-- A column of scales spread over the lanes. -/
def rep32 (s : FVec F S32x1 .f32) : FVec F S32x128 .f32 :=
  shapeCast S32x128 (broadcastTo S32x128 (shapeCast S32x1 s shapeCasts_S32x1_S32x1) broadcasts_S32x1_S32x128) shapeCasts_S32x128_S32x128

/-- The largest value of each row. -/
def rowMax32 (v : FVec F S32x128 .f32) : FVec F S32x1 .f32 :=
  shapeCast S32x1 (multiReduction .maximumf [1] S32 v 0xFF800000#32 reduces_S32x128_S32 (.inl rfl) rfl) shapeCasts_S32_S32x1

/-- A tile of spread scales laid along a row. -/
def lay128 (v : Vec F S128x128 .f32) : FVec F S1x1x128 .f32 :=
  shapeCast S1x1x128 (extractStridedSlice S1x128 ![0, 0] (transpose S128x128 [1, 0] v transposes_S128x128_p1_0_S128x128)
    slices_S128x128_o0_0_S1x128) shapeCasts_S1x128_S1x1x128

/-- Spread scales, twice over. -/
def dup (v : Vec F S384x128 .f32) : FVec F S384x256 .f32 :=
  concatenate S384x256 1 [⟨S384x128, v⟩, ⟨S384x128, v⟩] concatenates_S384x128_S384x128_S384x256_d1

/-- A row of column factors spread over the rows. -/
def rowOf (v : Vec F S1x256 .f32) : FVec F S384x256 .f32 :=
  broadcastTo S384x256 (shapeCast S1x256 v shapeCasts_S1x256_S1x256) broadcasts_S1x256_S384x256

section
variable (c : Dev nD)
  (M2 : Memref sig .tc .vmem S1x6x384x128 .f32) (M3 : Memref sig .tc .vmem S1x384x3072 .bf16)
  (M4 : Memref sig .tc .vmem S1x6x3072 .f32) (M5 : Memref sig .tc .vmem S768x3072 .fp8e4m3)
  (M6 : Memref sig .tc .vmem S1x3072 .f32) (M7 : Memref sig .tc .vmem S3072x2048 .fp8e4m3)
  (M8 : Memref sig .tc .vmem S1x2048 .f32) (M9 : Memref sig .tc .vmem S3072x2048 .fp8e4m3)
  (M10 : Memref sig .tc .vmem S1x2048 .f32) (M11 : Memref sig .tc .vmem S2048x3072 .fp8e4m3)
  (M12 : Memref sig .tc .vmem S1x3072 .f32)
  (f2 : Bf (F := F) c M2) (f3 : Bf (F := F) c M3) (f4 : Bf (F := F) c M4) (f5 : Bf (F := F) c M5)
  (f6 : Bf (F := F) c M6) (f7 : Bf (F := F) c M7) (f8 : Bf (F := F) c M8) (f9 : Bf (F := F) c M9)
  (f10 : Bf (F := F) c M10) (f11 : Bf (F := F) c M11) (f12 : Bf (F := F) c M12)

/-! ### The attention output: codes, scales and the copy -/

/-- Head `h` of chunk `r`. -/
def att (r h : ℕ) : FVec F S32x128 .f32 :=
  shapeCast S32x128 (View.readAt (Elt F) M2.view (Rect.unit (s := S1x6x384x128) ![0, h % 6, 32 * (r % 12), 0] S1x1x32x128.size
    (inb4 (by omega) (by omega) (by omega) (by omega))).toLoadRect f2) shapeCasts_S1x1x32x128_S32x128

/-- The scales of chunk `r`'s rows. -/
def attScale (r : ℕ) : FVec F S32x1 .f32 :=
  scale32 (rowMax32 (maximumf (maximumf (maximumf (maximumf (maximumf (absf (att c M2 f2 r 0)) (absf (att c M2 f2 r 1)))
    (absf (att c M2 f2 r 2))) (absf (att c M2 f2 r 3))) (absf (att c M2 f2 r 4))) (absf (att c M2 f2 r 5))))

def codePiece (k : ℕ) : View.Piece (Elt F) S384x768 .fp8e4m3 :=
  ⟨Rect.unit ![32 * (k / 6 % 12), 128 * (k % 6)] S32x128.size (inb2 (by omega) (by omega)),
    codes32 (mulf (att c M2 f2 (k / 6) k) (broadcastTo S32x128 (inv32 (attScale c M2 f2 (k / 6))) broadcasts_S32x1_S32x128))⟩

def attPiece (k : ℕ) : View.Piece (Elt F) S1x384x768 .bf16 :=
  ⟨Rect.unit ![0, 32 * (k / 6 % 12), 128 * (k % 6)] S1x32x128.size (inb3 (by omega) (by omega) (by omega)),
    shapeCast S1x32x128 (truncf .bf16 (att c M2 f2 (k / 6) k) bitsLt_bf16_f32) shapeCasts_S32x128_S1x32x128⟩

def attRepPiece (r : ℕ) : View.Piece (Elt F) S384x128 .f32 :=
  ⟨Rect.unit ![32 * (r % 12), 0] S32x128.size (inb2 (by omega) (by omega)), rep32 (attScale c M2 f2 r)⟩

/-- The spread scales, read back. -/
def attRep : Vec F S384x128 .f32 :=
  (Memref.whole cc0_scratch5).view.readCov (pieces (attRepPiece c M2 f2) 12)
    (Rect.unit (s := S384x128) ![0, 0] S384x128.size (inb2 (by omega) (by omega))).toLoadRect

def attScalePiece (t : ℕ) : View.Piece (Elt F) S1x1x384 .f32 :=
  ⟨Rect.unit ![0, 0, 128 * (t % 3)] S1x1x128.size (inb3 (by omega) (by omega) (by omega)),
    lay128 ((Memref.whole cc0_scratch5).view.readCov (pieces (attRepPiece c M2 f2) 12)
      (Rect.unit (s := S384x128) ![128 * (t % 3), 0] S128x128.size (inb2 (by omega) (by omega))).toLoadRect)⟩

/-! ### The residual -/

/-- Columns `n` of row `j` of the modulation, read through the row's own view. -/
def modRow (j : ℕ) (hj : j + 1 ≤ 6) : Memref sig .tc .vmem S1x3072 .f32 :=
  (M4.slice (Rect.unit ![0, j, 0] S1x1x3072.size (inb3 (by omega) hj (by omega))) (fun _ => rfl)).squeeze S1x3072
    squeezes_S1x1x3072_S1x3072

def mod1Piece : View.Piece (Elt F) S1x3072 .f32 :=
  ⟨Rect.unit ![0, 0] S1x3072.size (inb2 (by omega) (by omega)),
    shapeCast S1x3072 (addf (shapeCast S1x3072 (View.readAt (Elt F) M4.view (Rect.unit (s := S1x6x3072) ![0, 4, 0] S1x1x3072.size
      (inb3 (by omega) (by omega) (by omega))).toLoadRect f4) shapeCasts_S1x1x3072_S1x3072)
      (broadcast S1x3072 (Scalar.ofBits .f32 0x3F800000#32))) shapeCasts_S1x3072_S1x3072⟩

def yPiece (n : ℕ) : View.Piece (Elt F) S384x3072 .f32 :=
  ⟨Rect.unit ![0, 256 * (n % 12)] S384x256.size (inb2 (by omega) (by omega)),
    shapeCast S384x256 (addf
      (extf .f32 (shapeCast S384x256 (View.readAt (Elt F) M3.view (Rect.unit (s := S1x384x3072) ![0, 0, 256 * (n % 12)] S1x384x256.size
        (inb3 (by omega) (by omega) (by omega))).toLoadRect f3) shapeCasts_S1x384x256_S384x256) bitsLt_bf16_f32)
      (mulf
        (broadcastTo S384x256 (View.readAt (Elt F) (modRow M4 2 (by omega)).view (Rect.unit (s := S1x3072) ![0, 256 * (n % 12)] S1x256.size
          (inb2 (by omega) (by omega))).toLoadRect f4) broadcasts_S1x256_S384x256)
        (mulf
          (mulf
            (matmul dot_S384x768_S768x256_S384x256_1_0_0_1_n_n none
              ((Memref.whole cc0_scratch0).view.readCov (pieces (codePiece c M2 f2) 72)
                (Rect.unit (s := S384x768) ![0, 0] S384x768.size (inb2 (by omega) (by omega))).toLoadRect)
              (View.readAt (Elt F) M5.view (Rect.unit (s := S768x3072) ![0, 256 * (n % 12)] S768x256.size
                (inb2 (by omega) (by omega))).toLoadRect f5)
              (constant S384x256 .f32 0x00000000#32))
            (dup (attRep c M2 f2)))
          (rowOf (View.readAt (Elt F) M6.view (Rect.unit (s := S1x3072) ![0, 256 * (n % 12)] S1x256.size
            (inb2 (by omega) (by omega))).toLoadRect f6))))) shapeCasts_S384x256_S384x256⟩

/-! ### The modulated norm of a chunk -/

/-- Columns `k` of chunk `r` of the residual. -/
def yCol (r k : ℕ) : FVec F S32x128 .f32 :=
  (Memref.whole cc0_scratch3).view.readCov (pieces (yPiece c M2 M3 M4 M5 M6 f2 f3 f4 f5 f6) 12)
    (Rect.unit (s := S384x3072) ![32 * (r % 12), 128 * (k % 24)] S32x128.size (inb2 (by omega) (by omega))).toLoadRect

/-- The squares of the first `k` column blocks, added lane by lane. -/
def sumSq (r : ℕ) : ℕ → FVec F S32x128 .f32
  | 0 => broadcast S32x128 (Scalar.ofBits .f32 0x00000000#32)
  | k + 1 => addf (sumSq r k) (mulf (yCol c M2 M3 M4 M5 M6 f2 f3 f4 f5 f6 r k) (yCol c M2 M3 M4 M5 M6 f2 f3 f4 f5 f6 r k))

/-- One over the root mean square of each row. -/
def invRms (r : ℕ) : FVec F S32x1 .f32 :=
  rsqrt (addf (divf (shapeCast S32x1 (multiReduction .add [1] S32 (sumSq c M2 M3 M4 M5 M6 f2 f3 f4 f5 f6 r 24) 0x00000000#32
      reduces_S32x128_S32 (.inl rfl) rfl) shapeCasts_S32_S32x1) (broadcast S32x1 (Scalar.ofBits .f32 0x45400000#32)))
    (broadcast S32x1 (Scalar.ofBits .f32 0x358637BD#32)))

/-- Columns `k` of chunk `r` of the normed and modulated residual. -/
def uCol (r k : ℕ) : FVec F S32x128 .f32 :=
  addf
    (mulf
      (mulf (yCol c M2 M3 M4 M5 M6 f2 f3 f4 f5 f6 r k)
        (broadcastTo S32x128 (invRms c M2 M3 M4 M5 M6 f2 f3 f4 f5 f6 r) broadcasts_S32x1_S32x128))
      (broadcastTo S32x128 ((Memref.whole cc0_scratch8).view.readCov (pieces (fun _ => mod1Piece c M4 f4) 1)
        (Rect.unit (s := S1x3072) ![0, 128 * (k % 24)] S1x128.size (inb2 (by omega) (by omega))).toLoadRect) broadcasts_S1x128_S32x128))
    (broadcastTo S32x128 (View.readAt (Elt F) (modRow M4 3 (by omega)).view
      (Rect.unit (s := S1x3072) ![0, 128 * (k % 24)] S1x128.size (inb2 (by omega) (by omega))).toLoadRect f4) broadcasts_S1x128_S32x128)

/-- The largest magnitude of the first `k` column blocks, lane by lane. -/
def uMax (r : ℕ) : ℕ → FVec F S32x128 .f32
  | 0 => broadcast S32x128 (Scalar.ofBits .f32 0x00000000#32)
  | k + 1 => maximumf (uMax r k) (absf (uCol c M2 M3 M4 M5 M6 f2 f3 f4 f5 f6 r k))

def uScale (r : ℕ) : FVec F S32x1 .f32 := scale32 (rowMax32 (uMax c M2 M3 M4 M5 M6 f2 f3 f4 f5 f6 r 24))

def uPiece (k : ℕ) : View.Piece (Elt F) S384x3072 .f32 :=
  ⟨(Rect.unit (s := S384x3072) ![32 * (k / 24 % 12), 0] S32x3072.size (inb2 (by omega) (by omega))).within
      (Rect.unit (s := S32x3072) ![0, 128 * (k % 24)] S32x128.size (inb2 (by omega) (by omega))) (fun _ => rfl),
    shapeCast S32x128 (uCol c M2 M3 M4 M5 M6 f2 f3 f4 f5 f6 (k / 24) k) shapeCasts_S32x128_S32x128⟩

/-- Columns `k` of chunk `r` as stored, read back. -/
def uLoad (r k : ℕ) : FVec F S32x128 .f32 :=
  (Memref.whole cc0_scratch4).view.readCov (pieces (uPiece c M2 M3 M4 M5 M6 f2 f3 f4 f5 f6) (24 * (r + 1)))
    ((Rect.unit (s := S384x3072) ![32 * (r % 12), 0] S32x3072.size (inb2 (A := 384) (B := 3072) (by omega) (by omega))).withinL
      (Rect.unit (s := S32x3072) ![0, 128 * (k % 24)] S32x128.size (inb2 (by omega) (by omega))).toLoadRect (fun _ => rfl))

def xPiece (k : ℕ) : View.Piece (Elt F) S384x3072 .fp8e4m3 :=
  ⟨Rect.unit ![32 * (k / 24 % 12), 128 * (k % 24)] S32x128.size (inb2 (by omega) (by omega)),
    codes32 (mulf (uLoad c M2 M3 M4 M5 M6 f2 f3 f4 f5 f6 (k / 24) k)
      (broadcastTo S32x128 (inv32 (uScale c M2 M3 M4 M5 M6 f2 f3 f4 f5 f6 (k / 24))) broadcasts_S32x1_S32x128))⟩

def xRepPiece (r : ℕ) : View.Piece (Elt F) S384x128 .f32 :=
  ⟨Rect.unit ![32 * (r % 12), 0] S32x128.size (inb2 (by omega) (by omega)), rep32 (uScale c M2 M3 M4 M5 M6 f2 f3 f4 f5 f6 r)⟩

def xRep : Vec F S384x128 .f32 :=
  (Memref.whole cc0_scratch6).view.readCov (pieces (xRepPiece c M2 M3 M4 M5 M6 f2 f3 f4 f5 f6) 12)
    (Rect.unit (s := S384x128) ![0, 0] S384x128.size (inb2 (by omega) (by omega))).toLoadRect

def xScalePiece (t : ℕ) : View.Piece (Elt F) S1x1x384 .f32 :=
  ⟨Rect.unit ![0, 0, 128 * (t % 3)] S1x1x128.size (inb3 (by omega) (by omega) (by omega)),
    lay128 ((Memref.whole cc0_scratch6).view.readCov (pieces (xRepPiece c M2 M3 M4 M5 M6 f2 f3 f4 f5 f6) 12)
      (Rect.unit (s := S384x128) ![128 * (t % 3), 0] S128x128.size (inb2 (by omega) (by omega))).toLoadRect)⟩

/-! ### The gated hidden layer -/

/-- All the codes of the normed residual. -/
def xCodes : Vec F S384x3072 .fp8e4m3 :=
  (Memref.whole cc0_scratch1).view.readCov (pieces (xPiece c M2 M3 M4 M5 M6 f2 f3 f4 f5 f6) 288)
    (Rect.unit (s := S384x3072) ![0, 0] S384x3072.size (inb2 (by omega) (by omega))).toLoadRect

/-- One of the two projections into the hidden layer, columns `n`. -/
def hLin (W : Memref sig .tc .vmem S3072x2048 .fp8e4m3) (S : Memref sig .tc .vmem S1x2048 .f32)
    (fW : Bf (F := F) c W) (fS : Bf (F := F) c S) (n : ℕ) : FVec F S384x256 .f32 :=
  mulf
    (mulf
      (matmul dot_S384x3072_S3072x256_S384x256_1_0_0_1_n_n none (xCodes c M2 M3 M4 M5 M6 f2 f3 f4 f5 f6)
        (View.readAt (Elt F) W.view (Rect.unit (s := S3072x2048) ![0, 256 * (n % 8)] S3072x256.size (inb2 (by omega) (by omega))).toLoadRect fW)
        (constant S384x256 .f32 0x00000000#32))
      (dup (xRep c M2 M3 M4 M5 M6 f2 f3 f4 f5 f6)))
    (rowOf (View.readAt (Elt F) S.view (Rect.unit (s := S1x2048) ![0, 256 * (n % 8)] S1x256.size (inb2 (by omega) (by omega))).toLoadRect fS))

def hCol (n : ℕ) : FVec F S384x256 .f32 :=
  mulf (mulf (hLin c M2 M3 M4 M5 M6 f2 f3 f4 f5 f6 M7 M8 f7 f8 n) (logistic (hLin c M2 M3 M4 M5 M6 f2 f3 f4 f5 f6 M7 M8 f7 f8 n)))
    (hLin c M2 M3 M4 M5 M6 f2 f3 f4 f5 f6 M9 M10 f9 f10 n)

def hPiece (n : ℕ) : View.Piece (Elt F) S384x3072 .f32 :=
  ⟨Rect.unit ![0, 256 * (n % 8)] S384x256.size (inb2 (by omega) (by omega)),
    shapeCast S384x256 (hCol c M2 M3 M4 M5 M6 M7 M8 M9 M10 f2 f3 f4 f5 f6 f7 f8 f9 f10 n) shapeCasts_S384x256_S384x256⟩

/-- The largest magnitude of the first `n` column blocks, lane by lane. -/
def hMax : ℕ → FVec F S384x128 .f32
  | 0 => broadcast S384x128 (Scalar.ofBits .f32 0x00000000#32)
  | n + 1 => maximumf
      (maximumf (hMax n) (absf (extractStridedSlice S384x128 ![0, 0]
        (hCol c M2 M3 M4 M5 M6 M7 M8 M9 M10 f2 f3 f4 f5 f6 f7 f8 f9 f10 n) slices_S384x256_o0_0_S384x128)))
      (absf (extractStridedSlice S384x128 ![0, 128]
        (hCol c M2 M3 M4 M5 M6 M7 M8 M9 M10 f2 f3 f4 f5 f6 f7 f8 f9 f10 n) slices_S384x256_o0_128_S384x128))

def hAmax : FVec F S384x1 .f32 :=
  shapeCast S384x1 (multiReduction .maximumf [1] S384 (hMax c M2 M3 M4 M5 M6 M7 M8 M9 M10 f2 f3 f4 f5 f6 f7 f8 f9 f10 8)
    0xFF800000#32 reduces_S384x128_S384 (.inl rfl) rfl) shapeCasts_S384_S384x1

def hScale : FVec F S384x1 .f32 :=
  select (cmpf .oeq (hAmax c M2 M3 M4 M5 M6 M7 M8 M9 M10 f2 f3 f4 f5 f6 f7 f8 f9 f10)
      (broadcast S384x1 (Scalar.ofBits .f32 0x00000000#32)))
    (broadcast S384x1 (Scalar.ofBits .f32 0x3F800000#32))
    (divf (hAmax c M2 M3 M4 M5 M6 M7 M8 M9 M10 f2 f3 f4 f5 f6 f7 f8 f9 f10)
      (broadcast S384x1 (Scalar.ofBits .f32 0x43E00000#32)))

def hRepPiece : View.Piece (Elt F) S384x128 .f32 :=
  ⟨Rect.unit ![0, 0] S384x128.size (inb2 (by omega) (by omega)),
    shapeCast S384x128 (broadcastTo S384x128
      (shapeCast S384x1 (hScale c M2 M3 M4 M5 M6 M7 M8 M9 M10 f2 f3 f4 f5 f6 f7 f8 f9 f10) shapeCasts_S384x1_S384x1)
      broadcasts_S384x1_S384x128) shapeCasts_S384x128_S384x128⟩

def hScalePiece (t : ℕ) : View.Piece (Elt F) S1x1x384 .f32 :=
  ⟨Rect.unit ![0, 0, 128 * (t % 3)] S1x1x128.size (inb3 (by omega) (by omega) (by omega)),
    lay128 ((Memref.whole cc0_scratch7).view.readCov
      (pieces (fun _ => hRepPiece c M2 M3 M4 M5 M6 M7 M8 M9 M10 f2 f3 f4 f5 f6 f7 f8 f9 f10) 1)
      (Rect.unit (s := S384x128) ![128 * (t % 3), 0] S128x128.size (inb2 (by omega) (by omega))).toLoadRect)⟩

/-- The writes to the wide scratch up to the end of the hidden layer: the normed residual's, then the hidden layer's. -/
def hWrites : List (View.Piece (Elt F) S384x3072 .f32) :=
  pieces (hPiece c M2 M3 M4 M5 M6 M7 M8 M9 M10 f2 f3 f4 f5 f6 f7 f8 f9 f10) 8
    ++ pieces (uPiece c M2 M3 M4 M5 M6 f2 f3 f4 f5 f6) 288

def hCodePiece (k : ℕ) : View.Piece (Elt F) S384x2048 .fp8e4m3 :=
  ⟨Rect.unit ![32 * (k / 16 % 12), 128 * (k % 16)] S32x128.size (inb2 (by omega) (by omega)),
    codes32 (mulf
      ((Memref.whole cc0_scratch4).view.readCov (hWrites c M2 M3 M4 M5 M6 M7 M8 M9 M10 f2 f3 f4 f5 f6 f7 f8 f9 f10)
        (Rect.unit (s := S384x3072) ![32 * (k / 16 % 12), 128 * (k % 16)] S32x128.size (inb2 (by omega) (by omega))).toLoadRect)
      (divf (broadcast S32x128 (Scalar.ofBits .f32 0x3F800000#32))
        ((Memref.whole cc0_scratch7).view.readCov
          (pieces (fun _ => hRepPiece c M2 M3 M4 M5 M6 M7 M8 M9 M10 f2 f3 f4 f5 f6 f7 f8 f9 f10) 1)
          (Rect.unit (s := S384x128) ![32 * (k / 16 % 12), 0] S32x128.size (inb2 (by omega) (by omega))).toLoadRect)))⟩

/-! ### The result -/

def zPiece (n : ℕ) : View.Piece (Elt F) S1x384x3072 .bf16 :=
  ⟨Rect.unit ![0, 0, 256 * (n % 12)] S1x384x256.size (inb3 (by omega) (by omega) (by omega)),
    shapeCast S1x384x256 (truncf .bf16 (addf
      ((Memref.whole cc0_scratch3).view.readCov (pieces (yPiece c M2 M3 M4 M5 M6 f2 f3 f4 f5 f6) 12)
        (Rect.unit (s := S384x3072) ![0, 256 * (n % 12)] S384x256.size (inb2 (by omega) (by omega))).toLoadRect)
      (mulf
        (broadcastTo S384x256 (View.readAt (Elt F) (modRow M4 5 (by omega)).view (Rect.unit (s := S1x3072) ![0, 256 * (n % 12)] S1x256.size
          (inb2 (by omega) (by omega))).toLoadRect f4) broadcasts_S1x256_S384x256)
        (mulf
          (mulf
            (matmul dot_S384x2048_S2048x256_S384x256_1_0_0_1_n_n none
              ((Memref.whole cc0_scratch2).view.readCov
                (pieces (hCodePiece c M2 M3 M4 M5 M6 M7 M8 M9 M10 f2 f3 f4 f5 f6 f7 f8 f9 f10) 192)
                (Rect.unit (s := S384x2048) ![0, 0] S384x2048.size (inb2 (by omega) (by omega))).toLoadRect)
              (View.readAt (Elt F) M11.view (Rect.unit (s := S2048x3072) ![0, 256 * (n % 12)] S2048x256.size
                (inb2 (by omega) (by omega))).toLoadRect f11)
              (constant S384x256 .f32 0x00000000#32))
            (dup ((Memref.whole cc0_scratch7).view.readCov
              (pieces (fun _ => hRepPiece c M2 M3 M4 M5 M6 M7 M8 M9 M10 f2 f3 f4 f5 f6 f7 f8 f9 f10) 1)
              (Rect.unit (s := S384x128) ![0, 0] S384x128.size (inb2 (by omega) (by omega))).toLoadRect)))
          (rowOf (View.readAt (Elt F) M12.view (Rect.unit (s := S1x3072) ![0, 256 * (n % 12)] S1x256.size
            (inb2 (by omega) (by omega))).toLoadRect f12))))) bitsLt_bf16_f32) shapeCasts_S384x256_S1x384x256⟩

end

end Cert.KernelIdeal.Hand.Tile

end
-- ==== Proof.RowSpec.lean ====
/-
  The layer on one token, over the extended reals: the largest magnitude of a row, its scale and codes, the linear map on
  codes, the modulated norm and the gated hidden layer. Both programs are shown to compute these, row by row; the lemmas
  at the end are the steps on which their arithmetic differs.
-/
module

public import Idealize.ShloMosaic.PureOps.Ideal
public import Idealize.ShloMosaic.Lib.Pointwise

@[expose] public section

noncomputable section

namespace Cert.RowSpec

open Idealize.ShloMosaic

/-- 448, the largest magnitude of a code. -/
def top : EReal := Ideal.ofBits .f32 0x43E00000#32
/-- -448. -/
def bot : EReal := Ideal.ofBits .f32 0xC3E00000#32
/-- 3072, the width of the model. -/
def width : EReal := Ideal.ofBits .f32 0x45400000#32
/-- The norm's small addend. -/
def eps : EReal := Ideal.ofBits .f32 0x358637BD#32
/-- Minus infinity, from which a largest value starts. -/
def ninf : EReal := Ideal.ofBits .f32 0xFF800000#32

/-- A magnitude. -/
def mag (x : EReal) : EReal := max x (-x)

/-- The largest magnitude of a row. -/
def amax {n : ℕ} (v : Fin n → EReal) : EReal := Finset.fold max ninf (fun j => mag (v j)) Finset.univ

/-- The scale of a row whose largest magnitude is `a`. -/
def scaleOf (a : EReal) : EReal := if a = 0 then 1 else Ideal.div a top

/-- The scale of a row. -/
def scale {n : ℕ} (v : Fin n → EReal) : EReal := scaleOf (amax v)

/-- A value clamped to what a code holds. -/
def clamp (x : EReal) : EReal := min top (max bot x)

/-- The codes of a row. -/
def codes {n : ℕ} (v : Fin n → EReal) (j : Fin n) : EReal := clamp (Ideal.div (v j) (scale v))

/-- One output of the linear map on a row's codes: weights `w`, weight scale `s`. -/
def lin {n : ℕ} (v : Fin n → EReal) (w : Fin n → EReal) (s : EReal) : EReal := (∑ k, codes v k * w k) * scale v * s

/-- The residual row. -/
def resid (att : Fin 768 → EReal) (x gate : Fin 3072 → EReal) (wo : Fin 768 → Fin 3072 → EReal) (so : Fin 3072 → EReal)
    (j : Fin 3072) : EReal := x j + gate j * lin att (fun k => wo k j) (so j)

/-- The mean square of a row, and the small addend. -/
def meanSq (y : Fin 3072 → EReal) : EReal := Ideal.div (∑ i, y i * y i) width + eps

/-- The normed and modulated row. -/
def normed (y shift sc : Fin 3072 → EReal) (j : Fin 3072) : EReal :=
  Ideal.div (y j) (Ideal.sqrt (meanSq y)) * (1 + sc j) + shift j

/-- The gated hidden row. -/
def hidden (u : Fin 3072 → EReal) (w1 w3 : Fin 3072 → Fin 2048 → EReal) (s1 s3 : Fin 2048 → EReal) (j : Fin 2048) : EReal :=
  lin u (fun k => w1 k j) (s1 j) * Ideal.logistic (lin u (fun k => w1 k j) (s1 j)) * lin u (fun k => w3 k j) (s3 j)

/-- The result row. -/
def result (y gate : Fin 3072 → EReal) (h : Fin 2048 → EReal) (w2 : Fin 2048 → Fin 3072 → EReal) (s2 : Fin 3072 → EReal)
    (j : Fin 3072) : EReal := y j + gate j * lin h (fun k => w2 k j) (s2 j)

/-! ### The constants -/

theorem ninf_eq : ninf = ⊥ := by simp [ninf, Ideal.ofBits, Ideal.ieee]

theorem top_eq : top = ((448 : ℝ) : EReal) := by
  simp [top, Ideal.ofBits, Ideal.ieee, -EReal.coe_mul]; norm_num

theorem width_pos : ∃ r : ℝ, 0 < r ∧ width = (r : EReal) := by
  refine ⟨3072, by norm_num, ?_⟩
  simp [width, Ideal.ofBits, Ideal.ieee, -EReal.coe_mul]; norm_num

theorem eps_pos : ∃ r : ℝ, 0 < r ∧ eps = (r : EReal) := by
  refine ⟨8796093 * 2 ^ (-43 : ℤ), by positivity, ?_⟩
  simp [eps, Ideal.ofBits, Ideal.ieee, -EReal.coe_mul]

/-! ### Largest magnitudes -/

theorem mag_nonneg (x : EReal) : 0 ≤ mag x := by
  rcases le_total 0 x with h | h
  · exact le_trans h (le_max_left _ _)
  · exact le_trans (by simpa using EReal.neg_le_neg_iff.mpr h) (le_max_right x (-x))

theorem amax_le {n : ℕ} (v : Fin n → EReal) (b : EReal) : amax v ≤ b ↔ ∀ j, mag (v j) ≤ b := by
  rw [amax, Finset.fold_max_le, ninf_eq]; simp

/-- A value with the upper bounds of the magnitudes is the largest magnitude. -/
theorem eq_amax {n : ℕ} (v : Fin n → EReal) (a : EReal) (h : ∀ b, a ≤ b ↔ ∀ j, mag (v j) ≤ b) : a = amax v :=
  eq_of_forall_ge_iff fun b => (h b).trans (amax_le v b).symm

/-- A running largest value from minus infinity, bounded above. -/
theorem fold_le {n : ℕ} (f : Fin n → EReal) (b : EReal) :
    Finset.fold max (Ideal.ofBits .f32 0xFF800000#32) f Finset.univ ≤ b ↔ ∀ j, f j ≤ b := by
  rw [show Ideal.ofBits .f32 0xFF800000#32 = ⊥ from ninf_eq, Finset.fold_max_le]; simp

/-! ### Multiplying by the inverse -/

theorem scaleOf_ne_zero (a : EReal) : scaleOf a ≠ 0 := by
  unfold scaleOf
  split
  · exact one_ne_zero
  · rename_i h
    have ht : top ≠ 0 := by rw [top_eq]; exact_mod_cast (by norm_num : (448 : ℝ) ≠ 0)
    rw [Ideal.div, if_neg ht]
    refine mul_ne_zero h ?_
    rw [top_eq, ← EReal.coe_inv]
    exact_mod_cast (by norm_num : (448 : ℝ)⁻¹ ≠ 0)

theorem mul_one_div (v s : EReal) (hs : s ≠ 0) : v * Ideal.div 1 s = Ideal.div v s := by
  simp [Ideal.div, hs]

theorem mul_one_div_scaleOf (v a : EReal) : v * Ideal.div 1 (scaleOf a) = Ideal.div v (scaleOf a) :=
  mul_one_div v _ (scaleOf_ne_zero a)

/-! ### The norm -/

theorem mul_self_nonneg' (x : EReal) : 0 ≤ x * x := by
  rcases le_total 0 x with h | h
  · exact mul_nonneg h h
  · rw [← neg_mul_neg]
    exact mul_nonneg (by simpa using EReal.neg_le_neg_iff.mpr h) (by simpa using EReal.neg_le_neg_iff.mpr h)

theorem meanSq_pos (y : Fin 3072 → EReal) : 0 < meanSq y := by
  obtain ⟨w, hw, hwe⟩ := width_pos
  obtain ⟨e, he, hee⟩ := eps_pos
  have h0 : 0 ≤ Ideal.div (∑ i, y i * y i) width := by
    rw [Ideal.div, if_neg (by rw [hwe]; exact_mod_cast hw.ne')]
    refine mul_nonneg (Finset.sum_nonneg fun i _ => mul_self_nonneg' _) ?_
    rw [hwe, ← EReal.coe_inv]
    exact_mod_cast (inv_pos.mpr hw).le
  have h1 : (0 : EReal) < eps := by rw [hee]; exact_mod_cast he
  unfold meanSq
  exact lt_of_lt_of_le h1 (by simpa using add_le_add_left h0 eps)

theorem mul_rsqrt (v q : EReal) (hq : 0 < q) : v * Ideal.rsqrt q = Ideal.div v (Ideal.sqrt q) := by
  induction q with
  | bot => exact absurd hq (by simp)
  | top =>
    have h1 : Ideal.rsqrt ⊤ = 0 := rfl
    have h2 : Ideal.sqrt ⊤ = ⊤ := rfl
    rw [h1, h2, Ideal.div, if_neg (by simp), EReal.inv_top]
  | coe r =>
    have hr : 0 < r := by exact_mod_cast hq
    have hs : Real.sqrt r ≠ 0 := (Real.sqrt_pos.mpr hr).ne'
    have hs' : ((Real.sqrt r : ℝ) : EReal) ≠ 0 := by exact_mod_cast hs
    have h1 : Ideal.rsqrt (r : EReal) = if r < 0 then ⊥ else if r = 0 then ⊤ else (((Real.sqrt r)⁻¹ : ℝ) : EReal) := rfl
    have h2 : Ideal.sqrt (r : EReal) = if r < 0 then ⊥ else ((Real.sqrt r : ℝ) : EReal) := rfl
    rw [h1, h2, if_neg (not_lt.mpr hr.le), if_neg hr.ne', if_neg (not_lt.mpr hr.le), Ideal.div, if_neg hs', EReal.coe_inv]

end Cert.RowSpec

end
-- ==== Proof.TileLoads.lean ====
/-
  Loads from buffers filled piece by piece, coordinate by coordinate; the vector expressions of `TileLoops` at an index.
-/
module

public import proofs.«01_k».proof.Proof.TileLoops
public import proofs.«01_k».proof.Proof.RowSpec
public import Idealize.ShloMosaic.Lib.Pointwise

@[expose] public section

noncomputable section

namespace Cert.KernelIdeal.Hand.Tile

open Cert.KernelIdeal Cert.KernelIdeal.Gen Cert.KernelIdeal.Hand
open Idealize.ShloMosaic Idealize.ShloMosaic.TcCoe
open Idealize.SL.Sem

section
variable {Val : EltTy → Type} {e : EltTy}

/-- A list of writes holds, piece by piece, the values of one function of the buffer's index. -/
def Agrees {S : Shape} (L : List (View.Piece Val S e)) (G : S.Idx → Val e) : Prop :=
  ∀ p ∈ L, ∀ x : p.1.shape.Idx, p.2 x = G (p.1.emb x)

/-- A list of writes covers its buffer. -/
def Covers {S : Shape} (L : List (View.Piece Val S e)) : Prop := ∀ y : S.Idx, ∃ p ∈ L, y ∈ p.1.set

end

section
variable {F : FTy → Type} [FloatOps F] {e : EltTy} {S : Shape}

theorem mem_pieces (f : ℕ → View.Piece (Elt F) S e) (n : ℕ) (p : View.Piece (Elt F) S e) :
    p ∈ pieces f n ↔ ∃ k, k < n ∧ f k = p := by
  induction n with
  | zero => simp [pieces]
  | succ n ih =>
    rw [pieces, List.mem_cons, ih]
    constructor
    · rintro (rfl | ⟨k, hk, rfl⟩)
      · exact ⟨n, by omega, rfl⟩
      · exact ⟨k, by omega, rfl⟩
    · rintro ⟨k, hk, rfl⟩
      rcases Nat.lt_succ_iff_lt_or_eq.mp hk with h | rfl
      · exact .inr ⟨k, h, rfl⟩
      · exact .inl rfl

theorem agrees_pieces {f : ℕ → View.Piece (Elt F) S e} {n : ℕ} {G : S.Idx → Elt F e}
    (h : ∀ k, k < n → ∀ x, (f k).2 x = G ((f k).1.emb x)) : Agrees (pieces f n) G := by
  intro p hp x
  obtain ⟨k, hk, rfl⟩ := (mem_pieces f n p).mp hp
  exact h k hk x

theorem covers_pieces {f : ℕ → View.Piece (Elt F) S e} {n : ℕ} (h : ∀ y, ∃ k, k < n ∧ y ∈ (f k).1.set) :
    Covers (pieces f n) := by
  intro y
  obtain ⟨k, hk, hy⟩ := h y
  exact ⟨f k, (mem_pieces f n _).mpr ⟨k, hk, rfl⟩, hy⟩

end

section
variable {Val : EltTy → Type} {e : EltTy} {sp : Space}

theorem emb2 {A B a b o p : ℕ} (h : ∀ x, (![o, p] : Fin 2 → ℕ) x + (⟨2, ![a, b]⟩ : Shape).size x ≤ (⟨2, ![A, B]⟩ : Shape).size x)
    (i : Fin a) (j : Fin b) : (Rect.unit (s := ⟨2, ![A, B]⟩) ![o, p] (⟨2, ![a, b]⟩ : Shape).size h).emb (ix2 i j)
      = ix2 (⟨o + i, lt_of_lt_of_le (Nat.add_lt_add_left i.isLt o) (h 0)⟩ : Fin A)
        (⟨p + j, lt_of_lt_of_le (Nat.add_lt_add_left j.isLt p) (h 1)⟩ : Fin B) := by
  refine Rect.emb_eq_of_coords _ _ _ fun x => ?_
  match x with
  | ⟨0, _⟩ => show o + i.val = o + 1 * i.val; omega
  | ⟨1, _⟩ => show p + j.val = p + 1 * j.val; omega

theorem emb3 {A B C a b c o p q : ℕ} (h : ∀ x, (![o, p, q] : Fin 3 → ℕ) x + (⟨3, ![a, b, c]⟩ : Shape).size x ≤ (⟨3, ![A, B, C]⟩ : Shape).size x)
    (i : Fin a) (j : Fin b) (k : Fin c) : (Rect.unit (s := ⟨3, ![A, B, C]⟩) ![o, p, q] (⟨3, ![a, b, c]⟩ : Shape).size h).emb (ix3 i j k)
      = ix3 (⟨o + i, lt_of_lt_of_le (Nat.add_lt_add_left i.isLt o) (h 0)⟩ : Fin A)
        (⟨p + j, lt_of_lt_of_le (Nat.add_lt_add_left j.isLt p) (h 1)⟩ : Fin B)
        (⟨q + k, lt_of_lt_of_le (Nat.add_lt_add_left k.isLt q) (h 2)⟩ : Fin C) := by
  refine Rect.emb_eq_of_coords _ _ _ fun x => ?_
  match x with
  | ⟨0, _⟩ => show o + i.val = o + 1 * i.val; omega
  | ⟨1, _⟩ => show p + j.val = p + 1 * j.val; omega
  | ⟨2, _⟩ => show q + k.val = q + 1 * k.val; omega

theorem emb4 {A B C D a b c d o p q r : ℕ} (h : ∀ x, (![o, p, q, r] : Fin 4 → ℕ) x + (⟨4, ![a, b, c, d]⟩ : Shape).size x ≤ (⟨4, ![A, B, C, D]⟩ : Shape).size x)
    (i : Fin a) (j : Fin b) (k : Fin c) (l : Fin d) : (Rect.unit (s := ⟨4, ![A, B, C, D]⟩) ![o, p, q, r] (⟨4, ![a, b, c, d]⟩ : Shape).size h).emb (ix4 i j k l)
      = ix4 (⟨o + i, lt_of_lt_of_le (Nat.add_lt_add_left i.isLt o) (h 0)⟩ : Fin A)
        (⟨p + j, lt_of_lt_of_le (Nat.add_lt_add_left j.isLt p) (h 1)⟩ : Fin B)
        (⟨q + k, lt_of_lt_of_le (Nat.add_lt_add_left k.isLt q) (h 2)⟩ : Fin C)
        (⟨r + l, lt_of_lt_of_le (Nat.add_lt_add_left l.isLt r) (h 3)⟩ : Fin D) := by
  refine Rect.emb_eq_of_coords _ _ _ fun x => ?_
  match x with
  | ⟨0, _⟩ => show o + i.val = o + 1 * i.val; omega
  | ⟨1, _⟩ => show p + j.val = p + 1 * j.val; omega
  | ⟨2, _⟩ => show q + k.val = q + 1 * k.val; omega
  | ⟨3, _⟩ => show r + l.val = r + 1 * l.val; omega

theorem mem2 {A B a b o p : ℕ} (h : ∀ x, (![o, p] : Fin 2 → ℕ) x + (⟨2, ![a, b]⟩ : Shape).size x ≤ (⟨2, ![A, B]⟩ : Shape).size x)
    (y : (⟨2, ![A, B]⟩ : Shape).Idx) (h0 : o ≤ (y 0).val ∧ (y 0).val < o + a) (h1 : p ≤ (y 1).val ∧ (y 1).val < p + b) :
    y ∈ (Rect.unit (s := ⟨2, ![A, B]⟩) ![o, p] (⟨2, ![a, b]⟩ : Shape).size h).set := by
  refine Rect.mem_set_unit.mpr fun x => ?_
  match x with
  | ⟨0, _⟩ => exact h0
  | ⟨1, _⟩ => exact h1

theorem mem3 {A B C a b c o p q : ℕ} (h : ∀ x, (![o, p, q] : Fin 3 → ℕ) x + (⟨3, ![a, b, c]⟩ : Shape).size x ≤ (⟨3, ![A, B, C]⟩ : Shape).size x)
    (y : (⟨3, ![A, B, C]⟩ : Shape).Idx) (h0 : o ≤ (y 0).val ∧ (y 0).val < o + a) (h1 : p ≤ (y 1).val ∧ (y 1).val < p + b)
    (h2 : q ≤ (y 2).val ∧ (y 2).val < q + c) :
    y ∈ (Rect.unit (s := ⟨3, ![A, B, C]⟩) ![o, p, q] (⟨3, ![a, b, c]⟩ : Shape).size h).set := by
  refine Rect.mem_set_unit.mpr fun x => ?_
  match x with
  | ⟨0, _⟩ => exact h0
  | ⟨1, _⟩ => exact h1
  | ⟨2, _⟩ => exact h2

/-- A load from the buffer's first contents, at a place. -/
theorem readAt2 {A B a b o p : ℕ} (v : View sig .tc sp ⟨2, ![A, B]⟩ e) (f : v.ty.Contents Val)
    (h : ∀ x, (![o, p] : Fin 2 → ℕ) x + (⟨2, ![a, b]⟩ : Shape).size x ≤ (⟨2, ![A, B]⟩ : Shape).size x) (i : Fin a) (j : Fin b) :
    v.readAt Val (Rect.unit (s := ⟨2, ![A, B]⟩) ![o, p] (⟨2, ![a, b]⟩ : Shape).size h).toLoadRect f (ix2 i j)
      = v.read Val f (ix2 (⟨o + i, lt_of_lt_of_le (Nat.add_lt_add_left i.isLt o) (h 0)⟩ : Fin A)
        (⟨p + j, lt_of_lt_of_le (Nat.add_lt_add_left j.isLt p) (h 1)⟩ : Fin B)) :=
  congrArg (v.read Val f) (emb2 h i j)

theorem readAt3 {A B C a b c o p q : ℕ} (v : View sig .tc sp ⟨3, ![A, B, C]⟩ e) (f : v.ty.Contents Val)
    (h : ∀ x, (![o, p, q] : Fin 3 → ℕ) x + (⟨3, ![a, b, c]⟩ : Shape).size x ≤ (⟨3, ![A, B, C]⟩ : Shape).size x)
    (i : Fin a) (j : Fin b) (k : Fin c) :
    v.readAt Val (Rect.unit (s := ⟨3, ![A, B, C]⟩) ![o, p, q] (⟨3, ![a, b, c]⟩ : Shape).size h).toLoadRect f (ix3 i j k)
      = v.read Val f (ix3 (⟨o + i, lt_of_lt_of_le (Nat.add_lt_add_left i.isLt o) (h 0)⟩ : Fin A)
        (⟨p + j, lt_of_lt_of_le (Nat.add_lt_add_left j.isLt p) (h 1)⟩ : Fin B)
        (⟨q + k, lt_of_lt_of_le (Nat.add_lt_add_left k.isLt q) (h 2)⟩ : Fin C)) :=
  congrArg (v.read Val f) (emb3 h i j k)

theorem readAt4 {A B C D a b c d o p q r : ℕ} (v : View sig .tc sp ⟨4, ![A, B, C, D]⟩ e) (f : v.ty.Contents Val)
    (h : ∀ x, (![o, p, q, r] : Fin 4 → ℕ) x + (⟨4, ![a, b, c, d]⟩ : Shape).size x ≤ (⟨4, ![A, B, C, D]⟩ : Shape).size x)
    (i : Fin a) (j : Fin b) (k : Fin c) (l : Fin d) :
    v.readAt Val (Rect.unit (s := ⟨4, ![A, B, C, D]⟩) ![o, p, q, r] (⟨4, ![a, b, c, d]⟩ : Shape).size h).toLoadRect f (ix4 i j k l)
      = v.read Val f (ix4 (⟨o + i, lt_of_lt_of_le (Nat.add_lt_add_left i.isLt o) (h 0)⟩ : Fin A)
        (⟨p + j, lt_of_lt_of_le (Nat.add_lt_add_left j.isLt p) (h 1)⟩ : Fin B)
        (⟨q + k, lt_of_lt_of_le (Nat.add_lt_add_left k.isLt q) (h 2)⟩ : Fin C)
        (⟨r + l, lt_of_lt_of_le (Nat.add_lt_add_left l.isLt r) (h 3)⟩ : Fin D)) :=
  congrArg (v.read Val f) (emb4 h i j k l)

variable [∀ e, Nonempty (Val e)]

/-- A load from a buffer filled by writes that agree with `G` and cover what it reads. -/
theorem readCov2 {A B a b o p : ℕ} (v : View sig .tc sp ⟨2, ![A, B]⟩ e) (L : List (View.Piece Val ⟨2, ![A, B]⟩ e))
    (G : (⟨2, ![A, B]⟩ : Shape).Idx → Val e) (hG : Agrees L G)
    (h : ∀ x, (![o, p] : Fin 2 → ℕ) x + (⟨2, ![a, b]⟩ : Shape).size x ≤ (⟨2, ![A, B]⟩ : Shape).size x) (i : Fin a) (j : Fin b)
    (hc : ∃ q ∈ L, ix2 (⟨o + i, lt_of_lt_of_le (Nat.add_lt_add_left i.isLt o) (h 0)⟩ : Fin A)
        (⟨p + j, lt_of_lt_of_le (Nat.add_lt_add_left j.isLt p) (h 1)⟩ : Fin B) ∈ q.1.set) :
    v.readCov L (Rect.unit (s := ⟨2, ![A, B]⟩) ![o, p] (⟨2, ![a, b]⟩ : Shape).size h).toLoadRect (ix2 i j)
      = G (ix2 (⟨o + i, lt_of_lt_of_le (Nat.add_lt_add_left i.isLt o) (h 0)⟩ : Fin A)
        (⟨p + j, lt_of_lt_of_le (Nat.add_lt_add_left j.isLt p) (h 1)⟩ : Fin B)) :=
  (congrArg (v.read Val (v.writes Val v.junk L)) (emb2 h i j)).trans (View.read_writes_apply_of_pieces v _ G L hG _ hc)

end

/-! ### The step arithmetic at an index -/

open Cert.RowSpec

theorem rowMax32_apply (v : FVec Ideal S32x128 .f32) (i : Fin 32) (b : EReal) :
    rowMax32 v (ix2 i (0 : Fin 1)) ≤ b ↔ ∀ j : Fin 128, v (ix2 i j) ≤ b := by
  pointwise [rowMax32]
  exact fold_le _ b

theorem dup_apply (v : Vec Ideal S384x128 .f32) (g : Fin 384 → EReal) (h : ∀ i j, v (ix2 i j) = g i) (i : Fin 384) (j : Fin 256) :
    dup v (ix2 i j) = g i := by
  pointwise [dup]
  split <;> exact h _ _

theorem rep32_apply (v : FVec Ideal S32x1 .f32) (i : Fin 32) (j : Fin 128) : rep32 v (ix2 i j) = v (ix2 i 0) := by
  pointwise [rep32]

theorem lay128_apply (v : Vec Ideal S128x128 .f32) (j : Fin 128) : lay128 v (ix3 0 0 j) = v (ix2 j 0) := by
  pointwise [lay128]

theorem rowOf_apply (v : Vec Ideal S1x256 .f32) (i : Fin 384) (j : Fin 256) : rowOf v (ix2 i j) = v (ix2 0 j) := by
  pointwise [rowOf]

theorem scale32_apply (v : FVec Ideal S32x1 .f32) (i : Fin 32) : scale32 v (ix2 i 0) = scaleOf (v (ix2 i 0)) := by
  pointwise [scale32]
  rfl

theorem codes32_apply (v : FVec Ideal S32x128 .f32) (i : Fin 32) (j : Fin 128) : codes32 v (ix2 i j) = clamp (v (ix2 i j)) := by
  pointwise [codes32]
  rfl

theorem inv32_apply (v : FVec Ideal S32x1 .f32) (i : Fin 32) : inv32 v (ix2 i 0) = Ideal.div 1 (v (ix2 i 0)) := by
  pointwise [inv32]

theorem spread32_apply (v : FVec Ideal S32x1 .f32) (i : Fin 32) (j : Fin 128) :
    (broadcastTo S32x128 v broadcasts_S32x1_S32x128 : FVec Ideal S32x128 .f32) (ix2 i j) = v (ix2 i 0) := by
  pointwise

end Cert.KernelIdeal.Hand.Tile

end
-- ==== Proof.TileAttention.lean ====
/-
  What a tile writes of the attention output: codes, scales, the copy, and the residual. Row by row, at the ideal values.
-/
module

public import proofs.«01_k».proof.Proof.TileLoads

@[expose] public section

noncomputable section

namespace Cert.KernelIdeal.Hand.Tile

open Cert.KernelIdeal Cert.KernelIdeal.Gen Cert.KernelIdeal.Hand
open Idealize.ShloMosaic Idealize.ShloMosaic.TcCoe
open Idealize.SL.Sem
open Cert.RowSpec

/-- A function of row and column as a function of an index. -/
def G2 {A B : ℕ} (g : Fin A → Fin B → EReal) : (⟨2, ![A, B]⟩ : Shape).Idx → EReal := fun y => g (y 0) (y 1)

def G3 {A B C : ℕ} (g : Fin A → Fin B → Fin C → EReal) : (⟨3, ![A, B, C]⟩ : Shape).Idx → EReal := fun y => g (y 0) (y 1) (y 2)

theorem maximumf_apply {s : Shape} (a b : FVec Ideal s .f32) (i : s.Idx) : maximumf a b i = max (a i) (b i) := rfl

theorem absf_apply {s : Shape} (a : FVec Ideal s .f32) (i : s.Idx) : absf a i = mag (a i) := rfl

theorem mulf_apply {s : Shape} (a b : FVec Ideal s .f32) (i : s.Idx) : mulf a b i = (a i * b i : EReal) := rfl

theorem addf_apply {s : Shape} (a b : FVec Ideal s .f32) (i : s.Idx) : addf a b i = (a i + b i : EReal) := rfl

theorem at_unit2 {A B a b o p : ℕ}
    (h : ∀ x, (![o, p] : Fin 2 → ℕ) x + (⟨2, ![a, b]⟩ : Shape).size x ≤ (⟨2, ![A, B]⟩ : Shape).size x)
    (w : (⟨2, ![a, b]⟩ : Shape).Idx → EReal) (g : Fin A → Fin B → EReal)
    (hw : ∀ (i : Fin a) (j : Fin b), w (ix2 i j) = g ⟨o + i, lt_of_lt_of_le (Nat.add_lt_add_left i.isLt o) (h 0)⟩
      ⟨p + j, lt_of_lt_of_le (Nat.add_lt_add_left j.isLt p) (h 1)⟩) :
    ∀ x, w x = G2 g ((Rect.unit (s := ⟨2, ![A, B]⟩) ![o, p] (⟨2, ![a, b]⟩ : Shape).size h).emb x) := by
  intro x
  obtain ⟨i, j, rfl⟩ : ∃ (i : Fin a) (j : Fin b), x = ix2 i j := ⟨x 0, x 1, eq_ix2 x⟩
  rw [emb2]
  exact hw i j

theorem at_unit3 {A B C a b c o p q : ℕ}
    (h : ∀ x, (![o, p, q] : Fin 3 → ℕ) x + (⟨3, ![a, b, c]⟩ : Shape).size x ≤ (⟨3, ![A, B, C]⟩ : Shape).size x)
    (w : (⟨3, ![a, b, c]⟩ : Shape).Idx → EReal) (g : Fin A → Fin B → Fin C → EReal)
    (hw : ∀ (i : Fin a) (j : Fin b) (k : Fin c), w (ix3 i j k) = g ⟨o + i, lt_of_lt_of_le (Nat.add_lt_add_left i.isLt o) (h 0)⟩
      ⟨p + j, lt_of_lt_of_le (Nat.add_lt_add_left j.isLt p) (h 1)⟩ ⟨q + k, lt_of_lt_of_le (Nat.add_lt_add_left k.isLt q) (h 2)⟩) :
    ∀ x, w x = G3 g ((Rect.unit (s := ⟨3, ![A, B, C]⟩) ![o, p, q] (⟨3, ![a, b, c]⟩ : Shape).size h).emb x) := by
  intro x
  obtain ⟨i, j, k, rfl⟩ : ∃ (i : Fin a) (j : Fin b) (k : Fin c), x = ix3 i j k := ⟨x 0, x 1, x 2, eq_ix3 x⟩
  rw [emb3]
  exact hw i j k

theorem head_apply (v : Vec Ideal S1x1x32x128 .f32) (i : Fin 32) (j : Fin 128) :
    (shapeCast S32x128 v shapeCasts_S1x1x32x128_S32x128 : FVec Ideal S32x128 .f32) (ix2 i j) = v (ix4 0 0 i j) := by
  pointwise

theorem copy_apply (v : FVec Ideal S32x128 .f32) (i : Fin 32) (j : Fin 128) :
    (shapeCast S1x32x128 (truncf .bf16 v bitsLt_bf16_f32) shapeCasts_S32x128_S1x32x128 : FVec Ideal S1x32x128 .bf16) (ix3 0 i j)
      = v (ix2 i j) := by
  pointwise

theorem row_apply (v : Vec Ideal S1x1x3072 .f32) (a : Fin 1) (j : Fin 3072) :
    (shapeCast S1x3072 v shapeCasts_S1x1x3072_S1x3072 : FVec Ideal S1x3072 .f32) (ix2 a j) = v (ix3 0 0 j) := by
  obtain rfl : a = 0 := Subsingleton.elim _ _
  pointwise

theorem residual_apply (vx : Vec Ideal S1x384x256 .bf16) (vg : Vec Ideal S1x256 .f32) (vc : FVec Ideal S384x768 .fp8e4m3)
    (vw : FVec Ideal S768x256 .fp8e4m3) (vd vs : FVec Ideal S384x256 .f32) (i : Fin 384) (j : Fin 256) :
    (shapeCast S384x256 (addf (extf .f32 (shapeCast S384x256 vx shapeCasts_S1x384x256_S384x256 : FVec Ideal S384x256 .bf16) bitsLt_bf16_f32)
      (mulf (broadcastTo S384x256 vg broadcasts_S1x256_S384x256 : FVec Ideal S384x256 .f32)
        (mulf (mulf (matmul dot_S384x768_S768x256_S384x256_1_0_0_1_n_n none vc vw (constant S384x256 .f32 0x00000000#32)) vd) vs))) shapeCasts_S384x256_S384x256 : FVec Ideal S384x256 .f32) (ix2 i j)
      = (vx (ix3 0 i j) : EReal) + vg (ix2 0 j) * ((∑ x : Fin 768, (vc (ix2 i x) : EReal) * vw (ix2 x j)) * vd (ix2 i j) * vs (ix2 i j)) := by
  pointwise

section
variable (c : Dev nD)
  (M2 : Memref sig .tc .vmem S1x6x384x128 .f32) (M3 : Memref sig .tc .vmem S1x384x3072 .bf16)
  (M4 : Memref sig .tc .vmem S1x6x3072 .f32) (M5 : Memref sig .tc .vmem S768x3072 .fp8e4m3)
  (M6 : Memref sig .tc .vmem S1x3072 .f32)
  (f2 : Bf (F := Ideal) c M2) (f3 : Bf (F := Ideal) c M3) (f4 : Bf (F := Ideal) c M4) (f5 : Bf (F := Ideal) c M5)
  (f6 : Bf (F := Ideal) c M6)

/-- A row of the attention output, its heads side by side. -/
def attRow (i : Fin 384) (d : Fin 768) : EReal :=
  M2.view.read (Elt Ideal) f2 (ix4 (0 : Fin 1) (⟨d / 128, by omega⟩ : Fin 6) i (⟨d % 128, by omega⟩ : Fin 128))

/-- Entry `j` of row `q` of the modulation. -/
def modAt (q : Fin 6) (j : Fin 3072) : EReal := M4.view.read (Elt Ideal) f4 (ix3 (0 : Fin 1) q j)

/-- A row of the residual. -/
def resRow (i : Fin 384) : Fin 3072 → EReal :=
  resid (attRow c M2 f2 i) (fun j => M3.view.read (Elt Ideal) f3 (ix3 (0 : Fin 1) i j)) (modAt c M4 f4 2)
    (fun k j => M5.view.read (Elt Ideal) f5 (ix2 k j)) (fun j => M6.view.read (Elt Ideal) f6 (ix2 (0 : Fin 1) j))

theorem att_apply (r h : ℕ) (i : Fin 32) (j : Fin 128) : att c M2 f2 r h (ix2 i j)
    = attRow c M2 f2 (⟨32 * (r % 12) + i, by omega⟩ : Fin 384) (⟨128 * (h % 6) + j, by omega⟩ : Fin 768) := by
  refine (head_apply _ i j).trans ?_
  refine (readAt4 M2.view f2 _ 0 0 i j).trans ?_
  unfold attRow
  congr 2
  · exact Fin.ext (by show h % 6 + 0 = (128 * (h % 6) + j.val) / 128; omega)
  · exact Fin.ext (by show 0 + j.val = (128 * (h % 6) + j.val) % 128; omega)

theorem attScale_apply (r : ℕ) (i : Fin 32) : attScale c M2 f2 r (ix2 i 0)
    = scale (attRow c M2 f2 (⟨32 * (r % 12) + i, by omega⟩ : Fin 384)) := by
  rw [attScale, scale32_apply, scale]
  congr 1
  refine eq_amax _ _ fun b => ?_
  rw [rowMax32_apply]
  simp only [maximumf_apply, absf_apply, att_apply, max_le_iff]
  constructor
  · intro h d
    have hd := h (⟨d % 128, by omega⟩ : Fin 128)
    have hq : d.val / 128 < 6 := by omega
    have key : ∀ q : ℕ, d.val / 128 = q → (hq : 128 * (q % 6) + d.val % 128 < 768) → q < 6 →
        mag (attRow c M2 f2 (⟨32 * (r % 12) + i, by omega⟩ : Fin 384) (⟨128 * (q % 6) + d.val % 128, hq⟩ : Fin 768)) ≤ b →
        mag (attRow c M2 f2 (⟨32 * (r % 12) + i, by omega⟩ : Fin 384) d) ≤ b := by
      intro q h1 h2 h3 h4
      have : (⟨128 * (q % 6) + d.val % 128, h2⟩ : Fin 768) = d := Fin.ext (by show 128 * (q % 6) + d.val % 128 = d.val; omega)
      rwa [this] at h4
    obtain ⟨⟨⟨⟨⟨h0, h1⟩, h2⟩, h3⟩, h4⟩, h5⟩ := hd
    have : d.val / 128 = 0 ∨ d.val / 128 = 1 ∨ d.val / 128 = 2 ∨ d.val / 128 = 3 ∨ d.val / 128 = 4 ∨ d.val / 128 = 5 := by omega
    rcases this with e | e | e | e | e | e
    · exact key 0 e _ (by omega) h0
    · exact key 1 e _ (by omega) h1
    · exact key 2 e _ (by omega) h2
    · exact key 3 e _ (by omega) h3
    · exact key 4 e _ (by omega) h4
    · exact key 5 e _ (by omega) h5
  · intro h j
    exact ⟨⟨⟨⟨⟨h _, h _⟩, h _⟩, h _⟩, h _⟩, h _⟩

theorem agrees_code : Agrees (pieces (codePiece c M2 f2) 72) (G2 fun i d => codes (attRow c M2 f2 i) d) := by
  refine agrees_pieces fun k hk => at_unit2 (inb2 (by omega) (by omega)) _ _ fun i j => ?_
  refine (codes32_apply _ i j).trans ?_
  rw [mulf_apply, spread32_apply, inv32_apply, attScale_apply, att_apply, scale, mul_one_div_scaleOf]
  rfl

theorem covers_code : Covers (pieces (codePiece c M2 f2) 72) := by
  refine covers_pieces fun y => ?_
  have h0 : (y 0).val < 384 := (y 0).isLt
  have h1 : (y 1).val < 768 := (y 1).isLt
  refine ⟨6 * ((y 0).val / 32) + (y 1).val / 128, by omega, mem2 (inb2 (by omega) (by omega)) y ?_ ?_⟩ <;> omega

theorem agrees_copy : Agrees (pieces (attPiece c M2 f2) 72) (G3 fun _ i d => attRow c M2 f2 i d) := by
  refine agrees_pieces fun k hk => at_unit3 (inb3 (by omega) (by omega) (by omega)) _ _ fun a i j => ?_
  obtain rfl : a = 0 := Subsingleton.elim _ _
  refine (copy_apply _ i j).trans ?_
  rw [att_apply]

theorem covers_copy : Covers (pieces (attPiece c M2 f2) 72) := by
  refine covers_pieces fun y => ?_
  have ha : (y 0).val < 1 := (y 0).isLt
  have h0 : (y 1).val < 384 := (y 1).isLt
  have h1 : (y 2).val < 768 := (y 2).isLt
  refine ⟨6 * ((y 1).val / 32) + (y 2).val / 128, by omega, mem3 (inb3 (by omega) (by omega) (by omega)) y ?_ ?_ ?_⟩ <;> omega

theorem agrees_rep : Agrees (pieces (attRepPiece c M2 f2) 12) (G2 fun i _ => scale (attRow c M2 f2 i)) := by
  refine agrees_pieces fun k hk => at_unit2 (inb2 (by omega) (by omega)) _ _ fun i j => ?_
  show rep32 (attScale c M2 f2 k) (ix2 i j) = _
  refine (rep32_apply _ i j).trans ?_
  rw [attScale_apply]

theorem covers_rep : Covers (pieces (attRepPiece c M2 f2) 12) := by
  refine covers_pieces fun y => ?_
  have h0 : (y 0).val < 384 := (y 0).isLt
  have h1 : (y 1).val < 128 := (y 1).isLt
  refine ⟨(y 0).val / 32, by omega, mem2 (inb2 (by omega) (by omega)) y ?_ ?_⟩ <;> omega

theorem attRep_apply (i : Fin 384) (j : Fin 128) : attRep c M2 f2 (ix2 i j) = scale (attRow c M2 f2 i) := by
  refine (readCov2 _ _ _ (agrees_rep c M2 f2) _ i j (covers_rep c M2 f2 _)).trans ?_
  refine congrArg (fun i => scale (attRow c M2 f2 i)) (Fin.ext ?_)
  exact Nat.zero_add _

theorem agrees_attScale : Agrees (pieces (attScalePiece c M2 f2) 3) (G3 fun _ _ i => scale (attRow c M2 f2 i)) := by
  refine agrees_pieces fun k hk => at_unit3 (inb3 (by omega) (by omega) (by omega)) _ _ fun a b j => ?_
  obtain rfl : a = 0 := Subsingleton.elim _ _
  obtain rfl : b = 0 := Subsingleton.elim _ _
  show lay128 ((Memref.whole cc0_scratch5).view.readCov (pieces (attRepPiece c M2 f2) 12)
      (Rect.unit (s := S384x128) ![128 * (k % 3), 0] S128x128.size (inb2 (by omega) (by omega))).toLoadRect) (ix3 0 0 j) = _
  refine (lay128_apply _ j).trans ?_
  exact readCov2 _ _ _ (agrees_rep c M2 f2) _ j 0 (covers_rep c M2 f2 _)

theorem covers_attScale : Covers (pieces (attScalePiece c M2 f2) 3) := by
  refine covers_pieces fun y => ?_
  have h0 : (y 0).val < 1 := (y 0).isLt
  have h1 : (y 1).val < 1 := (y 1).isLt
  have h2 : (y 2).val < 384 := (y 2).isLt
  refine ⟨(y 2).val / 128, by omega, mem3 (inb3 (by omega) (by omega) (by omega)) y ?_ ?_ ?_⟩ <;> omega

/-- A row of the modulation read through its own view. -/
theorem modRow_read (q : Fin 6) (hq : q.val + 1 ≤ 6) (a : Fin 1) (j : Fin 3072) :
    (modRow M4 q.val hq).view.read (Elt Ideal) f4 (ix2 a j) = modAt c M4 f4 q j := by
  have h : ∀ x, (![0, q.val, 0] : Fin 3 → ℕ) x + S1x1x3072.size x ≤ S1x6x3072.size x :=
    inb3 (by omega) hq (by omega)
  have e := row_apply (fun z => M4.view.read (Elt Ideal) f4 ((Rect.unit (s := S1x6x3072) ![0, q.val, 0] S1x1x3072.size h).emb z)) a j
  refine Eq.trans ?_ (e.trans ?_)
  · rfl
  · dsimp only
    rw [emb3]
    unfold modAt
    congr 2
    exact Fin.ext (Nat.zero_add _)

theorem agrees_y : Agrees (pieces (yPiece c M2 M3 M4 M5 M6 f2 f3 f4 f5 f6) 12)
    (G2 fun i j => resRow c M2 M3 M4 M5 M6 f2 f3 f4 f5 f6 i j) := by
  refine agrees_pieces fun n hn => at_unit2 (inb2 (by omega) (by omega)) _ _ fun i j => ?_
  refine (residual_apply _ _ _ _ _ _ i j).trans ?_
  unfold resRow resid lin
  have ei : (⟨0 + i.val, by omega⟩ : Fin 384) = i := Fin.ext (Nat.zero_add _)
  refine congrArg₂ (fun a b : EReal => a + b) ?_ (congrArg₂ (fun a b : EReal => a * b) ?_ (congrArg₂ (fun a b : EReal => a * b)
    (congrArg₂ (fun a b : EReal => a * b) (Finset.sum_congr rfl fun k _ => congrArg₂ (fun a b : EReal => a * b) ?_ ?_) ?_) ?_))
  · exact (readAt3 M3.view f3 _ 0 i j).trans (by simp only [Nat.zero_add])
  · refine (readAt2 (modRow M4 2 (by omega)).view f4 _ (0 : Fin 1) j).trans ?_
    exact modRow_read c M4 f4 2 (by decide) _ _
  · refine (readCov2 _ _ _ (agrees_code c M2 f2) _ i k (covers_code c M2 f2 _)).trans ?_
    simp only [Nat.zero_add]; rfl
  · refine (readAt2 M5.view f5 _ k j).trans ?_
    simp only [Nat.zero_add]
  · refine (dup_apply _ (fun i => scale (attRow c M2 f2 i)) (attRep_apply c M2 f2) i j).trans ?_
    simp only [Nat.zero_add]
  · refine (rowOf_apply _ i j).trans ((readAt2 M6.view f6 _ 0 j).trans ?_)
    simp only [Nat.zero_add]

theorem covers_y : Covers (pieces (yPiece c M2 M3 M4 M5 M6 f2 f3 f4 f5 f6) 12) := by
  refine covers_pieces fun y => ?_
  have h0 : (y 0).val < 384 := (y 0).isLt
  have h1 : (y 1).val < 3072 := (y 1).isLt
  refine ⟨(y 1).val / 256, by omega, mem2 (inb2 (by omega) (by omega)) y ?_ ?_⟩ <;> omega

end

end Cert.KernelIdeal.Hand.Tile

end
-- ==== Proof.TileNorm.lean ====
/-
  What a tile writes of the normed and modulated residual: codes and scales. Row by row, at the ideal values.
-/
module

public import proofs.«01_k».proof.Proof.TileAttention

@[expose] public section

noncomputable section

namespace Cert.KernelIdeal.Hand.Tile

open Cert.KernelIdeal Cert.KernelIdeal.Gen Cert.KernelIdeal.Hand
open Idealize.ShloMosaic Idealize.ShloMosaic.TcCoe
open Idealize.SL.Sem
open Cert.RowSpec

theorem spreadRow_apply (v : Vec Ideal S1x128 .f32) (i : Fin 32) (j : Fin 128) :
    (broadcastTo S32x128 v broadcasts_S1x128_S32x128 : FVec Ideal S32x128 .f32) (ix2 i j) = v (ix2 0 j) := by
  pointwise

theorem keep_apply (v : FVec Ideal S32x128 .f32) (i : Fin 32) (j : Fin 128) :
    (shapeCast S32x128 v shapeCasts_S32x128_S32x128 : FVec Ideal S32x128 .f32) (ix2 i j) = v (ix2 i j) := by
  pointwise

theorem zero_apply (i : Fin 32) (j : Fin 128) :
    (broadcast S32x128 (Scalar.ofBits .f32 0x00000000#32) : FVec Ideal S32x128 .f32) (ix2 i j) = (0 : EReal) := by
  pointwise

theorem rms_apply (v : FVec Ideal S32x128 .f32) (i : Fin 32) :
    (rsqrt (addf (divf (shapeCast S32x1 (multiReduction .add [1] S32 v 0x00000000#32 reduces_S32x128_S32 (.inl rfl) rfl : FVec Ideal S32 .f32)
      shapeCasts_S32_S32x1) (broadcast S32x1 (Scalar.ofBits .f32 0x45400000#32)))
      (broadcast S32x1 (Scalar.ofBits .f32 0x358637BD#32))) : FVec Ideal S32x1 .f32) (ix2 i 0)
      = Ideal.rsqrt (Ideal.div (∑ j : Fin 128, (v (ix2 i j) : EReal)) width + eps) := by
  pointwise
  rfl

theorem plusOne_apply (v : Vec Ideal S1x1x3072 .f32) (j : Fin 3072) :
    (shapeCast S1x3072 (addf (shapeCast S1x3072 v shapeCasts_S1x1x3072_S1x3072 : FVec Ideal S1x3072 .f32)
      (broadcast S1x3072 (Scalar.ofBits .f32 0x3F800000#32))) shapeCasts_S1x3072_S1x3072 : FVec Ideal S1x3072 .f32) (ix2 0 j)
      = (v (ix3 0 0 j) : EReal) + 1 := by
  pointwise

/-- A sum over blocks of 128 lanes is the whole sum. -/
theorem sum_blocks (g : Fin 3072 → EReal) :
    ∑ j : Fin 128, ∑ k ∈ Finset.range 24, g ⟨128 * (k % 24) + j, by omega⟩ = ∑ d, g d := by
  have e : ∑ d, g d = ∑ p : Fin 24 × Fin 128, g ⟨128 * p.1.val + p.2.val, by omega⟩ :=
    (Fintype.sum_equiv (finProdFinEquiv (m := 24) (n := 128)) _ _ fun p => congrArg g (Fin.ext (by
      show 128 * p.1.val + p.2.val = p.2.val + 128 * p.1.val; omega))).symm
  rw [e, Fintype.sum_prod_type, Finset.sum_comm]
  rw [Finset.sum_range]
  refine Finset.sum_congr rfl fun k _ => Finset.sum_congr rfl fun j _ => congrArg g (Fin.ext ?_)
  show 128 * (k.val % 24) + j.val = 128 * k.val + j.val
  omega

section
variable (c : Dev nD)
  (M2 : Memref sig .tc .vmem S1x6x384x128 .f32) (M3 : Memref sig .tc .vmem S1x384x3072 .bf16)
  (M4 : Memref sig .tc .vmem S1x6x3072 .f32) (M5 : Memref sig .tc .vmem S768x3072 .fp8e4m3)
  (M6 : Memref sig .tc .vmem S1x3072 .f32)
  (f2 : Bf (F := Ideal) c M2) (f3 : Bf (F := Ideal) c M3) (f4 : Bf (F := Ideal) c M4) (f5 : Bf (F := Ideal) c M5)
  (f6 : Bf (F := Ideal) c M6)

/-- A row of the normed and modulated residual. -/
def uRow (i : Fin 384) : Fin 3072 → EReal :=
  normed (resRow c M2 M3 M4 M5 M6 f2 f3 f4 f5 f6 i) (modAt c M4 f4 3) (modAt c M4 f4 4)

theorem yCol_apply (r k : ℕ) (i : Fin 32) (j : Fin 128) : yCol c M2 M3 M4 M5 M6 f2 f3 f4 f5 f6 r k (ix2 i j)
    = resRow c M2 M3 M4 M5 M6 f2 f3 f4 f5 f6 (⟨32 * (r % 12) + i, by omega⟩ : Fin 384) (⟨128 * (k % 24) + j, by omega⟩ : Fin 3072) :=
  readCov2 _ _ _ (agrees_y c M2 M3 M4 M5 M6 f2 f3 f4 f5 f6) (inb2 (by omega) (by omega)) i j (covers_y c M2 M3 M4 M5 M6 f2 f3 f4 f5 f6 _)

theorem sumSq_apply (r n : ℕ) (i : Fin 32) (j : Fin 128) : sumSq c M2 M3 M4 M5 M6 f2 f3 f4 f5 f6 r n (ix2 i j)
    = ∑ k ∈ Finset.range n,
      (resRow c M2 M3 M4 M5 M6 f2 f3 f4 f5 f6 (⟨32 * (r % 12) + i, by omega⟩ : Fin 384) (⟨128 * (k % 24) + j, by omega⟩ : Fin 3072)
        * resRow c M2 M3 M4 M5 M6 f2 f3 f4 f5 f6 (⟨32 * (r % 12) + i, by omega⟩ : Fin 384) (⟨128 * (k % 24) + j, by omega⟩ : Fin 3072)) := by
  induction n with
  | zero => exact zero_apply i j
  | succ n ih =>
    rw [Finset.sum_range_succ, ← ih, ← yCol_apply]
    rfl

theorem invRms_apply (r : ℕ) (i : Fin 32) : invRms c M2 M3 M4 M5 M6 f2 f3 f4 f5 f6 r (ix2 i 0)
    = Ideal.rsqrt (meanSq (resRow c M2 M3 M4 M5 M6 f2 f3 f4 f5 f6 (⟨32 * (r % 12) + i, by omega⟩ : Fin 384))) := by
  refine (rms_apply _ i).trans ?_
  rw [meanSq, ← sum_blocks]
  simp only [sumSq_apply]

theorem mod4_apply (h : ∀ x, (![0, 4, 0] : Fin 3 → ℕ) x + S1x1x3072.size x ≤ S1x6x3072.size x) (j : Fin 3072) :
    View.readAt (Elt Ideal) M4.view (Rect.unit (s := S1x6x3072) ![0, 4, 0] S1x1x3072.size h).toLoadRect f4 (ix3 0 0 j)
      = modAt c M4 f4 4 j := by
  refine (readAt3 M4.view f4 h (0 : Fin 1) (0 : Fin 1) j).trans ?_
  unfold modAt
  congr 2
  exact Fin.ext (Nat.zero_add _)

theorem agrees_mod1 : Agrees (pieces (fun _ => mod1Piece c M4 f4) 1) (G2 fun _ j => modAt c M4 f4 4 j + 1) := by
  refine agrees_pieces fun n hn => at_unit2 (inb2 (A := 1) (B := 3072) (a := 1) (b := 3072) (o := 0) (p := 0) (by omega) (by omega)) _ _ fun a j => ?_
  obtain rfl : a = 0 := Subsingleton.elim _ _
  refine (plusOne_apply _ j).trans ?_
  rw [mod4_apply]
  refine congrArg (fun j => modAt c M4 f4 4 j + 1) (Fin.ext ?_)
  exact (Nat.zero_add _).symm

theorem covers_mod1 : Covers (pieces (fun _ => mod1Piece c M4 f4) 1) := by
  refine covers_pieces fun y => ?_
  have h0 : (y 0).val < 1 := (y 0).isLt
  have h1 : (y 1).val < 3072 := (y 1).isLt
  refine ⟨0, by omega, mem2 (inb2 (by omega) (by omega)) y ?_ ?_⟩ <;> omega

theorem mod1_apply (p : ℕ) (h : ∀ x, (![0, p] : Fin 2 → ℕ) x + S1x128.size x ≤ S1x3072.size x) (j : Fin 128) :
    (Memref.whole cc0_scratch8).view.readCov (pieces (fun _ => mod1Piece c M4 f4) 1)
      (Rect.unit (s := S1x3072) ![0, p] S1x128.size h).toLoadRect (ix2 (0 : Fin 1) j)
      = (1 + modAt c M4 f4 4 ⟨p + j, lt_of_lt_of_le (Nat.add_lt_add_left j.isLt p) (h 1)⟩ : EReal) := by
  refine (readCov2 _ _ _ (agrees_mod1 c M4 f4) h (0 : Fin 1) j (covers_mod1 c M4 f4 _)).trans ?_
  exact add_comm _ _

theorem shift_apply (p : ℕ) (h : ∀ x, (![0, p] : Fin 2 → ℕ) x + S1x128.size x ≤ S1x3072.size x) (j : Fin 128) :
    View.readAt (Elt Ideal) (modRow M4 3 (by omega)).view (Rect.unit (s := S1x3072) ![0, p] S1x128.size h).toLoadRect f4
      (ix2 (0 : Fin 1) j) = modAt c M4 f4 3 ⟨p + j, lt_of_lt_of_le (Nat.add_lt_add_left j.isLt p) (h 1)⟩ := by
  refine (readAt2 (modRow M4 3 (by omega)).view f4 h (0 : Fin 1) j).trans ?_
  exact modRow_read c M4 f4 3 (by decide) _ _

theorem uCol_apply (r k : ℕ) (i : Fin 32) (j : Fin 128) : uCol c M2 M3 M4 M5 M6 f2 f3 f4 f5 f6 r k (ix2 i j)
    = uRow c M2 M3 M4 M5 M6 f2 f3 f4 f5 f6 (⟨32 * (r % 12) + i, by omega⟩ : Fin 384) (⟨128 * (k % 24) + j, by omega⟩ : Fin 3072) := by
  unfold uCol
  rw [addf_apply, mulf_apply, mulf_apply, spread32_apply, spreadRow_apply, spreadRow_apply, invRms_apply, yCol_apply,
    mul_rsqrt _ _ (meanSq_pos _), mod1_apply, shift_apply]
  rfl

theorem uMax_apply (r n : ℕ) (i : Fin 32) (j : Fin 128) (b : EReal) : uMax c M2 M3 M4 M5 M6 f2 f3 f4 f5 f6 r n (ix2 i j) ≤ b
    ↔ 0 ≤ b ∧ ∀ k, k < n → mag (uRow c M2 M3 M4 M5 M6 f2 f3 f4 f5 f6 (⟨32 * (r % 12) + i, by omega⟩ : Fin 384)
      (⟨128 * (k % 24) + j, by omega⟩ : Fin 3072)) ≤ b := by
  induction n with
  | zero =>
    rw [show uMax c M2 M3 M4 M5 M6 f2 f3 f4 f5 f6 r 0 (ix2 i j) = (0 : EReal) from zero_apply i j]
    simp
  | succ n ih =>
    rw [uMax, maximumf_apply, max_le_iff, ih, absf_apply, uCol_apply, and_assoc]
    refine and_congr_right fun _ => ⟨fun h k hk => ?_, fun h => ⟨fun k hk => h k (by omega), h n (by omega)⟩⟩
    rcases Nat.lt_succ_iff_lt_or_eq.mp hk with h' | rfl
    · exact h.1 k h'
    · exact h.2

theorem uScale_apply (r : ℕ) (i : Fin 32) : uScale c M2 M3 M4 M5 M6 f2 f3 f4 f5 f6 r (ix2 i 0)
    = scale (uRow c M2 M3 M4 M5 M6 f2 f3 f4 f5 f6 (⟨32 * (r % 12) + i, by omega⟩ : Fin 384)) := by
  rw [uScale, scale32_apply, scale]
  congr 1
  refine eq_amax _ _ fun b => ?_
  rw [rowMax32_apply]
  simp only [uMax_apply]
  constructor
  · intro h d
    have hd := (h (⟨d % 128, by omega⟩ : Fin 128)).2 (d / 128) (by omega)
    have : (⟨128 * (d.val / 128 % 24) + d.val % 128, by omega⟩ : Fin 3072) = d :=
      Fin.ext (by show 128 * (d.val / 128 % 24) + d.val % 128 = d.val; omega)
    simpa only [this] using hd
  · intro h j
    exact ⟨le_trans (mag_nonneg _) (h 0), fun k _ => h _⟩

/-- The rectangle of a chunk's column block inside the chunk's rows. -/
theorem emb_chunk {o p : ℕ} (h : ∀ x, (![o, 0] : Fin 2 → ℕ) x + S32x3072.size x ≤ S384x3072.size x)
    (h' : ∀ x, (![0, p] : Fin 2 → ℕ) x + S32x128.size x ≤ S32x3072.size x) (i : Fin 32) (j : Fin 128) :
    ((Rect.unit (s := S384x3072) ![o, 0] S32x3072.size h).within (Rect.unit (s := S32x3072) ![0, p] S32x128.size h') (fun _ => rfl)).emb (ix2 i j)
      = ix2 (⟨o + i, lt_of_lt_of_le (Nat.add_lt_add_left i.isLt o) (h 0)⟩ : Fin 384)
        (⟨p + j, lt_of_lt_of_le (Nat.add_lt_add_left j.isLt p) (h' 1)⟩ : Fin 3072) := by
  refine Rect.emb_eq_of_coords _ _ _ fun x => ?_
  match x with
  | ⟨0, _⟩ => show o + i.val = (o + 0) + 1 * i.val; omega
  | ⟨1, _⟩ => show p + j.val = (0 + p) + 1 * j.val; omega

theorem agrees_u (n : ℕ) : Agrees (pieces (uPiece c M2 M3 M4 M5 M6 f2 f3 f4 f5 f6) n)
    (G2 fun i j => uRow c M2 M3 M4 M5 M6 f2 f3 f4 f5 f6 i j) := by
  refine agrees_pieces fun k hk x => ?_
  obtain ⟨i, j, rfl⟩ : ∃ (i : Fin 32) (j : Fin 128), x = ix2 i j := ⟨x 0, x 1, eq_ix2 x⟩
  refine Eq.trans ?_ (congrArg (G2 _) (emb_chunk (inb2 (by omega) (by omega)) (inb2 (by omega) (by omega)) i j)).symm
  show (shapeCast S32x128 (uCol c M2 M3 M4 M5 M6 f2 f3 f4 f5 f6 (k / 24) k) shapeCasts_S32x128_S32x128 : FVec Ideal S32x128 .f32) (ix2 i j) = _
  refine (keep_apply _ i j).trans ?_
  rw [uCol_apply]
  rfl

theorem mem_u (r k : ℕ) (hr : r < 12) (i : Fin 32) (j : Fin 128) (y : S384x3072.Idx) (h0 : (y 0).val = 32 * r + i)
    (h1 : (y 1).val = 128 * (k % 24) + j) : ∃ q ∈ pieces (uPiece c M2 M3 M4 M5 M6 f2 f3 f4 f5 f6) (24 * (r + 1)), y ∈ q.1.set := by
  refine ⟨_, (mem_pieces _ _ _).mpr ⟨24 * r + k % 24, by omega, rfl⟩, ?_⟩
  refine (LoadRect.mem_set _).mpr fun x => ?_
  match x with
  | ⟨0, _⟩ => exact ⟨i.val, i.isLt, h0.trans (by show 32 * r + i.val = (32 * ((24 * r + k % 24) / 24 % 12) + 0) + 1 * i.val; omega)⟩
  | ⟨1, _⟩ => exact ⟨j.val, j.isLt, h1.trans (by show 128 * (k % 24) + j.val = (0 + 128 * ((24 * r + k % 24) % 24)) + 1 * j.val; omega)⟩

theorem uLoad_apply (r k : ℕ) (hr : r < 12) (i : Fin 32) (j : Fin 128) : uLoad c M2 M3 M4 M5 M6 f2 f3 f4 f5 f6 r k (ix2 i j)
    = uRow c M2 M3 M4 M5 M6 f2 f3 f4 f5 f6 (⟨32 * (r % 12) + i, by omega⟩ : Fin 384) (⟨128 * (k % 24) + j, by omega⟩ : Fin 3072) := by
  refine (congrArg ((Memref.whole cc0_scratch4).view.read (Elt Ideal) _) (emb_chunk (inb2 (by omega) (by omega)) (inb2 (by omega) (by omega)) i j)).trans ?_
  refine View.read_writes_apply_of_pieces _ _ _ _ (agrees_u c M2 M3 M4 M5 M6 f2 f3 f4 f5 f6 _) _ (mem_u c M2 M3 M4 M5 M6 f2 f3 f4 f5 f6 r k hr i j _ ?_ rfl)
  show 32 * (r % 12) + i.val = 32 * r + i.val
  omega

theorem agrees_x : Agrees (pieces (xPiece c M2 M3 M4 M5 M6 f2 f3 f4 f5 f6) 288)
    (G2 fun i j => codes (uRow c M2 M3 M4 M5 M6 f2 f3 f4 f5 f6 i) j) := by
  refine agrees_pieces fun k hk => at_unit2 (inb2 (by omega) (by omega)) _ _ fun i j => ?_
  refine (codes32_apply _ i j).trans ?_
  rw [mulf_apply, spread32_apply, inv32_apply, uScale_apply, uLoad_apply _ _ _ _ _ _ _ _ _ _ _ _ _ (by omega), scale, mul_one_div_scaleOf]
  rfl

theorem covers_x : Covers (pieces (xPiece c M2 M3 M4 M5 M6 f2 f3 f4 f5 f6) 288) := by
  refine covers_pieces fun y => ?_
  have h0 : (y 0).val < 384 := (y 0).isLt
  have h1 : (y 1).val < 3072 := (y 1).isLt
  refine ⟨24 * ((y 0).val / 32) + (y 1).val / 128, by omega, mem2 (inb2 (by omega) (by omega)) y ?_ ?_⟩ <;> omega

theorem agrees_xRep : Agrees (pieces (xRepPiece c M2 M3 M4 M5 M6 f2 f3 f4 f5 f6) 12)
    (G2 fun i _ => scale (uRow c M2 M3 M4 M5 M6 f2 f3 f4 f5 f6 i)) := by
  refine agrees_pieces fun k hk => at_unit2 (inb2 (by omega) (by omega)) _ _ fun i j => ?_
  show rep32 (uScale c M2 M3 M4 M5 M6 f2 f3 f4 f5 f6 k) (ix2 i j) = _
  refine (rep32_apply _ i j).trans ?_
  rw [uScale_apply]

theorem covers_xRep : Covers (pieces (xRepPiece c M2 M3 M4 M5 M6 f2 f3 f4 f5 f6) 12) := by
  refine covers_pieces fun y => ?_
  have h0 : (y 0).val < 384 := (y 0).isLt
  have h1 : (y 1).val < 128 := (y 1).isLt
  refine ⟨(y 0).val / 32, by omega, mem2 (inb2 (by omega) (by omega)) y ?_ ?_⟩ <;> omega

theorem xRep_apply (i : Fin 384) (j : Fin 128) : xRep c M2 M3 M4 M5 M6 f2 f3 f4 f5 f6 (ix2 i j)
    = scale (uRow c M2 M3 M4 M5 M6 f2 f3 f4 f5 f6 i) := by
  refine (readCov2 _ _ _ (agrees_xRep c M2 M3 M4 M5 M6 f2 f3 f4 f5 f6) _ i j (covers_xRep c M2 M3 M4 M5 M6 f2 f3 f4 f5 f6 _)).trans ?_
  refine congrArg (fun i => scale (uRow c M2 M3 M4 M5 M6 f2 f3 f4 f5 f6 i)) (Fin.ext ?_)
  exact Nat.zero_add _

theorem agrees_xScale : Agrees (pieces (xScalePiece c M2 M3 M4 M5 M6 f2 f3 f4 f5 f6) 3)
    (G3 fun _ _ i => scale (uRow c M2 M3 M4 M5 M6 f2 f3 f4 f5 f6 i)) := by
  refine agrees_pieces fun k hk => at_unit3 (inb3 (by omega) (by omega) (by omega)) _ _ fun a b j => ?_
  obtain rfl : a = 0 := Subsingleton.elim _ _
  obtain rfl : b = 0 := Subsingleton.elim _ _
  show lay128 ((Memref.whole cc0_scratch6).view.readCov (pieces (xRepPiece c M2 M3 M4 M5 M6 f2 f3 f4 f5 f6) 12)
      (Rect.unit (s := S384x128) ![128 * (k % 3), 0] S128x128.size (inb2 (by omega) (by omega))).toLoadRect) (ix3 0 0 j) = _
  refine (lay128_apply _ j).trans ?_
  exact readCov2 _ _ _ (agrees_xRep c M2 M3 M4 M5 M6 f2 f3 f4 f5 f6) _ j 0 (covers_xRep c M2 M3 M4 M5 M6 f2 f3 f4 f5 f6 _)

theorem covers_xScale : Covers (pieces (xScalePiece c M2 M3 M4 M5 M6 f2 f3 f4 f5 f6) 3) := by
  refine covers_pieces fun y => ?_
  have h0 : (y 0).val < 1 := (y 0).isLt
  have h1 : (y 1).val < 1 := (y 1).isLt
  have h2 : (y 2).val < 384 := (y 2).isLt
  refine ⟨(y 2).val / 128, by omega, mem3 (inb3 (by omega) (by omega) (by omega)) y ?_ ?_ ?_⟩ <;> omega

end

end Cert.KernelIdeal.Hand.Tile

end
-- ==== Proof.TileHidden.lean ====
/-
  What a tile writes of the gated hidden layer, and its result. Row by row, at the ideal values.
-/
module

public import proofs.«01_k».proof.Proof.TileNorm

@[expose] public section

set_option maxRecDepth 16384
set_option maxHeartbeats 400000

noncomputable section

namespace Cert.KernelIdeal.Hand.Tile

open Cert.KernelIdeal Cert.KernelIdeal.Gen Cert.KernelIdeal.Hand
open Idealize.ShloMosaic Idealize.ShloMosaic.TcCoe
open Idealize.SL.Sem
open Cert.RowSpec

theorem project_apply (vc : FVec Ideal S384x3072 .fp8e4m3) (vw : FVec Ideal S3072x256 .fp8e4m3) (vd vs : FVec Ideal S384x256 .f32)
    (i : Fin 384) (j : Fin 256) :
    (mulf (mulf (matmul dot_S384x3072_S3072x256_S384x256_1_0_0_1_n_n none vc vw (constant S384x256 .f32 0x00000000#32)) vd) vs
      : FVec Ideal S384x256 .f32) (ix2 i j)
      = ((∑ x : Fin 3072, (vc (ix2 i x) : EReal) * vw (ix2 x j)) * vd (ix2 i j) * vs (ix2 i j) : EReal) := by
  pointwise

theorem logistic_apply {s : Shape} (a : FVec Ideal s .f32) (i : s.Idx) : logistic a i = Ideal.logistic (a i) := rfl

theorem left_apply (v : FVec Ideal S384x256 .f32) (i : Fin 384) (j : Fin 128) :
    (extractStridedSlice S384x128 ![0, 0] v slices_S384x256_o0_0_S384x128 : FVec Ideal S384x128 .f32) (ix2 i j)
      = v (ix2 i ⟨j, by omega⟩) := by
  pointwise

theorem right_apply (v : FVec Ideal S384x256 .f32) (i : Fin 384) (j : Fin 128) :
    (extractStridedSlice S384x128 ![0, 128] v slices_S384x256_o0_128_S384x128 : FVec Ideal S384x128 .f32) (ix2 i j)
      = v (ix2 i ⟨128 + j, by omega⟩) := by
  pointwise

theorem zeroTall_apply (i : Fin 384) (j : Fin 128) :
    (broadcast S384x128 (Scalar.ofBits .f32 0x00000000#32) : FVec Ideal S384x128 .f32) (ix2 i j) = (0 : EReal) := by
  pointwise

theorem maxTall_apply (v : FVec Ideal S384x128 .f32) (i : Fin 384) (b : EReal) :
    (shapeCast S384x1 (multiReduction .maximumf [1] S384 v 0xFF800000#32 reduces_S384x128_S384 (.inl rfl) rfl : FVec Ideal S384 .f32)
      shapeCasts_S384_S384x1 : FVec Ideal S384x1 .f32) (ix2 i 0) ≤ b ↔ ∀ j : Fin 128, v (ix2 i j) ≤ b := by
  pointwise
  exact fold_le _ b

theorem scaleTall_apply (v : FVec Ideal S384x1 .f32) (i : Fin 384) :
    (select (cmpf .oeq v (broadcast S384x1 (Scalar.ofBits .f32 0x00000000#32))) (broadcast S384x1 (Scalar.ofBits .f32 0x3F800000#32))
      (divf v (broadcast S384x1 (Scalar.ofBits .f32 0x43E00000#32))) : FVec Ideal S384x1 .f32) (ix2 i 0) = scaleOf (v (ix2 i 0)) := by
  pointwise
  rfl

theorem repTall_apply (v : FVec Ideal S384x1 .f32) (i : Fin 384) (j : Fin 128) :
    (shapeCast S384x128 (broadcastTo S384x128 (shapeCast S384x1 v shapeCasts_S384x1_S384x1 : FVec Ideal S384x1 .f32)
      broadcasts_S384x1_S384x128 : FVec Ideal S384x128 .f32) shapeCasts_S384x128_S384x128 : FVec Ideal S384x128 .f32) (ix2 i j)
      = v (ix2 i 0) := by
  pointwise

theorem keepTall_apply (v : FVec Ideal S384x256 .f32) (i : Fin 384) (j : Fin 256) :
    (shapeCast S384x256 v shapeCasts_S384x256_S384x256 : FVec Ideal S384x256 .f32) (ix2 i j) = v (ix2 i j) := by
  pointwise

theorem oneOver_apply (v : FVec Ideal S32x128 .f32) (i : Fin 32) (j : Fin 128) :
    (divf (broadcast S32x128 (Scalar.ofBits .f32 0x3F800000#32)) v : FVec Ideal S32x128 .f32) (ix2 i j)
      = Ideal.div 1 (v (ix2 i j)) := by
  pointwise

theorem final_apply (vy : Vec Ideal S384x256 .f32) (vg : Vec Ideal S1x256 .f32) (vc : FVec Ideal S384x2048 .fp8e4m3)
    (vw : FVec Ideal S2048x256 .fp8e4m3) (vd vs : FVec Ideal S384x256 .f32) (i : Fin 384) (j : Fin 256) :
    (shapeCast S1x384x256 (truncf .bf16 (addf vy
      (mulf (broadcastTo S384x256 vg broadcasts_S1x256_S384x256 : FVec Ideal S384x256 .f32)
        (mulf (mulf (matmul dot_S384x2048_S2048x256_S384x256_1_0_0_1_n_n none vc vw (constant S384x256 .f32 0x00000000#32)) vd) vs))
      : FVec Ideal S384x256 .f32) bitsLt_bf16_f32 : FVec Ideal S384x256 .bf16) shapeCasts_S384x256_S1x384x256 : FVec Ideal S1x384x256 .bf16)
      (ix3 0 i j)
      = (vy (ix2 i j) : EReal) + vg (ix2 0 j) * ((∑ x : Fin 2048, (vc (ix2 i x) : EReal) * vw (ix2 x j)) * vd (ix2 i j) * vs (ix2 i j)) := by
  pointwise

section
variable (c : Dev nD)
  (M2 : Memref sig .tc .vmem S1x6x384x128 .f32) (M3 : Memref sig .tc .vmem S1x384x3072 .bf16)
  (M4 : Memref sig .tc .vmem S1x6x3072 .f32) (M5 : Memref sig .tc .vmem S768x3072 .fp8e4m3)
  (M6 : Memref sig .tc .vmem S1x3072 .f32) (M7 : Memref sig .tc .vmem S3072x2048 .fp8e4m3)
  (M8 : Memref sig .tc .vmem S1x2048 .f32) (M9 : Memref sig .tc .vmem S3072x2048 .fp8e4m3)
  (M10 : Memref sig .tc .vmem S1x2048 .f32) (M11 : Memref sig .tc .vmem S2048x3072 .fp8e4m3)
  (M12 : Memref sig .tc .vmem S1x3072 .f32)
  (f2 : Bf (F := Ideal) c M2) (f3 : Bf (F := Ideal) c M3) (f4 : Bf (F := Ideal) c M4) (f5 : Bf (F := Ideal) c M5)
  (f6 : Bf (F := Ideal) c M6) (f7 : Bf (F := Ideal) c M7) (f8 : Bf (F := Ideal) c M8) (f9 : Bf (F := Ideal) c M9)
  (f10 : Bf (F := Ideal) c M10) (f11 : Bf (F := Ideal) c M11) (f12 : Bf (F := Ideal) c M12)

/-- A row of the hidden layer. -/
def hRow (i : Fin 384) : Fin 2048 → EReal :=
  hidden (uRow c M2 M3 M4 M5 M6 f2 f3 f4 f5 f6 i) (fun k j => M7.view.read (Elt Ideal) f7 (ix2 k j))
    (fun k j => M9.view.read (Elt Ideal) f9 (ix2 k j)) (fun j => M8.view.read (Elt Ideal) f8 (ix2 (0 : Fin 1) j))
    (fun j => M10.view.read (Elt Ideal) f10 (ix2 (0 : Fin 1) j))

/-- A row of the result. -/
def zRow (i : Fin 384) : Fin 3072 → EReal :=
  result (resRow c M2 M3 M4 M5 M6 f2 f3 f4 f5 f6 i) (modAt c M4 f4 5)
    (hRow c M2 M3 M4 M5 M6 M7 M8 M9 M10 f2 f3 f4 f5 f6 f7 f8 f9 f10 i)
    (fun k j => M11.view.read (Elt Ideal) f11 (ix2 k j)) (fun j => M12.view.read (Elt Ideal) f12 (ix2 (0 : Fin 1) j))

theorem xCodes_apply (i : Fin 384) (k : Fin 3072) : xCodes c M2 M3 M4 M5 M6 f2 f3 f4 f5 f6 (ix2 i k)
    = codes (uRow c M2 M3 M4 M5 M6 f2 f3 f4 f5 f6 i) k := by
  refine (readCov2 _ _ _ (agrees_x c M2 M3 M4 M5 M6 f2 f3 f4 f5 f6) (inb2 (by omega) (by omega)) i k
    (covers_x c M2 M3 M4 M5 M6 f2 f3 f4 f5 f6 _)).trans ?_
  exact congrArg₂ (fun i k => codes (uRow c M2 M3 M4 M5 M6 f2 f3 f4 f5 f6 i) k) (Fin.ext (Nat.zero_add _)) (Fin.ext (Nat.zero_add _))

theorem weight_apply (W : Memref sig .tc .vmem S3072x2048 .fp8e4m3) (fW : Bf (F := Ideal) c W) (p : ℕ)
    (h : ∀ x, (![0, p] : Fin 2 → ℕ) x + S3072x256.size x ≤ S3072x2048.size x) (k : Fin 3072) (j : Fin 256) :
    View.readAt (Elt Ideal) W.view (Rect.unit (s := S3072x2048) ![0, p] S3072x256.size h).toLoadRect fW (ix2 k j)
      = W.view.read (Elt Ideal) fW (ix2 k (⟨p + j, lt_of_lt_of_le (Nat.add_lt_add_left j.isLt p) (h 1)⟩ : Fin 2048)) := by
  refine (readAt2 W.view fW h k j).trans ?_
  exact congrArg (fun k => W.view.read (Elt Ideal) fW (ix2 k _)) (Fin.ext (Nat.zero_add _))

theorem factor_apply (S : Memref sig .tc .vmem S1x2048 .f32) (fS : Bf (F := Ideal) c S) (p : ℕ)
    (h : ∀ x, (![0, p] : Fin 2 → ℕ) x + S1x256.size x ≤ S1x2048.size x) (j : Fin 256) :
    View.readAt (Elt Ideal) S.view (Rect.unit (s := S1x2048) ![0, p] S1x256.size h).toLoadRect fS (ix2 (0 : Fin 1) j)
      = S.view.read (Elt Ideal) fS (ix2 (0 : Fin 1) (⟨p + j, lt_of_lt_of_le (Nat.add_lt_add_left j.isLt p) (h 1)⟩ : Fin 2048)) :=
  readAt2 S.view fS h (0 : Fin 1) j

theorem hLin_apply (W : Memref sig .tc .vmem S3072x2048 .fp8e4m3) (S : Memref sig .tc .vmem S1x2048 .f32)
    (fW : Bf (F := Ideal) c W) (fS : Bf (F := Ideal) c S) (n : ℕ) (i : Fin 384) (j : Fin 256) :
    hLin c M2 M3 M4 M5 M6 f2 f3 f4 f5 f6 W S fW fS n (ix2 i j)
      = lin (uRow c M2 M3 M4 M5 M6 f2 f3 f4 f5 f6 i)
        (fun k => W.view.read (Elt Ideal) fW (ix2 k (⟨256 * (n % 8) + j, by omega⟩ : Fin 2048)))
        (S.view.read (Elt Ideal) fS (ix2 (0 : Fin 1) (⟨256 * (n % 8) + j, by omega⟩ : Fin 2048))) := by
  unfold hLin
  rw [project_apply, dup_apply _ _ (xRep_apply c M2 M3 M4 M5 M6 f2 f3 f4 f5 f6), rowOf_apply, factor_apply]
  refine congrArg (fun e : EReal => e * scale (uRow c M2 M3 M4 M5 M6 f2 f3 f4 f5 f6 i)
    * S.view.read (Elt Ideal) fS (ix2 (0 : Fin 1) (⟨256 * (n % 8) + j, by omega⟩ : Fin 2048))) (Finset.sum_congr rfl fun k _ => ?_)
  rw [xCodes_apply]
  exact congrArg (fun e : EReal => codes (uRow c M2 M3 M4 M5 M6 f2 f3 f4 f5 f6 i) k * e) (weight_apply c W fW _ _ k j)

theorem hCol_apply (n : ℕ) (i : Fin 384) (j : Fin 256) : hCol c M2 M3 M4 M5 M6 M7 M8 M9 M10 f2 f3 f4 f5 f6 f7 f8 f9 f10 n (ix2 i j)
    = hRow c M2 M3 M4 M5 M6 M7 M8 M9 M10 f2 f3 f4 f5 f6 f7 f8 f9 f10 i ⟨256 * (n % 8) + j, by omega⟩ := by
  unfold hCol
  rw [mulf_apply, mulf_apply, logistic_apply, hLin_apply, hLin_apply]
  rfl

attribute [local irreducible] hRow zRow

theorem hMax_apply (n : ℕ) (i : Fin 384) (j : Fin 128) (b : EReal) :
    hMax c M2 M3 M4 M5 M6 M7 M8 M9 M10 f2 f3 f4 f5 f6 f7 f8 f9 f10 n (ix2 i j) ≤ b
      ↔ 0 ≤ b ∧ ∀ k, k < n →
        mag (hRow c M2 M3 M4 M5 M6 M7 M8 M9 M10 f2 f3 f4 f5 f6 f7 f8 f9 f10 i ⟨256 * (k % 8) + j, by omega⟩) ≤ b
        ∧ mag (hRow c M2 M3 M4 M5 M6 M7 M8 M9 M10 f2 f3 f4 f5 f6 f7 f8 f9 f10 i ⟨256 * (k % 8) + (128 + j), by omega⟩) ≤ b := by
  induction n with
  | zero =>
    rw [show hMax c M2 M3 M4 M5 M6 M7 M8 M9 M10 f2 f3 f4 f5 f6 f7 f8 f9 f10 0 (ix2 i j) = (0 : EReal) from zeroTall_apply i j]
    simp
  | succ n ih =>
    rw [hMax, maximumf_apply, max_le_iff, maximumf_apply, max_le_iff, ih, absf_apply, absf_apply, left_apply, right_apply,
      hCol_apply, hCol_apply, and_assoc, and_assoc]
    refine and_congr_right fun _ => ⟨fun h k hk => ?_, fun h => ⟨fun k hk => h k (by omega), h n (by omega)⟩⟩
    rcases Nat.lt_succ_iff_lt_or_eq.mp hk with h' | rfl
    · exact h.1 k h'
    · exact h.2

theorem hScale_apply (i : Fin 384) : hScale c M2 M3 M4 M5 M6 M7 M8 M9 M10 f2 f3 f4 f5 f6 f7 f8 f9 f10 (ix2 i 0)
    = scale (hRow c M2 M3 M4 M5 M6 M7 M8 M9 M10 f2 f3 f4 f5 f6 f7 f8 f9 f10 i) := by
  rw [hScale, scaleTall_apply, scale]
  refine congrArg scaleOf (eq_amax _ _ fun b => ?_)
  rw [hAmax, maxTall_apply]
  simp only [hMax_apply]
  constructor
  · intro h d
    have hd := (h (⟨d % 128, by omega⟩ : Fin 128)).2 (d / 256) (by omega)
    by_cases hlt : d.val % 256 < 128
    · have : (⟨256 * (d.val / 256 % 8) + d.val % 128, by omega⟩ : Fin 2048) = d :=
        Fin.ext (by show 256 * (d.val / 256 % 8) + d.val % 128 = d.val; omega)
      simpa only [this] using hd.1
    · have : (⟨256 * (d.val / 256 % 8) + (128 + d.val % 128), by omega⟩ : Fin 2048) = d :=
        Fin.ext (by show 256 * (d.val / 256 % 8) + (128 + d.val % 128) = d.val; omega)
      simpa only [this] using hd.2
  · intro h j
    exact ⟨le_trans (mag_nonneg _) (h 0), fun k _ => ⟨h _, h _⟩⟩

theorem hRepPiece_snd : (hRepPiece c M2 M3 M4 M5 M6 M7 M8 M9 M10 f2 f3 f4 f5 f6 f7 f8 f9 f10).2 = (shapeCast S384x128 (broadcastTo S384x128
    (shapeCast S384x1 (hScale c M2 M3 M4 M5 M6 M7 M8 M9 M10 f2 f3 f4 f5 f6 f7 f8 f9 f10) shapeCasts_S384x1_S384x1 : FVec Ideal S384x1 .f32)
    broadcasts_S384x1_S384x128 : FVec Ideal S384x128 .f32) shapeCasts_S384x128_S384x128 : FVec Ideal S384x128 .f32) := by
  unfold hRepPiece; dsimp only

theorem hScalePiece_snd (k : ℕ) : (hScalePiece c M2 M3 M4 M5 M6 M7 M8 M9 M10 f2 f3 f4 f5 f6 f7 f8 f9 f10 k).2 = lay128 ((Memref.whole cc0_scratch7).view.readCov
    (pieces (fun _ => hRepPiece c M2 M3 M4 M5 M6 M7 M8 M9 M10 f2 f3 f4 f5 f6 f7 f8 f9 f10) 1)
    (Rect.unit (s := S384x128) ![128 * (k % 3), 0] S128x128.size (inb2 (by omega) (by omega))).toLoadRect) := by
  unfold hScalePiece; rfl

theorem agrees_hRep : Agrees (pieces (fun _ => hRepPiece c M2 M3 M4 M5 M6 M7 M8 M9 M10 f2 f3 f4 f5 f6 f7 f8 f9 f10) 1)
    (G2 fun i _ => scale (hRow c M2 M3 M4 M5 M6 M7 M8 M9 M10 f2 f3 f4 f5 f6 f7 f8 f9 f10 i)) := by
  refine agrees_pieces fun k hk => at_unit2 (inb2 (by omega) (by omega)) _ _ fun i j => ?_
  refine (congrFun (hRepPiece_snd c M2 M3 M4 M5 M6 M7 M8 M9 M10 f2 f3 f4 f5 f6 f7 f8 f9 f10) (ix2 i j)).trans ?_
  refine (repTall_apply (hScale c M2 M3 M4 M5 M6 M7 M8 M9 M10 f2 f3 f4 f5 f6 f7 f8 f9 f10) i j).trans ?_
  rw [hScale_apply]
  exact congrArg (fun i => scale (hRow c M2 M3 M4 M5 M6 M7 M8 M9 M10 f2 f3 f4 f5 f6 f7 f8 f9 f10 i)) (Fin.ext (Nat.zero_add _).symm)

theorem covers_hRep : Covers (pieces (fun _ => hRepPiece c M2 M3 M4 M5 M6 M7 M8 M9 M10 f2 f3 f4 f5 f6 f7 f8 f9 f10) 1) := by
  refine covers_pieces fun y => ?_
  have h0 : (y 0).val < 384 := (y 0).isLt
  have h1 : (y 1).val < 128 := (y 1).isLt
  refine ⟨0, by omega, mem2 (inb2 (by omega) (by omega)) y ?_ ?_⟩ <;> omega

theorem agrees_hScale : Agrees (pieces (hScalePiece c M2 M3 M4 M5 M6 M7 M8 M9 M10 f2 f3 f4 f5 f6 f7 f8 f9 f10) 3)
    (G3 fun _ _ i => scale (hRow c M2 M3 M4 M5 M6 M7 M8 M9 M10 f2 f3 f4 f5 f6 f7 f8 f9 f10 i)) := by
  refine agrees_pieces fun k hk => at_unit3 (inb3 (by omega) (by omega) (by omega)) _ _ fun a b j => ?_
  obtain rfl : a = 0 := Subsingleton.elim _ _
  obtain rfl : b = 0 := Subsingleton.elim _ _
  refine (congrFun (hScalePiece_snd c M2 M3 M4 M5 M6 M7 M8 M9 M10 f2 f3 f4 f5 f6 f7 f8 f9 f10 k) (ix3 0 0 j)).trans ?_
  refine (lay128_apply _ j).trans ?_
  refine (readCov2 _ _ _ (agrees_hRep c M2 M3 M4 M5 M6 M7 M8 M9 M10 f2 f3 f4 f5 f6 f7 f8 f9 f10) _ j 0
    (covers_hRep c M2 M3 M4 M5 M6 M7 M8 M9 M10 f2 f3 f4 f5 f6 f7 f8 f9 f10 _)).trans ?_
  rfl

theorem covers_hScale : Covers (pieces (hScalePiece c M2 M3 M4 M5 M6 M7 M8 M9 M10 f2 f3 f4 f5 f6 f7 f8 f9 f10) 3) := by
  refine covers_pieces fun y => ?_
  have h0 : (y 0).val < 1 := (y 0).isLt
  have h1 : (y 1).val < 1 := (y 1).isLt
  have h2 : (y 2).val < 384 := (y 2).isLt
  refine ⟨(y 2).val / 128, by omega, mem3 (inb3 (by omega) (by omega) (by omega)) y ?_ ?_ ?_⟩ <;> omega

/-- The hidden row, extended to the width of the wide scratch. -/
def hWide (i : Fin 384) (j : Fin 3072) : EReal :=
  if h : j.val < 2048 then hRow c M2 M3 M4 M5 M6 M7 M8 M9 M10 f2 f3 f4 f5 f6 f7 f8 f9 f10 i ⟨j, h⟩ else 0

theorem hWide_of (i : Fin 384) (j : Fin 3072) (h : j.val < 2048) :
    hWide c M2 M3 M4 M5 M6 M7 M8 M9 M10 f2 f3 f4 f5 f6 f7 f8 f9 f10 i j
      = hRow c M2 M3 M4 M5 M6 M7 M8 M9 M10 f2 f3 f4 f5 f6 f7 f8 f9 f10 i ⟨j, h⟩ := dif_pos h

theorem agrees_h : Agrees (pieces (hPiece c M2 M3 M4 M5 M6 M7 M8 M9 M10 f2 f3 f4 f5 f6 f7 f8 f9 f10) 8)
    (G2 fun i j => hWide c M2 M3 M4 M5 M6 M7 M8 M9 M10 f2 f3 f4 f5 f6 f7 f8 f9 f10 i j) := by
  refine agrees_pieces fun k hk => at_unit2 (inb2 (by omega) (by omega)) _ _ fun i j => ?_
  show (shapeCast S384x256 (hCol c M2 M3 M4 M5 M6 M7 M8 M9 M10 f2 f3 f4 f5 f6 f7 f8 f9 f10 k) shapeCasts_S384x256_S384x256
    : FVec Ideal S384x256 .f32) (ix2 i j) = _
  refine (keepTall_apply _ i j).trans ?_
  rw [hCol_apply, hWide_of _ _ _ _ _ _ _ _ _ _ _ _ _ _ _ _ _ _ _ _ _ (by show 256 * (k % 8) + j.val < 2048; omega)]
  exact congrArg (fun i => hRow c M2 M3 M4 M5 M6 M7 M8 M9 M10 f2 f3 f4 f5 f6 f7 f8 f9 f10 i _) (Fin.ext (Nat.zero_add _).symm)

theorem mem_h (y : S384x3072.Idx) (hy : (y 1).val < 2048) :
    ∃ q ∈ pieces (hPiece c M2 M3 M4 M5 M6 M7 M8 M9 M10 f2 f3 f4 f5 f6 f7 f8 f9 f10) 8, y ∈ q.1.set := by
  have h0 : (y 0).val < 384 := (y 0).isLt
  refine ⟨_, (mem_pieces _ _ _).mpr ⟨(y 1).val / 256, by omega, rfl⟩, mem2 (inb2 (by omega) (by omega)) y ?_ ?_⟩ <;> omega

theorem hLoad_apply (o p : ℕ) (hp : p + 128 ≤ 2048) (h : ∀ x, (![o, p] : Fin 2 → ℕ) x + S32x128.size x ≤ S384x3072.size x)
    (i : Fin 32) (j : Fin 128) :
    (Memref.whole cc0_scratch4).view.readCov (hWrites c M2 M3 M4 M5 M6 M7 M8 M9 M10 f2 f3 f4 f5 f6 f7 f8 f9 f10)
      (Rect.unit (s := S384x3072) ![o, p] S32x128.size h).toLoadRect (ix2 i j)
      = hRow c M2 M3 M4 M5 M6 M7 M8 M9 M10 f2 f3 f4 f5 f6 f7 f8 f9 f10 ⟨o + i, lt_of_lt_of_le (Nat.add_lt_add_left i.isLt o) (h 0)⟩
        ⟨p + j, by omega⟩ := by
  refine (congrArg ((Memref.whole cc0_scratch4).view.read (Elt Ideal) _) (emb2 h i j)).trans ?_
  unfold hWrites
  rw [View.writes_append]
  refine (View.read_writes_apply_of_pieces _ _ _ _ (agrees_h c M2 M3 M4 M5 M6 M7 M8 M9 M10 f2 f3 f4 f5 f6 f7 f8 f9 f10) _
    (mem_h c M2 M3 M4 M5 M6 M7 M8 M9 M10 f2 f3 f4 f5 f6 f7 f8 f9 f10 _ ?_)).trans ?_
  · show p + j.val < 2048; omega
  · exact hWide_of _ _ _ _ _ _ _ _ _ _ _ _ _ _ _ _ _ _ _ _ _ (by show p + j.val < 2048; omega)

theorem hRepLoad_apply (o : ℕ) (h : ∀ x, (![o, 0] : Fin 2 → ℕ) x + S32x128.size x ≤ S384x128.size x) (i : Fin 32) (j : Fin 128) :
    (Memref.whole cc0_scratch7).view.readCov
      (pieces (fun _ => hRepPiece c M2 M3 M4 M5 M6 M7 M8 M9 M10 f2 f3 f4 f5 f6 f7 f8 f9 f10) 1)
      (Rect.unit (s := S384x128) ![o, 0] S32x128.size h).toLoadRect (ix2 i j)
      = scale (hRow c M2 M3 M4 M5 M6 M7 M8 M9 M10 f2 f3 f4 f5 f6 f7 f8 f9 f10
        ⟨o + i, lt_of_lt_of_le (Nat.add_lt_add_left i.isLt o) (h 0)⟩) :=
  readCov2 _ _ _ (agrees_hRep c M2 M3 M4 M5 M6 M7 M8 M9 M10 f2 f3 f4 f5 f6 f7 f8 f9 f10) h i j
    (covers_hRep c M2 M3 M4 M5 M6 M7 M8 M9 M10 f2 f3 f4 f5 f6 f7 f8 f9 f10 _)

theorem agrees_hCode : Agrees (pieces (hCodePiece c M2 M3 M4 M5 M6 M7 M8 M9 M10 f2 f3 f4 f5 f6 f7 f8 f9 f10) 192)
    (G2 fun i j => codes (hRow c M2 M3 M4 M5 M6 M7 M8 M9 M10 f2 f3 f4 f5 f6 f7 f8 f9 f10 i) j) := by
  refine agrees_pieces fun k hk => at_unit2 (inb2 (by omega) (by omega)) _ _ fun i j => ?_
  refine (codes32_apply _ i j).trans ?_
  rw [mulf_apply, oneOver_apply, hLoad_apply _ _ _ _ _ _ _ _ _ _ _ _ _ _ _ _ _ _ _ _ _ (by omega), hRepLoad_apply, scale,
    mul_one_div_scaleOf]
  rfl

theorem covers_hCode : Covers (pieces (hCodePiece c M2 M3 M4 M5 M6 M7 M8 M9 M10 f2 f3 f4 f5 f6 f7 f8 f9 f10) 192) := by
  refine covers_pieces fun y => ?_
  have h0 : (y 0).val < 384 := (y 0).isLt
  have h1 : (y 1).val < 2048 := (y 1).isLt
  refine ⟨16 * ((y 0).val / 32) + (y 1).val / 128, by omega, mem2 (inb2 (by omega) (by omega)) y ?_ ?_⟩ <;> omega

theorem hCodes_apply (h : ∀ x, (![0, 0] : Fin 2 → ℕ) x + S384x2048.size x ≤ S384x2048.size x) (i : Fin 384) (k : Fin 2048) :
    (Memref.whole cc0_scratch2).view.readCov (pieces (hCodePiece c M2 M3 M4 M5 M6 M7 M8 M9 M10 f2 f3 f4 f5 f6 f7 f8 f9 f10) 192)
      (Rect.unit (s := S384x2048) ![0, 0] S384x2048.size h).toLoadRect (ix2 i k)
      = codes (hRow c M2 M3 M4 M5 M6 M7 M8 M9 M10 f2 f3 f4 f5 f6 f7 f8 f9 f10 i) k := by
  refine (readCov2 _ _ _ (agrees_hCode c M2 M3 M4 M5 M6 M7 M8 M9 M10 f2 f3 f4 f5 f6 f7 f8 f9 f10) h i k
    (covers_hCode c M2 M3 M4 M5 M6 M7 M8 M9 M10 f2 f3 f4 f5 f6 f7 f8 f9 f10 _)).trans ?_
  exact congrArg₂ (fun i k => codes (hRow c M2 M3 M4 M5 M6 M7 M8 M9 M10 f2 f3 f4 f5 f6 f7 f8 f9 f10 i) k)
    (Fin.ext (Nat.zero_add _)) (Fin.ext (Nat.zero_add _))

theorem hRepAll_apply (h : ∀ x, (![0, 0] : Fin 2 → ℕ) x + S384x128.size x ≤ S384x128.size x) (i : Fin 384) (j : Fin 128) :
    (Memref.whole cc0_scratch7).view.readCov
      (pieces (fun _ => hRepPiece c M2 M3 M4 M5 M6 M7 M8 M9 M10 f2 f3 f4 f5 f6 f7 f8 f9 f10) 1)
      (Rect.unit (s := S384x128) ![0, 0] S384x128.size h).toLoadRect (ix2 i j)
      = scale (hRow c M2 M3 M4 M5 M6 M7 M8 M9 M10 f2 f3 f4 f5 f6 f7 f8 f9 f10 i) := by
  refine (readCov2 _ _ _ (agrees_hRep c M2 M3 M4 M5 M6 M7 M8 M9 M10 f2 f3 f4 f5 f6 f7 f8 f9 f10) h i j
    (covers_hRep c M2 M3 M4 M5 M6 M7 M8 M9 M10 f2 f3 f4 f5 f6 f7 f8 f9 f10 _)).trans ?_
  exact congrArg (fun i => scale (hRow c M2 M3 M4 M5 M6 M7 M8 M9 M10 f2 f3 f4 f5 f6 f7 f8 f9 f10 i)) (Fin.ext (Nat.zero_add _))

theorem yLoad_apply (p : ℕ) (h : ∀ x, (![0, p] : Fin 2 → ℕ) x + S384x256.size x ≤ S384x3072.size x) (i : Fin 384) (j : Fin 256) :
    (Memref.whole cc0_scratch3).view.readCov (pieces (yPiece c M2 M3 M4 M5 M6 f2 f3 f4 f5 f6) 12)
      (Rect.unit (s := S384x3072) ![0, p] S384x256.size h).toLoadRect (ix2 i j)
      = resRow c M2 M3 M4 M5 M6 f2 f3 f4 f5 f6 i ⟨p + j, lt_of_lt_of_le (Nat.add_lt_add_left j.isLt p) (h 1)⟩ := by
  refine (readCov2 _ _ _ (agrees_y c M2 M3 M4 M5 M6 f2 f3 f4 f5 f6) h i j (covers_y c M2 M3 M4 M5 M6 f2 f3 f4 f5 f6 _)).trans ?_
  exact congrArg (fun i => resRow c M2 M3 M4 M5 M6 f2 f3 f4 f5 f6 i _) (Fin.ext (Nat.zero_add _))

theorem gate_apply (p : ℕ) (h : ∀ x, (![0, p] : Fin 2 → ℕ) x + S1x256.size x ≤ S1x3072.size x) (j : Fin 256) :
    View.readAt (Elt Ideal) (modRow M4 5 (by omega)).view (Rect.unit (s := S1x3072) ![0, p] S1x256.size h).toLoadRect f4
      (ix2 (0 : Fin 1) j) = modAt c M4 f4 5 ⟨p + j, lt_of_lt_of_le (Nat.add_lt_add_left j.isLt p) (h 1)⟩ := by
  refine (readAt2 (modRow M4 5 (by omega)).view f4 h (0 : Fin 1) j).trans ?_
  exact modRow_read c M4 f4 5 (by decide) _ _

theorem weight2_apply (p : ℕ) (h : ∀ x, (![0, p] : Fin 2 → ℕ) x + S2048x256.size x ≤ S2048x3072.size x) (k : Fin 2048) (j : Fin 256) :
    View.readAt (Elt Ideal) M11.view (Rect.unit (s := S2048x3072) ![0, p] S2048x256.size h).toLoadRect f11 (ix2 k j)
      = M11.view.read (Elt Ideal) f11 (ix2 k (⟨p + j, lt_of_lt_of_le (Nat.add_lt_add_left j.isLt p) (h 1)⟩ : Fin 3072)) := by
  refine (readAt2 M11.view f11 h k j).trans ?_
  exact congrArg (fun k => M11.view.read (Elt Ideal) f11 (ix2 k _)) (Fin.ext (Nat.zero_add _))

theorem factor2_apply (p : ℕ) (h : ∀ x, (![0, p] : Fin 2 → ℕ) x + S1x256.size x ≤ S1x3072.size x) (j : Fin 256) :
    View.readAt (Elt Ideal) M12.view (Rect.unit (s := S1x3072) ![0, p] S1x256.size h).toLoadRect f12 (ix2 (0 : Fin 1) j)
      = M12.view.read (Elt Ideal) f12 (ix2 (0 : Fin 1) (⟨p + j, lt_of_lt_of_le (Nat.add_lt_add_left j.isLt p) (h 1)⟩ : Fin 3072)) :=
  readAt2 M12.view f12 h (0 : Fin 1) j

theorem hSum_apply (p : ℕ) (h0 : ∀ x, (![0, 0] : Fin 2 → ℕ) x + S384x2048.size x ≤ S384x2048.size x)
    (h : ∀ x, (![0, p] : Fin 2 → ℕ) x + S2048x256.size x ≤ S2048x3072.size x) (i : Fin 384) (j : Fin 256) :
    (∑ x : Fin 2048, (show EReal from (Memref.whole cc0_scratch2).view.readCov (pieces (hCodePiece c M2 M3 M4 M5 M6 M7 M8 M9 M10 f2 f3 f4 f5 f6 f7 f8 f9 f10) 192)
      (Rect.unit (s := S384x2048) ![0, 0] S384x2048.size h0).toLoadRect (ix2 i x))
      * View.readAt (Elt Ideal) M11.view (Rect.unit (s := S2048x3072) ![0, p] S2048x256.size h).toLoadRect f11 (ix2 x j))
      = ∑ x : Fin 2048, codes (hRow c M2 M3 M4 M5 M6 M7 M8 M9 M10 f2 f3 f4 f5 f6 f7 f8 f9 f10 i) x
        * M11.view.read (Elt Ideal) f11 (ix2 x (⟨p + j, lt_of_lt_of_le (Nat.add_lt_add_left j.isLt p) (h 1)⟩ : Fin 3072)) := by
  refine Finset.sum_congr rfl fun x _ => ?_
  rw [hCodes_apply]
  exact congrArg (fun e : EReal => codes (hRow c M2 M3 M4 M5 M6 M7 M8 M9 M10 f2 f3 f4 f5 f6 f7 f8 f9 f10 i) x * e) (weight2_apply c M11 f11 p h x j)

theorem agrees_z : Agrees (pieces (zPiece c M2 M3 M4 M5 M6 M7 M8 M9 M10 M11 M12 f2 f3 f4 f5 f6 f7 f8 f9 f10 f11 f12) 12)
    (G3 fun _ i j => zRow c M2 M3 M4 M5 M6 M7 M8 M9 M10 M11 M12 f2 f3 f4 f5 f6 f7 f8 f9 f10 f11 f12 i j) := by
  refine agrees_pieces fun n hn => at_unit3 (inb3 (by omega) (by omega) (by omega)) _ _ fun a i j => ?_
  obtain rfl : a = 0 := Subsingleton.elim _ _
  refine (final_apply _ _ _ _ _ _ i j).trans ?_
  rw [yLoad_apply, gate_apply, rowOf_apply, factor2_apply,
    dup_apply _ _ (hRepAll_apply c M2 M3 M4 M5 M6 M7 M8 M9 M10 f2 f3 f4 f5 f6 f7 f8 f9 f10 _)]
  rw [hSum_apply]
  refine Eq.trans (b := zRow c M2 M3 M4 M5 M6 M7 M8 M9 M10 M11 M12 f2 f3 f4 f5 f6 f7 f8 f9 f10 f11 f12 i ⟨256 * (n % 12) + j, by omega⟩) ?_ ?_
  · unfold zRow; rfl
  · exact congrArg (fun i => zRow c M2 M3 M4 M5 M6 M7 M8 M9 M10 M11 M12 f2 f3 f4 f5 f6 f7 f8 f9 f10 f11 f12 i ⟨256 * (n % 12) + j, by omega⟩) (Fin.ext (Nat.zero_add _).symm)

theorem covers_z : Covers (pieces (zPiece c M2 M3 M4 M5 M6 M7 M8 M9 M10 M11 M12 f2 f3 f4 f5 f6 f7 f8 f9 f10 f11 f12) 12) := by
  refine covers_pieces fun y => ?_
  have h0 : (y 0).val < 1 := (y 0).isLt
  have h1 : (y 1).val < 384 := (y 1).isLt
  have h2 : (y 2).val < 3072 := (y 2).isLt
  refine ⟨(y 2).val / 256, by omega, mem3 (inb3 (by omega) (by omega) (by omega)) y ?_ ?_ ?_⟩ <;> omega

end

end Cert.KernelIdeal.Hand.Tile

end
-- ==== Proof.TileRun.lean ====
/-
  What the run of the body leaves in each buffer, told by the loops of `TileLoops`: the two are the same term.
-/
module

public import proofs.«01_k».proof.Proof.KernelIdealFull
public import proofs.«01_k».proof.Proof.TileLoops

@[expose] public section

set_option maxRecDepth 100000
set_option maxHeartbeats 0

noncomputable section

namespace Cert.KernelIdeal.Hand.Tile

open Cert.KernelIdeal Cert.KernelIdeal.Gen Cert.KernelIdeal.Hand
open Idealize.ShloMosaic Idealize.ShloMosaic.TcCoe Idealize.ShloMosaic.Tactic
open Idealize.SL.Sem

variable {F : FTy → Type} [FloatOps F]
variable (c : Dev nD)
  (M2 : Memref sig .tc .vmem S1x6x384x128 .f32) (M3 : Memref sig .tc .vmem S1x384x3072 .bf16)
  (M4 : Memref sig .tc .vmem S1x6x3072 .f32) (M5 : Memref sig .tc .vmem S768x3072 .fp8e4m3)
  (M6 : Memref sig .tc .vmem S1x3072 .f32) (M7 : Memref sig .tc .vmem S3072x2048 .fp8e4m3)
  (M8 : Memref sig .tc .vmem S1x2048 .f32) (M9 : Memref sig .tc .vmem S3072x2048 .fp8e4m3)
  (M10 : Memref sig .tc .vmem S1x2048 .f32) (M11 : Memref sig .tc .vmem S2048x3072 .fp8e4m3)
  (M12 : Memref sig .tc .vmem S1x3072 .f32)
  (f2 : Bf (F := F) c M2) (f3 : Bf (F := F) c M3) (f4 : Bf (F := F) c M4) (f5 : Bf (F := F) c M5)
  (f6 : Bf (F := F) c M6) (f7 : Bf (F := F) c M7) (f8 : Bf (F := F) c M8) (f9 : Bf (F := F) c M9)
  (f10 : Bf (F := F) c M10) (f11 : Bf (F := F) c M11) (f12 : Bf (F := F) c M12)

theorem codes_att : runFull.sl.H21_72 c M2 f2 =
    pieces (codePiece c M2 f2) 72 := by sl_kernel_rfl

theorem copy_att : runFull.sl.H13_72 c M2 f2 =
    pieces (attPiece c M2 f2) 72 := by sl_kernel_rfl

theorem rep_att : runFull.sl.H26_12 c M2 f2 =
    pieces (attRepPiece c M2 f2) 12 := by sl_kernel_rfl

theorem scale_att : runFull.sl.H15_3 c M2 f2 =
    pieces (attScalePiece c M2 f2) 3 := by sl_kernel_rfl

theorem resid : runFull.sl.H24_12 c M2 M3 M4 M5 M6 f2 f3 f4 f5 f6 =
    pieces (yPiece c M2 M3 M4 M5 M6 f2 f3 f4 f5 f6) 12 := by sl_kernel_rfl

theorem normed : runFull.sl.H25_288 c M2 M3 M4 M5 M6 f2 f3 f4 f5 f6 =
    pieces (uPiece c M2 M3 M4 M5 M6 f2 f3 f4 f5 f6) 288 := by sl_kernel_rfl

theorem codes_normed : runFull.sl.H22_288 c M2 M3 M4 M5 M6 f2 f3 f4 f5 f6 =
    pieces (xPiece c M2 M3 M4 M5 M6 f2 f3 f4 f5 f6) 288 := by sl_kernel_rfl

theorem scale_normed : runFull.sl.H17_3 c M2 M3 M4 M5 M6 f2 f3 f4 f5 f6 =
    pieces (xScalePiece c M2 M3 M4 M5 M6 f2 f3 f4 f5 f6) 3 := by sl_kernel_rfl

theorem codes_hidden : runFull.sl.H23_192 c M2 M3 M4 M5 M6 M7 M8 M9 M10 f2 f3 f4 f5 f6 f7 f8 f9 f10 =
    pieces (hCodePiece c M2 M3 M4 M5 M6 M7 M8 M9 M10 f2 f3 f4 f5 f6 f7 f8 f9 f10) 192 := by sl_kernel_rfl

theorem scale_hidden : runFull.sl.H19_3 c M2 M3 M4 M5 M6 M7 M8 M9 M10 f2 f3 f4 f5 f6 f7 f8 f9 f10 =
    pieces (hScalePiece c M2 M3 M4 M5 M6 M7 M8 M9 M10 f2 f3 f4 f5 f6 f7 f8 f9 f10) 3 := by sl_kernel_rfl

theorem result : runFull.sl.H20_12 c M2 M3 M4 M5 M6 M7 M8 M9 M10 M11 M12 f2 f3 f4 f5 f6 f7 f8 f9 f10 f11 f12 =
    pieces (zPiece c M2 M3 M4 M5 M6 M7 M8 M9 M10 M11 M12 f2 f3 f4 f5 f6 f7 f8 f9 f10 f11 f12) 12 := by sl_kernel_rfl

end Cert.KernelIdeal.Hand.Tile

end
-- ==== Proof.TokenSpec.lean ====
/-
  The layer on every token: what both programs leave in their results, as functions of the arguments.
-/
module

public import proofs.«01_k».proof.Proof.RowSpec

@[expose] public section

noncomputable section

namespace Cert.RowSpec

/-- The arguments: the attention output by head, the input, the modulation vectors, the weights and their scales. -/
@[ext] structure Inputs where
  att : Fin 3 → Fin 6 → Fin 6480 → Fin 128 → EReal
  x : Fin 3 → Fin 6480 → Fin 3072 → EReal
  mod : Fin 3 → Fin 6 → Fin 3072 → EReal
  wo : Fin 768 → Fin 3072 → EReal
  so : Fin 3072 → EReal
  w1 : Fin 3072 → Fin 2048 → EReal
  s1 : Fin 2048 → EReal
  w3 : Fin 3072 → Fin 2048 → EReal
  s3 : Fin 2048 → EReal
  w2 : Fin 2048 → Fin 3072 → EReal
  s2 : Fin 3072 → EReal

namespace Inputs

variable (I : Inputs) (b : Fin 3) (t : Fin 6480)

/-- The token's attention output, its heads side by side. -/
def attRow (d : Fin 768) : EReal := I.att b (⟨d / 128, by omega⟩ : Fin 6) t (⟨d % 128, by omega⟩ : Fin 128)

/-- The token's residual. -/
def res : Fin 3072 → EReal := resid (I.attRow b t) (I.x b t) (I.mod b 2) I.wo I.so

/-- The residual, normed and modulated. -/
def norm : Fin 3072 → EReal := normed (I.res b t) (I.mod b 3) (I.mod b 4)

/-- The gated hidden layer. -/
def hid : Fin 2048 → EReal := hidden (I.norm b t) I.w1 I.w3 I.s1 I.s3

/-- The layer's result. -/
def out : Fin 3072 → EReal := result (I.res b t) (I.mod b 5) (I.hid b t) I.w2 I.s2

end Inputs

end Cert.RowSpec

end
-- ==== Proof.TileSpec.lean ====
/-
  A tile whose windows hold the arguments' rows leaves the layer's values: in its result windows, and in the rows of the
  arrays of codes which it copies out.
-/
module

public import proofs.«01_k».proof.Proof.TileHidden
public import proofs.«01_k».proof.Proof.TileRun
public import proofs.«01_k».proof.Proof.TokenSpec
public import proofs.«01_k».proof.Proof.KernelIdealTail

@[expose] public section

set_option maxRecDepth 16384
set_option maxHeartbeats 400000

noncomputable section

namespace Cert.KernelIdeal.Hand.Tile

open Cert.KernelIdeal Cert.KernelIdeal.Gen Cert.KernelIdeal.Hand
open Idealize.ShloMosaic Idealize.ShloMosaic.TcCoe
open Idealize.SL.Sem
open Cert.RowSpec

/-! ### Rows copied out of a tile -/

section
variable {sp : Space} {e : EltTy} {A B C n : ℕ}

/-- The rows a copy writes. -/
theorem copy_hit (v : View sig .tc sp ⟨3, ![A, B, C]⟩ e) (f : v.ty.Contents (Elt Ideal)) (off : Fin 3 → ℕ) {o p : ℕ}
    (ho : off = ![o, p, 0])
    (h : ∀ x, off x + (⟨3, ![1, n, C]⟩ : Shape).size x ≤ (⟨3, ![A, B, C]⟩ : Shape).size x)
    (hn : (⟨2, ![n, C]⟩ : Shape).numel = (Rect.unit (s := ⟨3, ![A, B, C]⟩) off (⟨3, ![1, n, C]⟩ : Shape).size h).shape.numel)
    (w : (⟨2, ![n, C]⟩ : Shape).Idx → Elt Ideal e) (b : Fin A) (r : Fin B) (d : Fin C) (i : Fin n) (hb : b.val = o)
    (hr : r.val = p + i.val) :
    v.read (Elt Ideal) (((v.slice (Rect.unit (s := ⟨3, ![A, B, C]⟩) off (⟨3, ![1, n, C]⟩ : Shape).size h)).reshape ⟨2, ![n, C]⟩ hn).write
      (Elt Ideal) f w Finset.univ) (ix3 b r d) = w (ix2 i d) := by
  subst ho
  rw [View.write_reshape_univ, ← View.writes_singleton]
  have he : ix3 b r d = (Rect.unit (s := ⟨3, ![A, B, C]⟩) ![o, p, 0] (⟨3, ![1, n, C]⟩ : Shape).size h).emb (ix3 (0 : Fin 1) i d) := by
    rw [emb3]
    congr 1
    · exact Fin.ext hb
    · exact Fin.ext hr
    · exact Fin.ext (Nat.zero_add _).symm
  rw [he, View.read_writes_cons_emb]
  refine congrArg w ?_
  rw [Equiv.symm_apply_eq]
  refine (Shape.reshapeEquiv_eq_of_rowMajor _ ?_).symm
  refine (Shape.rowMajor_val_three (d := ![1, n, C]) _).trans (Eq.trans ?_ (Shape.rowMajor_val_two (d := ![n, C]) _).symm)
  show (0 * n + i.val) * C + d.val = i.val * C + d.val
  rw [Nat.zero_mul, Nat.zero_add]

/-- The other rows. -/
theorem copy_miss (v : View sig .tc sp ⟨3, ![A, B, C]⟩ e) (f : v.ty.Contents (Elt Ideal)) (off : Fin 3 → ℕ) {o p : ℕ}
    (ho : off = ![o, p, 0])
    (h : ∀ x, off x + (⟨3, ![1, n, C]⟩ : Shape).size x ≤ (⟨3, ![A, B, C]⟩ : Shape).size x)
    (hn : (⟨2, ![n, C]⟩ : Shape).numel = (Rect.unit (s := ⟨3, ![A, B, C]⟩) off (⟨3, ![1, n, C]⟩ : Shape).size h).shape.numel)
    (w : (⟨2, ![n, C]⟩ : Shape).Idx → Elt Ideal e) (b : Fin A) (r : Fin B) (d : Fin C)
    (hb : ¬ (b.val = o ∧ p ≤ r.val ∧ r.val < p + n)) :
    v.read (Elt Ideal) (((v.slice (Rect.unit (s := ⟨3, ![A, B, C]⟩) off (⟨3, ![1, n, C]⟩ : Shape).size h)).reshape ⟨2, ![n, C]⟩ hn).write
      (Elt Ideal) f w Finset.univ) (ix3 b r d) = v.read (Elt Ideal) f (ix3 b r d) := by
  subst ho
  rw [View.write_reshape_univ, ← View.writes_singleton, View.read_writes_apply_of_forall_not_mem]
  intro q hq hm
  obtain rfl := List.mem_singleton.mp hq
  have hm' := (Rect.mem_set_unit (s := ⟨3, ![A, B, C]⟩) (inb := h)).mp hm
  have h0 : o ≤ b.val ∧ b.val < o + 1 := hm' 0
  have h1 : p ≤ r.val ∧ r.val < p + n := hm' 1
  exact hb ⟨by omega, h1⟩

/-- The first rows of a scratch written all over, as a copy reads them. -/
theorem copied_apply (v : View sig .tc sp ⟨2, ![A, B]⟩ e) (f : v.ty.Contents (Elt Ideal)) (L : List (View.Piece (Elt Ideal) ⟨2, ![A, B]⟩ e))
    (G : (⟨2, ![A, B]⟩ : Shape).Idx → Elt Ideal e) (hG : Agrees L G) (hc : Covers L)
    (h : ∀ x, (![0, 0] : Fin 2 → ℕ) x + (⟨2, ![n, B]⟩ : Shape).size x ≤ (⟨2, ![A, B]⟩ : Shape).size x) (hA : n ≤ A) (i : Fin n) (j : Fin B) :
    (v.slice (Rect.unit (s := ⟨2, ![A, B]⟩) ![0, 0] (⟨2, ![n, B]⟩ : Shape).size h)).read (Elt Ideal) (v.writes (Elt Ideal) f L) (ix2 i j)
      = G (ix2 (⟨i, by omega⟩ : Fin A) j) := by
  refine (congrArg (v.read (Elt Ideal) _) (emb2 h i j)).trans ?_
  refine (View.read_writes_apply_of_pieces _ _ _ _ hG _ (hc _)).trans (congrArg G ?_)
  congr 1
  · exact Fin.ext (Nat.zero_add _)
  · exact Fin.ext (Nat.zero_add _)

/-- The rows of the first `t` tiles hold `g`. -/
def Done (v : View sig .tc sp ⟨3, ![3, 6480, C]⟩ e) (g : Fin 3 → Fin 6480 → Fin C → Elt Ideal e) (t : ℕ) (f : v.ty.Contents (Elt Ideal)) : Prop :=
  ∀ b r d, 17 * b.val + r.val / 384 < t → v.read (Elt Ideal) f (ix3 b r d) = g b r d

theorem done_copy (v : View sig .tc sp ⟨3, ![3, 6480, C]⟩ e) (g : Fin 3 → Fin 6480 → Fin C → Elt Ideal e) (f : v.ty.Contents (Elt Ideal))
    (off : Fin 3 → ℕ) (o : Fin 3) (s : Fin 17) (ho : off = ![o.val, 384 * s.val, 0])
    (h : ∀ x, off x + (⟨3, ![1, n, C]⟩ : Shape).size x ≤ (⟨3, ![3, 6480, C]⟩ : Shape).size x)
    (hn : (⟨2, ![n, C]⟩ : Shape).numel = (Rect.unit (s := ⟨3, ![3, 6480, C]⟩) off (⟨3, ![1, n, C]⟩ : Shape).size h).shape.numel)
    (w : (⟨2, ![n, C]⟩ : Shape).Idx → Elt Ideal e)
    (hs : ∀ r : Fin 6480, r.val / 384 = s.val → r.val < 384 * s.val + n)
    (hw : ∀ (i : Fin n) (d : Fin C) (hi : 384 * s.val + i.val < 6480), w (ix2 i d) = g o ⟨384 * s.val + i.val, hi⟩ d)
    (hd : Done v g (17 * o.val + s.val) f) :
    Done v g (17 * o.val + s.val + 1) (((v.slice (Rect.unit (s := ⟨3, ![3, 6480, C]⟩) off (⟨3, ![1, n, C]⟩ : Shape).size h)).reshape ⟨2, ![n, C]⟩ hn).write
      (Elt Ideal) f w Finset.univ) := by
  intro b r d hlt
  by_cases hin : b.val = o.val ∧ 384 * s.val ≤ r.val ∧ r.val < 384 * s.val + n
  · obtain ⟨hb, h1, h2⟩ := hin
    have hi : r.val = 384 * s.val + (⟨r.val - 384 * s.val, by omega⟩ : Fin n).val := by
      show r.val = 384 * s.val + (r.val - 384 * s.val); omega
    rw [copy_hit v f off ho h hn w b r d ⟨r.val - 384 * s.val, by omega⟩ hb hi, hw _ _ (hi ▸ r.isLt)]
    exact congrArg₂ (fun b r => g b r d) (Fin.ext hb.symm) (Fin.ext hi.symm)
  · rw [copy_miss v f off ho h hn w b r d hin]
    refine hd b r d ?_
    have hr := r.isLt
    have hs' := s.isLt
    have hr' := hs r
    by_contra hge
    have : b.val = o.val ∧ r.val / 384 = s.val := by omega
    exact hin ⟨this.1, by omega, hr' this.2⟩

end

/-! ### Rows of a tile -/

section
variable (c : Dev nD)
  (M2 : Memref sig .tc .vmem S1x6x384x128 .f32) (M3 : Memref sig .tc .vmem S1x384x3072 .bf16)
  (M4 : Memref sig .tc .vmem S1x6x3072 .f32) (M5 : Memref sig .tc .vmem S768x3072 .fp8e4m3)
  (M6 : Memref sig .tc .vmem S1x3072 .f32) (M7 : Memref sig .tc .vmem S3072x2048 .fp8e4m3)
  (M8 : Memref sig .tc .vmem S1x2048 .f32) (M9 : Memref sig .tc .vmem S3072x2048 .fp8e4m3)
  (M10 : Memref sig .tc .vmem S1x2048 .f32) (M11 : Memref sig .tc .vmem S2048x3072 .fp8e4m3)
  (M12 : Memref sig .tc .vmem S1x3072 .f32)
  (f2 : Bf (F := Ideal) c M2) (f3 : Bf (F := Ideal) c M3) (f4 : Bf (F := Ideal) c M4) (f5 : Bf (F := Ideal) c M5)
  (f6 : Bf (F := Ideal) c M6) (f7 : Bf (F := Ideal) c M7) (f8 : Bf (F := Ideal) c M8) (f9 : Bf (F := Ideal) c M9)
  (f10 : Bf (F := Ideal) c M10) (f11 : Bf (F := Ideal) c M11) (f12 : Bf (F := Ideal) c M12)

/-- The windows hold the rows of batch `b` from token `p` on, as far as there are tokens. -/
structure Holds (I : Inputs) (b : Fin 3) (p : ℕ) : Prop where
  att : ∀ h (i : Fin 384) d (hi : p + i.val < 6480), M2.view.read (Elt Ideal) f2 (ix4 (0 : Fin 1) h i d) = I.att b h ⟨p + i.val, hi⟩ d
  x : ∀ (i : Fin 384) j (hi : p + i.val < 6480), M3.view.read (Elt Ideal) f3 (ix3 (0 : Fin 1) i j) = I.x b ⟨p + i.val, hi⟩ j
  mod : ∀ q j, M4.view.read (Elt Ideal) f4 (ix3 (0 : Fin 1) q j) = I.mod b q j
  wo : ∀ k j, M5.view.read (Elt Ideal) f5 (ix2 k j) = I.wo k j
  so : ∀ j, M6.view.read (Elt Ideal) f6 (ix2 (0 : Fin 1) j) = I.so j
  w1 : ∀ k j, M7.view.read (Elt Ideal) f7 (ix2 k j) = I.w1 k j
  s1 : ∀ j, M8.view.read (Elt Ideal) f8 (ix2 (0 : Fin 1) j) = I.s1 j
  w3 : ∀ k j, M9.view.read (Elt Ideal) f9 (ix2 k j) = I.w3 k j
  s3 : ∀ j, M10.view.read (Elt Ideal) f10 (ix2 (0 : Fin 1) j) = I.s3 j
  w2 : ∀ k j, M11.view.read (Elt Ideal) f11 (ix2 k j) = I.w2 k j
  s2 : ∀ j, M12.view.read (Elt Ideal) f12 (ix2 (0 : Fin 1) j) = I.s2 j

variable {c M2 M3 M4 M5 M6 M7 M8 M9 M10 M11 M12 f2 f3 f4 f5 f6 f7 f8 f9 f10 f11 f12} {I : Inputs} {b : Fin 3} {p : ℕ}
  (H : Holds c M2 M3 M4 M5 M6 M7 M8 M9 M10 M11 M12 f2 f3 f4 f5 f6 f7 f8 f9 f10 f11 f12 I b p) (i : Fin 384) (hi : p + i.val < 6480)

include H

theorem attRow_eq : attRow c M2 f2 i = I.attRow b ⟨p + i.val, hi⟩ := funext fun d => H.att _ i _ hi

theorem modAt_eq (q : Fin 6) : modAt c M4 f4 q = I.mod b q := funext fun j => H.mod q j

theorem resRow_eq : resRow c M2 M3 M4 M5 M6 f2 f3 f4 f5 f6 i = I.res b ⟨p + i.val, hi⟩ := by
  unfold resRow Inputs.res
  rw [attRow_eq H i hi, modAt_eq H, show (fun j => M3.view.read (Elt Ideal) f3 (ix3 (0 : Fin 1) i j)) = I.x b ⟨p + i.val, hi⟩ from
    funext fun j => H.x i j hi, show (fun k j => M5.view.read (Elt Ideal) f5 (ix2 k j)) = I.wo from funext fun k => funext fun j => H.wo k j,
    show (fun j => M6.view.read (Elt Ideal) f6 (ix2 (0 : Fin 1) j)) = I.so from funext fun j => H.so j]

theorem uRow_eq : uRow c M2 M3 M4 M5 M6 f2 f3 f4 f5 f6 i = I.norm b ⟨p + i.val, hi⟩ := by
  unfold uRow Inputs.norm
  rw [resRow_eq H i hi, modAt_eq H, modAt_eq H]

theorem hRow_eq : hRow c M2 M3 M4 M5 M6 M7 M8 M9 M10 f2 f3 f4 f5 f6 f7 f8 f9 f10 i = I.hid b ⟨p + i.val, hi⟩ := by
  unfold hRow Inputs.hid
  rw [uRow_eq H i hi, show (fun k j => M7.view.read (Elt Ideal) f7 (ix2 k j)) = I.w1 from funext fun k => funext fun j => H.w1 k j,
    show (fun k j => M9.view.read (Elt Ideal) f9 (ix2 k j)) = I.w3 from funext fun k => funext fun j => H.w3 k j,
    show (fun j => M8.view.read (Elt Ideal) f8 (ix2 (0 : Fin 1) j)) = I.s1 from funext fun j => H.s1 j,
    show (fun j => M10.view.read (Elt Ideal) f10 (ix2 (0 : Fin 1) j)) = I.s3 from funext fun j => H.s3 j]

theorem zRow_eq : zRow c M2 M3 M4 M5 M6 M7 M8 M9 M10 M11 M12 f2 f3 f4 f5 f6 f7 f8 f9 f10 f11 f12 i = I.out b ⟨p + i.val, hi⟩ := by
  unfold zRow Inputs.out
  rw [resRow_eq H i hi, modAt_eq H, hRow_eq H i hi,
    show (fun k j => M11.view.read (Elt Ideal) f11 (ix2 k j)) = I.w2 from funext fun k => funext fun j => H.w2 k j,
    show (fun j => M12.view.read (Elt Ideal) f12 (ix2 (0 : Fin 1) j)) = I.s2 from funext fun j => H.s2 j]

/-! ### The result windows -/

theorem att_window (M13 : Memref sig .tc .vmem S1x384x768 .bf16) (f : M13.view.ty.Contents (Elt Ideal)) (d : Fin 768) :
    M13.view.read (Elt Ideal) (M13.view.writes (Elt Ideal) f (runFull.sl.H13_72 c M2 f2)) (ix3 (0 : Fin 1) i d)
      = I.attRow b ⟨p + i.val, hi⟩ d := by
  rw [copy_att]
  exact (View.read_writes_apply_of_pieces _ _ _ _ (agrees_copy c M2 f2) _ (covers_copy c M2 f2 _)).trans
    (congrFun (attRow_eq H i hi) d)

theorem attScale_window (M15 : Memref sig .tc .vmem S1x1x384 .f32) (f : M15.view.ty.Contents (Elt Ideal)) :
    M15.view.read (Elt Ideal) (M15.view.writes (Elt Ideal) f (runFull.sl.H15_3 c M2 f2)) (ix3 (0 : Fin 1) (0 : Fin 1) i)
      = scale (I.attRow b ⟨p + i.val, hi⟩) := by
  rw [scale_att]
  exact (View.read_writes_apply_of_pieces _ _ _ _ (agrees_attScale c M2 f2) _ (covers_attScale c M2 f2 _)).trans
    (congrArg scale (attRow_eq H i hi))

theorem xScale_window (M17 : Memref sig .tc .vmem S1x1x384 .f32) (f : M17.view.ty.Contents (Elt Ideal)) :
    M17.view.read (Elt Ideal) (M17.view.writes (Elt Ideal) f (runFull.sl.H17_3 c M2 M3 M4 M5 M6 f2 f3 f4 f5 f6)) (ix3 (0 : Fin 1) (0 : Fin 1) i)
      = scale (I.norm b ⟨p + i.val, hi⟩) := by
  rw [scale_normed]
  exact (View.read_writes_apply_of_pieces _ _ _ _ (agrees_xScale c M2 M3 M4 M5 M6 f2 f3 f4 f5 f6) _
    (covers_xScale c M2 M3 M4 M5 M6 f2 f3 f4 f5 f6 _)).trans (congrArg scale (uRow_eq H i hi))

theorem hScale_window (M19 : Memref sig .tc .vmem S1x1x384 .f32) (f : M19.view.ty.Contents (Elt Ideal)) :
    M19.view.read (Elt Ideal) (M19.view.writes (Elt Ideal) f (runFull.sl.H19_3 c M2 M3 M4 M5 M6 M7 M8 M9 M10 f2 f3 f4 f5 f6 f7 f8 f9 f10))
      (ix3 (0 : Fin 1) (0 : Fin 1) i) = scale (I.hid b ⟨p + i.val, hi⟩) := by
  rw [scale_hidden]
  exact (View.read_writes_apply_of_pieces _ _ _ _ (agrees_hScale c M2 M3 M4 M5 M6 M7 M8 M9 M10 f2 f3 f4 f5 f6 f7 f8 f9 f10) _
    (covers_hScale c M2 M3 M4 M5 M6 M7 M8 M9 M10 f2 f3 f4 f5 f6 f7 f8 f9 f10 _)).trans (congrArg scale (hRow_eq H i hi))

theorem out_window (M20 : Memref sig .tc .vmem S1x384x3072 .bf16) (f : M20.view.ty.Contents (Elt Ideal)) (j : Fin 3072) :
    M20.view.read (Elt Ideal) (M20.view.writes (Elt Ideal) f
      (runFull.sl.H20_12 c M2 M3 M4 M5 M6 M7 M8 M9 M10 M11 M12 f2 f3 f4 f5 f6 f7 f8 f9 f10 f11 f12)) (ix3 (0 : Fin 1) i j)
      = I.out b ⟨p + i.val, hi⟩ j := by
  rw [result]
  exact (View.read_writes_apply_of_pieces _ _ _ _ (agrees_z c M2 M3 M4 M5 M6 M7 M8 M9 M10 M11 M12 f2 f3 f4 f5 f6 f7 f8 f9 f10 f11 f12) _
    (covers_z c M2 M3 M4 M5 M6 M7 M8 M9 M10 M11 M12 f2 f3 f4 f5 f6 f7 f8 f9 f10 f11 f12 _)).trans (congrFun (zRow_eq H i hi) j)

omit H in
theorem off1_eq (g : grid0.Coords) : k0_off1 g = ![(g 0).val, 384 * (g 1).val, 0] := by
  have key : ∀ (a : Fin 3) (j : Fin 17), k0_off1 (fun x => match x with | 0 => a | 1 => j) = ![a.val, 384 * j.val, 0] := by decide
  exact key (g 0) (g 1)
omit H in
theorem off2_eq (g : grid0.Coords) : k0_off2 g = ![(g 0).val, 384 * (g 1).val, 0] := by
  have key : ∀ (a : Fin 3) (j : Fin 17), k0_off2 (fun x => match x with | 0 => a | 1 => j) = ![a.val, 384 * j.val, 0] := by decide
  exact key (g 0) (g 1)
omit H in
theorem off3_eq (g : grid0.Coords) : k0_off3 g = ![(g 0).val, 384 * (g 1).val, 0] := by
  have key : ∀ (a : Fin 3) (j : Fin 17), k0_off3 (fun x => match x with | 0 => a | 1 => j) = ![a.val, 384 * j.val, 0] := by decide
  exact key (g 0) (g 1)
omit H in
theorem off4_eq (g : grid0.Coords) : k0_off4 g = ![(g 0).val, 384 * (g 1).val, 0] := by
  have key : ∀ (a : Fin 3) (j : Fin 17), k0_off4 (fun x => match x with | 0 => a | 1 => j) = ![a.val, 384 * j.val, 0] := by decide
  exact key (g 0) (g 1)
omit H in
theorem off5_eq (g : grid0.Coords) : k0_off5 g = ![(g 0).val, 384 * (g 1).val, 0] := by
  have key : ∀ (a : Fin 3) (j : Fin 17), k0_off5 (fun x => match x with | 0 => a | 1 => j) = ![a.val, 384 * j.val, 0] := by decide
  exact key (g 0) (g 1)
omit H in
theorem off6_eq (g : grid0.Coords) : k0_off6 g = ![(g 0).val, 384 * (g 1).val, 0] := by
  have key : ∀ (a : Fin 3) (j : Fin 17), k0_off6 (fun x => match x with | 0 => a | 1 => j) = ![a.val, 384 * j.val, 0] := by decide
  exact key (g 0) (g 1)
omit H

end

/-! ### The arrays of codes -/

section
variable (c : Dev nD)
  (M2 : Memref sig .tc .vmem S1x6x384x128 .f32) (M3 : Memref sig .tc .vmem S1x384x3072 .bf16)
  (M4 : Memref sig .tc .vmem S1x6x3072 .f32) (M5 : Memref sig .tc .vmem S768x3072 .fp8e4m3)
  (M6 : Memref sig .tc .vmem S1x3072 .f32) (M7 : Memref sig .tc .vmem S3072x2048 .fp8e4m3)
  (M8 : Memref sig .tc .vmem S1x2048 .f32) (M9 : Memref sig .tc .vmem S3072x2048 .fp8e4m3)
  (M10 : Memref sig .tc .vmem S1x2048 .f32) (M11 : Memref sig .tc .vmem S2048x3072 .fp8e4m3)
  (M12 : Memref sig .tc .vmem S1x3072 .f32)
  (f2 : Bf (F := Ideal) c M2) (f3 : Bf (F := Ideal) c M3) (f4 : Bf (F := Ideal) c M4) (f5 : Bf (F := Ideal) c M5)
  (f6 : Bf (F := Ideal) c M6) (f7 : Bf (F := Ideal) c M7) (f8 : Bf (F := Ideal) c M8) (f9 : Bf (F := Ideal) c M9)
  (f10 : Bf (F := Ideal) c M10) (f11 : Bf (F := Ideal) c M11) (f12 : Bf (F := Ideal) c M12)
  {I : Inputs}

variable {c M2 M3 M4 M5 M6 M7 M8 M9 M10 M11 M12 f2 f3 f4 f5 f6 f7 f8 f9 f10 f11 f12}

variable (g : grid0.Coords) (H : Holds c M2 M3 M4 M5 M6 M7 M8 M9 M10 M11 M12 f2 f3 f4 f5 f6 f7 f8 f9 f10 f11 f12 I (g 0) (384 * (g 1).val))
  (f14 : Bf (F := Ideal) c (Memref.whole main_v4_1)) (f16 : Bf (F := Ideal) c (Memref.whole main_v4_3))
  (f18 : Bf (F := Ideal) c (Memref.whole main_v4_5)) (f21 : Bf (F := Ideal) c (Memref.whole cc0_scratch0))
  (f22 : Bf (F := Ideal) c (Memref.whole cc0_scratch1)) (f23 : Bf (F := Ideal) c (Memref.whole cc0_scratch2))

include H

theorem done_att_full (hc : k0_cond1 g = 1#1)
    (hd : Done (Memref.whole main_v4_1).view (fun b t d => codes (I.attRow b t) d) (17 * (g 0).val + (g 1).val) f14) :
    Done (Memref.whole main_v4_1).view (fun b t d => codes (I.attRow b t) d) (17 * (g 0).val + (g 1).val + 1)
      (runFull.sl.H14_w0 c g hc M2 f2 f14 f21) := by
  refine done_copy (n := 384) _ _ _ _ (g 0) (g 1) (off1_eq g) _ _ _ (fun r h => by omega) (fun i d hi => ?_) hd
  have e := copied_apply (n := 384) (Memref.whole cc0_scratch0).view f21 _ _ (agrees_code c M2 f2) (covers_code c M2 f2)
    inb_S384x768_S384x768_0_0 le_rfl i d
  rw [← codes_att] at e
  exact e.trans (congrFun (congrArg codes (attRow_eq H i hi)) d)

theorem done_x_full (hc : k0_cond3 g = 1#1)
    (hd : Done (Memref.whole main_v4_3).view (fun b t d => codes (I.norm b t) d) (17 * (g 0).val + (g 1).val) f16) :
    Done (Memref.whole main_v4_3).view (fun b t d => codes (I.norm b t) d) (17 * (g 0).val + (g 1).val + 1)
      (runFull.sl.H16_w1 c g hc M2 M3 M4 M5 M6 f2 f3 f4 f5 f6 f16 f22) := by
  refine done_copy (n := 384) _ _ _ _ (g 0) (g 1) (off3_eq g) _ _ _ (fun r h => by omega) (fun i d hi => ?_) hd
  have e := copied_apply (n := 384) (Memref.whole cc0_scratch1).view f22 _ _ (agrees_x c M2 M3 M4 M5 M6 f2 f3 f4 f5 f6)
    (covers_x c M2 M3 M4 M5 M6 f2 f3 f4 f5 f6) (inb2 (by omega) (by omega)) le_rfl i d
  rw [← codes_normed] at e
  exact e.trans (congrFun (congrArg codes (uRow_eq H i hi)) d)

theorem done_h_full (hc : k0_cond5 g = 1#1)
    (hd : Done (Memref.whole main_v4_5).view (fun b t d => codes (I.hid b t) d) (17 * (g 0).val + (g 1).val) f18) :
    Done (Memref.whole main_v4_5).view (fun b t d => codes (I.hid b t) d) (17 * (g 0).val + (g 1).val + 1)
      (runFull.sl.H18_w2 c g hc M2 M3 M4 M5 M6 M7 M8 M9 M10 f2 f3 f4 f5 f6 f7 f8 f9 f10 f18 f23) := by
  refine done_copy (n := 384) _ _ _ _ (g 0) (g 1) (off5_eq g) _ _ _ (fun r h => by omega) (fun i d hi => ?_) hd
  have e := copied_apply (n := 384) (Memref.whole cc0_scratch2).view f23 _ _ (agrees_hCode c M2 M3 M4 M5 M6 M7 M8 M9 M10 f2 f3 f4 f5 f6 f7 f8 f9 f10)
    (covers_hCode c M2 M3 M4 M5 M6 M7 M8 M9 M10 f2 f3 f4 f5 f6 f7 f8 f9 f10) (inb2 (by omega) (by omega)) le_rfl i d
  rw [← codes_hidden] at e
  exact e.trans (congrFun (congrArg codes (hRow_eq H i hi)) d)

variable (hg : ¬ (g 1).val < 16)

include hg

theorem done_att_tail (hc : k0_cond2 g = 1#1)
    (hd : Done (Memref.whole main_v4_1).view (fun b t d => codes (I.attRow b t) d) (17 * (g 0).val + (g 1).val) f14) :
    Done (Memref.whole main_v4_1).view (fun b t d => codes (I.attRow b t) d) (17 * (g 0).val + (g 1).val + 1)
      (runTail.sl.H14_w0 c g hc M2 f2 f14 f21) := by
  refine done_copy (n := 336) _ _ _ _ (g 0) (g 1) (off2_eq g) _ _ _ (fun r h => by have := r.isLt; omega) (fun i d hi => ?_) hd
  have e := copied_apply (n := 336) (Memref.whole cc0_scratch0).view f21 _ _ (agrees_code c M2 f2) (covers_code c M2 f2)
    inb_S384x768_S336x768_0_0 (by omega) i d
  rw [← codes_att] at e
  exact e.trans (congrFun (congrArg codes (attRow_eq H (⟨i.val, by omega⟩ : Fin 384) hi)) d)

theorem done_x_tail (hc : k0_cond4 g = 1#1)
    (hd : Done (Memref.whole main_v4_3).view (fun b t d => codes (I.norm b t) d) (17 * (g 0).val + (g 1).val) f16) :
    Done (Memref.whole main_v4_3).view (fun b t d => codes (I.norm b t) d) (17 * (g 0).val + (g 1).val + 1)
      (runTail.sl.H16_w1 c g hc M2 M3 M4 M5 M6 f2 f3 f4 f5 f6 f16 f22) := by
  refine done_copy (n := 336) _ _ _ _ (g 0) (g 1) (off4_eq g) _ _ _ (fun r h => by have := r.isLt; omega) (fun i d hi => ?_) hd
  have e := copied_apply (n := 336) (Memref.whole cc0_scratch1).view f22 _ _ (agrees_x c M2 M3 M4 M5 M6 f2 f3 f4 f5 f6)
    (covers_x c M2 M3 M4 M5 M6 f2 f3 f4 f5 f6) (inb2 (by omega) (by omega)) (by omega) i d
  rw [← codes_normed] at e
  exact e.trans (congrFun (congrArg codes (uRow_eq H (⟨i.val, by omega⟩ : Fin 384) hi)) d)

theorem done_h_tail (hc : k0_cond6 g = 1#1)
    (hd : Done (Memref.whole main_v4_5).view (fun b t d => codes (I.hid b t) d) (17 * (g 0).val + (g 1).val) f18) :
    Done (Memref.whole main_v4_5).view (fun b t d => codes (I.hid b t) d) (17 * (g 0).val + (g 1).val + 1)
      (runTail.sl.H18_w2 c g hc M2 M3 M4 M5 M6 M7 M8 M9 M10 f2 f3 f4 f5 f6 f7 f8 f9 f10 f18 f23) := by
  refine done_copy (n := 336) _ _ _ _ (g 0) (g 1) (off6_eq g) _ _ _ (fun r h => by have := r.isLt; omega) (fun i d hi => ?_) hd
  have e := copied_apply (n := 336) (Memref.whole cc0_scratch2).view f23 _ _ (agrees_hCode c M2 M3 M4 M5 M6 M7 M8 M9 M10 f2 f3 f4 f5 f6 f7 f8 f9 f10)
    (covers_hCode c M2 M3 M4 M5 M6 M7 M8 M9 M10 f2 f3 f4 f5 f6 f7 f8 f9 f10) (inb2 (by omega) (by omega)) (by omega) i d
  rw [← codes_hidden] at e
  exact e.trans (congrFun (congrArg codes (hRow_eq H (⟨i.val, by omega⟩ : Fin 384) hi)) d)

end

end Cert.KernelIdeal.Hand.Tile

end
-- ==== Proof.TilePoint.lean ====
/-
  One tile with its values: windows holding the arguments' rows, the rows of the tiles before it copied out.
-/
module

public import proofs.«01_k».proof.Proof.TileSpec
public import proofs.«01_k».proof.Proof.KernelIdealFrame

@[expose] public section

set_option maxRecDepth 16384
set_option maxHeartbeats 4000000

noncomputable section

namespace Cert.KernelIdeal.Hand.Tile

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.RowSpec

/-- The proof's algebra: the pipeline's beside the transfers' counters. -/
local notation "𝕄" => MT nD τ sig Unit (Elt Ideal) ℕ (Pipeline.UD sig nD τ) ℕ

/-- Contents of windows which hold the rows of batch `b` from token `p` on. -/
structure Rows (X2 : S1x6x384x128.Idx → EReal) (X3 : S1x384x3072.Idx → EReal) (X4 : S1x6x3072.Idx → EReal) (X5 : S768x3072.Idx → EReal)
    (X6 : S1x3072.Idx → EReal) (X7 : S3072x2048.Idx → EReal) (X8 : S1x2048.Idx → EReal) (X9 : S3072x2048.Idx → EReal)
    (X10 : S1x2048.Idx → EReal) (X11 : S2048x3072.Idx → EReal) (X12 : S1x3072.Idx → EReal) (I : Inputs) (b : Fin 3) (p : ℕ) : Prop where
  att : ∀ h (i : Fin 384) d (hi : p + i.val < 6480), X2 (ix4 (0 : Fin 1) h i d) = I.att b h ⟨p + i.val, hi⟩ d
  x : ∀ (i : Fin 384) j (hi : p + i.val < 6480), X3 (ix3 (0 : Fin 1) i j) = I.x b ⟨p + i.val, hi⟩ j
  mod : ∀ q j, X4 (ix3 (0 : Fin 1) q j) = I.mod b q j
  wo : ∀ k j, X5 (ix2 k j) = I.wo k j
  so : ∀ j, X6 (ix2 (0 : Fin 1) j) = I.so j
  w1 : ∀ k j, X7 (ix2 k j) = I.w1 k j
  s1 : ∀ j, X8 (ix2 (0 : Fin 1) j) = I.s1 j
  w3 : ∀ k j, X9 (ix2 k j) = I.w3 k j
  s3 : ∀ j, X10 (ix2 (0 : Fin 1) j) = I.s3 j
  w2 : ∀ k j, X11 (ix2 k j) = I.w2 k j
  s2 : ∀ j, X12 (ix2 (0 : Fin 1) j) = I.s2 j

/-- The rows of a result window, from token `p` on, as far as there are tokens. -/
def RowsAre {C : ℕ} (g : Fin 6480 → Fin C → EReal) (p : ℕ) (Z : (⟨3, ![1, 384, C]⟩ : Shape).Idx → EReal) : Prop :=
  ∀ (i : Fin 384) (hi : p + i.val < 6480) (d : Fin C), Z (ix3 (0 : Fin 1) i d) = g ⟨p + i.val, hi⟩ d

/-- The same of a window of scales. -/
def ColsAre (g : Fin 6480 → EReal) (p : ℕ) (Z : (⟨3, ![1, 1, 384]⟩ : Shape).Idx → EReal) : Prop :=
  ∀ (i : Fin 384) (hi : p + i.val < 6480), Z (ix3 (0 : Fin 1) (0 : Fin 1) i) = g ⟨p + i.val, hi⟩

theorem owns_pt (c : Dev nD) {sp : Space} {S : Shape} {e : EltTy} (M : Memref sig .tc sp S e) (h : M.IsWhole) (X : S.Idx → Elt Ideal e) :
    (owns (c : Thread nD τ) M fullShare X : sProp 𝕄) ⊢ iprop(∃ f, ⌜M.view.read (Elt Ideal) f = X⌝ ∗ pt c M f) := by
  unfold owns pt
  rw [h.set_eq_univ]

theorem pt_owns (c : Dev nD) {sp : Space} {S : Shape} {e : EltTy} (M : Memref sig .tc sp S e) (h : M.IsWhole) (f : Bf (F := Ideal) c M) :
    (pt c M f : sProp 𝕄) ⊢ owns (c : Thread nD τ) M fullShare (M.view.read (Elt Ideal) f) := by
  unfold owns pt
  rw [h.set_eq_univ]
  iintro H
  iexists f; isplitr; · ipureintro; rfl
  iexact H

theorem run_tile (c : Dev nD) (i : grid0.Coords)
    (M2 : Memref sig .tc .vmem S1x6x384x128 .f32) (h2 : M2.IsWhole)
    (M3 : Memref sig .tc .vmem S1x384x3072 .bf16) (h3 : M3.IsWhole)
    (M4 : Memref sig .tc .vmem S1x6x3072 .f32) (h4 : M4.IsWhole)
    (M5 : Memref sig .tc .vmem S768x3072 .fp8e4m3) (h5 : M5.IsWhole)
    (M6 : Memref sig .tc .vmem S1x3072 .f32) (h6 : M6.IsWhole)
    (M7 : Memref sig .tc .vmem S3072x2048 .fp8e4m3) (h7 : M7.IsWhole)
    (M8 : Memref sig .tc .vmem S1x2048 .f32) (h8 : M8.IsWhole)
    (M9 : Memref sig .tc .vmem S3072x2048 .fp8e4m3) (h9 : M9.IsWhole)
    (M10 : Memref sig .tc .vmem S1x2048 .f32) (h10 : M10.IsWhole)
    (M11 : Memref sig .tc .vmem S2048x3072 .fp8e4m3) (h11 : M11.IsWhole)
    (M12 : Memref sig .tc .vmem S1x3072 .f32) (h12 : M12.IsWhole)
    (M13 : Memref sig .tc .vmem S1x384x768 .bf16) (h13 : M13.IsWhole)
    (M15 : Memref sig .tc .vmem S1x1x384 .f32) (h15 : M15.IsWhole)
    (M17 : Memref sig .tc .vmem S1x1x384 .f32) (h17 : M17.IsWhole)
    (M19 : Memref sig .tc .vmem S1x1x384 .f32) (h19 : M19.IsWhole)
    (M20 : Memref sig .tc .vmem S1x384x3072 .bf16) (h20 : M20.IsWhole)
    (I : Inputs) (X2 : S1x6x384x128.Idx → Elt Ideal .f32) (X3 : S1x384x3072.Idx → Elt Ideal .bf16) (X4 : S1x6x3072.Idx → Elt Ideal .f32) (X5 : S768x3072.Idx → Elt Ideal .fp8e4m3) (X6 : S1x3072.Idx → Elt Ideal .f32) (X7 : S3072x2048.Idx → Elt Ideal .fp8e4m3) (X8 : S1x2048.Idx → Elt Ideal .f32) (X9 : S3072x2048.Idx → Elt Ideal .fp8e4m3) (X10 : S1x2048.Idx → Elt Ideal .f32) (X11 : S2048x3072.Idx → Elt Ideal .fp8e4m3) (X12 : S1x3072.Idx → Elt Ideal .f32)
    (HX : Rows X2 X3 X4 X5 X6 X7 X8 X9 X10 X11 X12 I (i 0) (384 * (i 1).val))
    (Ws : Waits sig Unit) (K : PUnit → sProp 𝕄) :
    iprop(owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10 ∗ owns (c : Thread nD τ) M11 fullShare X11 ∗ owns (c : Thread nD τ) M12 fullShare X12 ∗ (∃ X, owns (c : Thread nD τ) M13 fullShare X) ∗ (∃ X, owns (c : Thread nD τ) M15 fullShare X) ∗ (∃ X, owns (c : Thread nD τ) M17 fullShare X) ∗ (∃ X, owns (c : Thread nD τ) M19 fullShare X) ∗ (∃ X, owns (c : Thread nD τ) M20 fullShare X) ∗ (∃ f, ⌜Done (Memref.whole main_v4_1).view (fun b t d => codes (I.attRow b t) d) (17 * (i 0).val + (i 1).val) f⌝ ∗ pt c (Memref.whole main_v4_1) f) ∗ (∃ f, ⌜Done (Memref.whole main_v4_3).view (fun b t d => codes (I.norm b t) d) (17 * (i 0).val + (i 1).val) f⌝ ∗ pt c (Memref.whole main_v4_3) f) ∗ (∃ f, ⌜Done (Memref.whole main_v4_5).view (fun b t d => codes (I.hid b t) d) (17 * (i 0).val + (i 1).val) f⌝ ∗ pt c (Memref.whole main_v4_5) f) ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f) ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ owes (c : Thread nD τ) 0 Ws
      ∗ (iprop(owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10 ∗ owns (c : Thread nD τ) M11 fullShare X11 ∗ owns (c : Thread nD τ) M12 fullShare X12 ∗ (∃ Z, ⌜RowsAre (fun t d => I.attRow (i 0) t d) (384 * (i 1).val) Z⌝ ∗ owns (c : Thread nD τ) M13 fullShare Z) ∗ (∃ Z, ⌜ColsAre (fun t => scale (I.attRow (i 0) t)) (384 * (i 1).val) Z⌝ ∗ owns (c : Thread nD τ) M15 fullShare Z) ∗ (∃ Z, ⌜ColsAre (fun t => scale (I.norm (i 0) t)) (384 * (i 1).val) Z⌝ ∗ owns (c : Thread nD τ) M17 fullShare Z) ∗ (∃ Z, ⌜ColsAre (fun t => scale (I.hid (i 0) t)) (384 * (i 1).val) Z⌝ ∗ owns (c : Thread nD τ) M19 fullShare Z) ∗ (∃ Z, ⌜RowsAre (fun t d => I.out (i 0) t d) (384 * (i 1).val) Z⌝ ∗ owns (c : Thread nD τ) M20 fullShare Z) ∗ (∃ f, ⌜Done (Memref.whole main_v4_1).view (fun b t d => codes (I.attRow b t) d) (17 * (i 0).val + (i 1).val + 1) f⌝ ∗ pt c (Memref.whole main_v4_1) f) ∗ (∃ f, ⌜Done (Memref.whole main_v4_3).view (fun b t d => codes (I.norm b t) d) (17 * (i 0).val + (i 1).val + 1) f⌝ ∗ pt c (Memref.whole main_v4_3) f) ∗ (∃ f, ⌜Done (Memref.whole main_v4_5).view (fun b t d => codes (I.hid b t) d) (17 * (i 0).val + (i 1).val + 1) f⌝ ∗ pt c (Memref.whole main_v4_5) f) ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f) ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ (∃ W', owes (c : Thread nD τ) 0 W')) -∗ K ⟨⟩))
    ⊢ wp Idealize.ShloMosaic.frame (wpE (defs₀ (F := Ideal)) Variants.none c none) Set.univ
        (cc0_mlp_vid i M2 h2 M3 h3 M4 h4 M5 h5 M6 h6 M7 h7 M8 h8 M9 h9 M10 h10 M11 h11 M12 h12 M13 h13 (Memref.whole main_v4_1) (Memref.isWhole_whole _) M15 h15 (Memref.whole main_v4_3) (Memref.isWhole_whole _) M17 h17 (Memref.whole main_v4_5) (Memref.isWhole_whole _) M19 h19 M20 h20 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9) K := by
  have hpost : ∀ (f2 : Bf (F := Ideal) c M2) (f3 : Bf (F := Ideal) c M3) (f4 : Bf (F := Ideal) c M4) (f5 : Bf (F := Ideal) c M5) (f6 : Bf (F := Ideal) c M6) (f7 : Bf (F := Ideal) c M7) (f8 : Bf (F := Ideal) c M8) (f9 : Bf (F := Ideal) c M9) (f10 : Bf (F := Ideal) c M10) (f11 : Bf (F := Ideal) c M11) (f12 : Bf (F := Ideal) c M12) (f13 : Bf (F := Ideal) c M13) (f15 : Bf (F := Ideal) c M15) (f17 : Bf (F := Ideal) c M17) (f19 : Bf (F := Ideal) c M19) (f20 : Bf (F := Ideal) c M20) (f14 : Bf (F := Ideal) c (Memref.whole main_v4_1)) (f16 : Bf (F := Ideal) c (Memref.whole main_v4_3)) (f18 : Bf (F := Ideal) c (Memref.whole main_v4_5)), M2.view.read (Elt Ideal) f2 = X2 → M3.view.read (Elt Ideal) f3 = X3 → M4.view.read (Elt Ideal) f4 = X4 → M5.view.read (Elt Ideal) f5 = X5 → M6.view.read (Elt Ideal) f6 = X6 → M7.view.read (Elt Ideal) f7 = X7 → M8.view.read (Elt Ideal) f8 = X8 → M9.view.read (Elt Ideal) f9 = X9 → M10.view.read (Elt Ideal) f10 = X10 → M11.view.read (Elt Ideal) f11 = X11 → M12.view.read (Elt Ideal) f12 = X12 → RowsAre (fun t d => I.attRow (i 0) t d) (384 * (i 1).val) (M13.view.read (Elt Ideal) f13) → ColsAre (fun t => scale (I.attRow (i 0) t)) (384 * (i 1).val) (M15.view.read (Elt Ideal) f15) → ColsAre (fun t => scale (I.norm (i 0) t)) (384 * (i 1).val) (M17.view.read (Elt Ideal) f17) → ColsAre (fun t => scale (I.hid (i 0) t)) (384 * (i 1).val) (M19.view.read (Elt Ideal) f19) → RowsAre (fun t d => I.out (i 0) t d) (384 * (i 1).val) (M20.view.read (Elt Ideal) f20) → Done (Memref.whole main_v4_1).view (fun b t d => codes (I.attRow b t) d) (17 * (i 0).val + (i 1).val + 1) f14 → Done (Memref.whole main_v4_3).view (fun b t d => codes (I.norm b t) d) (17 * (i 0).val + (i 1).val + 1) f16 → Done (Memref.whole main_v4_5).view (fun b t d => codes (I.hid b t) d) (17 * (i 0).val + (i 1).val + 1) f18 →
      (iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M15 f15 ∗ pt c M17 f17 ∗ pt c M19 f19 ∗ pt c M20 f20 ∗ pt c (Memref.whole main_v4_1) f14 ∗ pt c (Memref.whole main_v4_3) f16 ∗ pt c (Memref.whole main_v4_5) f18 ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f) ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ (∃ W', owes (c : Thread nD τ) 0 W')) : sProp 𝕄) ⊢ iprop(owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10 ∗ owns (c : Thread nD τ) M11 fullShare X11 ∗ owns (c : Thread nD τ) M12 fullShare X12 ∗ (∃ Z, ⌜RowsAre (fun t d => I.attRow (i 0) t d) (384 * (i 1).val) Z⌝ ∗ owns (c : Thread nD τ) M13 fullShare Z) ∗ (∃ Z, ⌜ColsAre (fun t => scale (I.attRow (i 0) t)) (384 * (i 1).val) Z⌝ ∗ owns (c : Thread nD τ) M15 fullShare Z) ∗ (∃ Z, ⌜ColsAre (fun t => scale (I.norm (i 0) t)) (384 * (i 1).val) Z⌝ ∗ owns (c : Thread nD τ) M17 fullShare Z) ∗ (∃ Z, ⌜ColsAre (fun t => scale (I.hid (i 0) t)) (384 * (i 1).val) Z⌝ ∗ owns (c : Thread nD τ) M19 fullShare Z) ∗ (∃ Z, ⌜RowsAre (fun t d => I.out (i 0) t d) (384 * (i 1).val) Z⌝ ∗ owns (c : Thread nD τ) M20 fullShare Z) ∗ (∃ f, ⌜Done (Memref.whole main_v4_1).view (fun b t d => codes (I.attRow b t) d) (17 * (i 0).val + (i 1).val + 1) f⌝ ∗ pt c (Memref.whole main_v4_1) f) ∗ (∃ f, ⌜Done (Memref.whole main_v4_3).view (fun b t d => codes (I.norm b t) d) (17 * (i 0).val + (i 1).val + 1) f⌝ ∗ pt c (Memref.whole main_v4_3) f) ∗ (∃ f, ⌜Done (Memref.whole main_v4_5).view (fun b t d => codes (I.hid b t) d) (17 * (i 0).val + (i 1).val + 1) f⌝ ∗ pt c (Memref.whole main_v4_5) f) ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f) ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ (∃ W', owes (c : Thread nD τ) 0 W')) := by
    intro f2 f3 f4 f5 f6 f7 f8 f9 f10 f11 f12 f13 f15 f17 f19 f20 f14 f16 f18 e2 e3 e4 e5 e6 e7 e8 e9 e10 e11 e12 e13 e15 e17 e19 e20 e14 e16 e18
    iintro ⟨H2, H3, H4, H5, H6, H7, H8, H9, H10, H11, H12, H13, H15, H17, H19, H20, H14, H16, H18, Hr⟩
    isplitl [H2]; · rw [← e2]; iapply (pt_owns c M2 h2 f2); iexact H2
    isplitl [H3]; · rw [← e3]; iapply (pt_owns c M3 h3 f3); iexact H3
    isplitl [H4]; · rw [← e4]; iapply (pt_owns c M4 h4 f4); iexact H4
    isplitl [H5]; · rw [← e5]; iapply (pt_owns c M5 h5 f5); iexact H5
    isplitl [H6]; · rw [← e6]; iapply (pt_owns c M6 h6 f6); iexact H6
    isplitl [H7]; · rw [← e7]; iapply (pt_owns c M7 h7 f7); iexact H7
    isplitl [H8]; · rw [← e8]; iapply (pt_owns c M8 h8 f8); iexact H8
    isplitl [H9]; · rw [← e9]; iapply (pt_owns c M9 h9 f9); iexact H9
    isplitl [H10]; · rw [← e10]; iapply (pt_owns c M10 h10 f10); iexact H10
    isplitl [H11]; · rw [← e11]; iapply (pt_owns c M11 h11 f11); iexact H11
    isplitl [H12]; · rw [← e12]; iapply (pt_owns c M12 h12 f12); iexact H12
    isplitl [H13]
    · iexists _; isplitr
      · ipureintro; exact e13
      iapply (pt_owns c M13 h13 f13); iexact H13
    isplitl [H15]
    · iexists _; isplitr
      · ipureintro; exact e15
      iapply (pt_owns c M15 h15 f15); iexact H15
    isplitl [H17]
    · iexists _; isplitr
      · ipureintro; exact e17
      iapply (pt_owns c M17 h17 f17); iexact H17
    isplitl [H19]
    · iexists _; isplitr
      · ipureintro; exact e19
      iapply (pt_owns c M19 h19 f19); iexact H19
    isplitl [H20]
    · iexists _; isplitr
      · ipureintro; exact e20
      iapply (pt_owns c M20 h20 f20); iexact H20
    isplitl [H14]
    · iexists _; isplitr
      · ipureintro; exact e14
      iexact H14
    isplitl [H16]
    · iexists _; isplitr
      · ipureintro; exact e16
      iexact H16
    isplitl [H18]
    · iexists _; isplitr
      · ipureintro; exact e18
      iexact H18
    iexact Hr
  iintro ⟨H2, H3, H4, H5, H6, H7, H8, H9, H10, H11, H12, H13, H15, H17, H19, H20, H14, H16, H18, H21, H22, H23, H24, H25, H26, H27, H28, H29, Hq0, Hq1, Hq2, Hq3, Hq4, Hq5, HW, Hk⟩
  ihave H2 := (owns_pt c M2 h2 X2) $$ H2
  icases H2 with ⟨%f2, %e2, H2⟩
  ihave H3 := (owns_pt c M3 h3 X3) $$ H3
  icases H3 with ⟨%f3, %e3, H3⟩
  ihave H4 := (owns_pt c M4 h4 X4) $$ H4
  icases H4 with ⟨%f4, %e4, H4⟩
  ihave H5 := (owns_pt c M5 h5 X5) $$ H5
  icases H5 with ⟨%f5, %e5, H5⟩
  ihave H6 := (owns_pt c M6 h6 X6) $$ H6
  icases H6 with ⟨%f6, %e6, H6⟩
  ihave H7 := (owns_pt c M7 h7 X7) $$ H7
  icases H7 with ⟨%f7, %e7, H7⟩
  ihave H8 := (owns_pt c M8 h8 X8) $$ H8
  icases H8 with ⟨%f8, %e8, H8⟩
  ihave H9 := (owns_pt c M9 h9 X9) $$ H9
  icases H9 with ⟨%f9, %e9, H9⟩
  ihave H10 := (owns_pt c M10 h10 X10) $$ H10
  icases H10 with ⟨%f10, %e10, H10⟩
  ihave H11 := (owns_pt c M11 h11 X11) $$ H11
  icases H11 with ⟨%f11, %e11, H11⟩
  ihave H12 := (owns_pt c M12 h12 X12) $$ H12
  icases H12 with ⟨%f12, %e12, H12⟩
  ihave H13 := (owns_any_pt (F := Ideal) c M13 h13) $$ H13
  icases H13 with ⟨%f13, H13⟩
  ihave H15 := (owns_any_pt (F := Ideal) c M15 h15) $$ H15
  icases H15 with ⟨%f15, H15⟩
  ihave H17 := (owns_any_pt (F := Ideal) c M17 h17) $$ H17
  icases H17 with ⟨%f17, H17⟩
  ihave H19 := (owns_any_pt (F := Ideal) c M19 h19) $$ H19
  icases H19 with ⟨%f19, H19⟩
  ihave H20 := (owns_any_pt (F := Ideal) c M20 h20) $$ H20
  icases H20 with ⟨%f20, H20⟩
  icases H14 with ⟨%f14, %hd14, H14⟩
  icases H16 with ⟨%f16, %hd16, H16⟩
  icases H18 with ⟨%f18, %hd18, H18⟩
  icases H21 with ⟨%f21, H21⟩
  icases H22 with ⟨%f22, H22⟩
  icases H23 with ⟨%f23, H23⟩
  icases H24 with ⟨%f24, H24⟩
  icases H25 with ⟨%f25, H25⟩
  icases H26 with ⟨%f26, H26⟩
  icases H27 with ⟨%f27, H27⟩
  icases H28 with ⟨%f28, H28⟩
  icases H29 with ⟨%f29, H29⟩
  have HT : Holds c M2 M3 M4 M5 M6 M7 M8 M9 M10 M11 M12 f2 f3 f4 f5 f6 f7 f8 f9 f10 f11 f12 I (i 0) (384 * (i 1).val) := by
    subst e2 e3 e4 e5 e6 e7 e8 e9 e10 e11 e12
    exact ⟨HX.att, HX.x, HX.mod, HX.wo, HX.so, HX.w1, HX.s1, HX.w3, HX.s3, HX.w2, HX.s2⟩
  by_cases h : (i 1).val < 16
  · obtain ⟨hc1, hc2, hc3, hc4, hc5, hc6, hc7, hc8, hc9, hc10, hc11, hc12⟩ := conds_full i h
    iapply ((runFull c i hc1 hc2 hc3 hc4 hc5 hc6 hc7 hc8 hc9 hc10 hc11 hc12 M2 h2 M3 h3 M4 h4 M5 h5 M6 h6 M7 h7 M8 h8 M9 h9 M10 h10 M11 h11 M12 h12 M13 h13 M15 h15 M17 h17 M19 h19 M20 h20 f2 f3 f4 f5 f6 f7 f8 f9 f10 f11 f12 f14 f16 f18 f21 f22 f23).2 f13 f15 f17 f19 f20 f24 f25 f26 f27 f28 f29 Ws _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H15]; · iexact H15
    isplitl [H17]; · iexact H17
    isplitl [H19]; · iexact H19
    isplitl [H20]; · iexact H20
    isplitl [H14]; · iexact H14
    isplitl [H16]; · iexact H16
    isplitl [H18]; · iexact H18
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [HW]; · iexact HW
    iintro Hpost; iapply Hk; iapply (hpost f2 f3 f4 f5 f6 f7 f8 f9 f10 f11 f12 (M13.view.writes (Elt Ideal) M13.view.junk (runFull.sl.H13_72 c M2 f2)) (M15.view.writes (Elt Ideal) M15.view.junk (runFull.sl.H15_3 c M2 f2)) (M17.view.writes (Elt Ideal) M17.view.junk (runFull.sl.H17_3 c M2 M3 M4 M5 M6 f2 f3 f4 f5 f6)) (M19.view.writes (Elt Ideal) M19.view.junk (runFull.sl.H19_3 c M2 M3 M4 M5 M6 M7 M8 M9 M10 f2 f3 f4 f5 f6 f7 f8 f9 f10)) (M20.view.writes (Elt Ideal) M20.view.junk (runFull.sl.H20_12 c M2 M3 M4 M5 M6 M7 M8 M9 M10 M11 M12 f2 f3 f4 f5 f6 f7 f8 f9 f10 f11 f12)) (runFull.sl.H14_w0 c i hc1 M2 f2 f14 f21) (runFull.sl.H16_w1 c i hc3 M2 M3 M4 M5 M6 f2 f3 f4 f5 f6 f16 f22) (runFull.sl.H18_w2 c i hc5 M2 M3 M4 M5 M6 M7 M8 M9 M10 f2 f3 f4 f5 f6 f7 f8 f9 f10 f18 f23) e2 e3 e4 e5 e6 e7 e8 e9 e10 e11 e12
      (fun j hj d => att_window HT j hj M13 _ d) (fun j hj => attScale_window HT j hj M15 _) (fun j hj => xScale_window HT j hj M17 _)
      (fun j hj => hScale_window HT j hj M19 _) (fun j hj d => out_window HT j hj M20 _ d)
      (done_att_full i HT f14 f21 hc1 hd14) (done_x_full i HT f16 f22 hc3 hd16) (done_h_full i HT f18 f23 hc5 hd18))
    iexact Hpost
  · obtain ⟨hc1, hc2, hc3, hc4, hc5, hc6, hc7, hc8, hc9, hc10, hc11, hc12⟩ := conds_tail i h
    iapply ((runTail c i hc1 hc2 hc3 hc4 hc5 hc6 hc7 hc8 hc9 hc10 hc11 hc12 M2 h2 M3 h3 M4 h4 M5 h5 M6 h6 M7 h7 M8 h8 M9 h9 M10 h10 M11 h11 M12 h12 M13 h13 M15 h15 M17 h17 M19 h19 M20 h20 f2 f3 f4 f5 f6 f7 f8 f9 f10 f11 f12 f14 f16 f18 f21 f22 f23).2 f13 f15 f17 f19 f20 f24 f25 f26 f27 f28 f29 Ws _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H15]; · iexact H15
    isplitl [H17]; · iexact H17
    isplitl [H19]; · iexact H19
    isplitl [H20]; · iexact H20
    isplitl [H14]; · iexact H14
    isplitl [H16]; · iexact H16
    isplitl [H18]; · iexact H18
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [HW]; · iexact HW
    iintro Hpost; iapply Hk; iapply (hpost f2 f3 f4 f5 f6 f7 f8 f9 f10 f11 f12 (M13.view.writes (Elt Ideal) M13.view.junk (runFull.sl.H13_72 c M2 f2)) (M15.view.writes (Elt Ideal) M15.view.junk (runFull.sl.H15_3 c M2 f2)) (M17.view.writes (Elt Ideal) M17.view.junk (runFull.sl.H17_3 c M2 M3 M4 M5 M6 f2 f3 f4 f5 f6)) (M19.view.writes (Elt Ideal) M19.view.junk (runFull.sl.H19_3 c M2 M3 M4 M5 M6 M7 M8 M9 M10 f2 f3 f4 f5 f6 f7 f8 f9 f10)) (M20.view.writes (Elt Ideal) M20.view.junk (runFull.sl.H20_12 c M2 M3 M4 M5 M6 M7 M8 M9 M10 M11 M12 f2 f3 f4 f5 f6 f7 f8 f9 f10 f11 f12)) (runTail.sl.H14_w0 c i hc2 M2 f2 f14 f21) (runTail.sl.H16_w1 c i hc4 M2 M3 M4 M5 M6 f2 f3 f4 f5 f6 f16 f22) (runTail.sl.H18_w2 c i hc6 M2 M3 M4 M5 M6 M7 M8 M9 M10 f2 f3 f4 f5 f6 f7 f8 f9 f10 f18 f23) e2 e3 e4 e5 e6 e7 e8 e9 e10 e11 e12
      (fun j hj d => att_window HT j hj M13 _ d) (fun j hj => attScale_window HT j hj M15 _) (fun j hj => xScale_window HT j hj M17 _)
      (fun j hj => hScale_window HT j hj M19 _) (fun j hj d => out_window HT j hj M20 _ d)
      (done_att_tail i HT f14 f21 h hc2 hd14) (done_x_tail i HT f16 f22 h hc4 hd16) (done_h_tail i HT f18 f23 h hc6 hd18))
    iexact Hpost

end Cert.KernelIdeal.Hand.Tile

end
-- ==== Proof.CallSpec.lean ====
/-
  The call's arrays and their blocks: what each fetched block holds of the arguments, what each result's array holds in the
  end, and how a block of a result lies in it.
-/
module

public import proofs.«01_k».proof.Proof.TilePoint
public import Idealize.ShloMosaic.Lib.Pipeline.ValueKit.Geometry

@[expose] public section

set_option maxHeartbeats 2000000

noncomputable section

namespace Cert.KernelIdeal.Hand.Tile

open Cert.KernelIdeal Cert.KernelIdeal.Gen Cert.KernelIdeal.Hand
open Idealize.ShloMosaic Idealize.ShloMosaic.TcCoe Idealize.ShloMosaic.Tactic
open Idealize.SL.Sem
open Cert.RowSpec

variable (m : (ℓ : Loc nD τ sig) → Buf (Elt Ideal) ℓ) (c : Dev nD)

/-- The arguments as the call finds them. -/
def inputs : Inputs where
  att b h t d := V m c main_arg0 (ix4 b h t d)
  x b t d := V m c main_arg1 (ix3 b t d)
  mod b q d := V m c main_arg2 (ix3 b q d)
  wo k j := V m c main_arg3 (ix2 k j)
  so j := V m c main_v0 (ix2 (0 : Fin 1) j)
  w1 k j := V m c main_arg5 (ix2 k j)
  s1 j := V m c main_v1 (ix2 (0 : Fin 1) j)
  w3 k j := V m c main_arg7 (ix2 k j)
  s3 j := V m c main_v2 (ix2 (0 : Fin 1) j)
  w2 k j := V m c main_arg9 (ix2 k j)
  s2 j := V m c main_v3 (ix2 (0 : Fin 1) j)

/-! ### The layer's values as arrays -/

def attArr (I : Inputs) : S3x6480x768.Idx → EReal := fun y => I.attRow (y 0) (y 1) (y 2)
def attCodeArr (I : Inputs) : S3x6480x768.Idx → EReal := fun y => codes (I.attRow (y 0) (y 1)) (y 2)
def attScaleArr (I : Inputs) : S3x1x6480.Idx → EReal := fun y => scale (I.attRow (y 0) (y 2))
def normCodeArr (I : Inputs) : S3x6480x3072.Idx → EReal := fun y => codes (I.norm (y 0) (y 1)) (y 2)
def normScaleArr (I : Inputs) : S3x1x6480.Idx → EReal := fun y => scale (I.norm (y 0) (y 2))
def hidCodeArr (I : Inputs) : S3x6480x2048.Idx → EReal := fun y => codes (I.hid (y 0) (y 1)) (y 2)
def hidScaleArr (I : Inputs) : S3x1x6480.Idx → EReal := fun y => scale (I.hid (y 0) (y 2))
def outArr (I : Inputs) : S3x6480x3072.Idx → EReal := fun y => I.out (y 0) (y 1) (y 2)

/-- What a window's array holds in the end: an argument what it held, a result the layer's values. -/
def target (w : Fin cfg0.W) : Buf (Elt Ideal) ((c : Thread nD τ).loc (Pipeline.arrRef spec0 w)) :=
  match w with
  | 11 => attArr (inputs m c)
  | 12 => attScaleArr (inputs m c)
  | 13 => normScaleArr (inputs m c)
  | 14 => hidScaleArr (inputs m c)
  | 15 => outArr (inputs m c)
  | 0 => V m c (Pipeline.arrRef spec0 0)
  | 1 => V m c (Pipeline.arrRef spec0 1)
  | 2 => V m c (Pipeline.arrRef spec0 2)
  | 3 => V m c (Pipeline.arrRef spec0 3)
  | 4 => V m c (Pipeline.arrRef spec0 4)
  | 5 => V m c (Pipeline.arrRef spec0 5)
  | 6 => V m c (Pipeline.arrRef spec0 6)
  | 7 => V m c (Pipeline.arrRef spec0 7)
  | 8 => V m c (Pipeline.arrRef spec0 8)
  | 9 => V m c (Pipeline.arrRef spec0 9)
  | 10 => V m c (Pipeline.arrRef spec0 10)
  | ⟨n + 16, h⟩ => absurd (show n + 16 < 16 from h) (by omega)

theorem fill_at (w : Pipeline.Window sig grid0) (t : Fin grid0.N) {α : Type} (d : w.block.Idx → α)
    (B : (w.xblock (grid0.coords t)).Idx → α) (j : w.block.Idx) (h : ∀ a, (j a).val < w.xsize (grid0.coords t) a) :
    w.fill (grid0.coords t) d B j = B (fun a => ⟨(j a).val, h a⟩) :=
  w.fill_xinj (grid0.coords t) d B (fun a => ⟨(j a).val, h a⟩)

/-! ### Where the blocks lie -/

theorem index0_0 : ∀ t : Fin cfg0.N, win0_0.index t = ![(grid0.coords t 0).val, 0, (grid0.coords t 1).val, 0] := by decide +kernel
theorem xsize0_0 : ∀ t : Fin cfg0.N, win0_0.xsize (grid0.coords t) = ![1, 6, min 384 (6480 - 384 * (grid0.coords t 1).val), 128] := by decide +kernel
theorem index0_1 : ∀ t : Fin cfg0.N, win0_1.index t = ![(grid0.coords t 0).val, (grid0.coords t 1).val, 0] := by decide +kernel
theorem xsize0_1 : ∀ t : Fin cfg0.N, win0_1.xsize (grid0.coords t) = ![1, min 384 (6480 - 384 * (grid0.coords t 1).val), 3072] := by decide +kernel
theorem index0_2 : ∀ t : Fin cfg0.N, win0_2.index t = ![(grid0.coords t 0).val, 0, 0] := by decide +kernel
theorem xsize0_2 : ∀ t : Fin cfg0.N, win0_2.xsize (grid0.coords t) = ![1, 6, 3072] := by decide +kernel
theorem index0_3 : ∀ t : Fin cfg0.N, win0_3.index t = ![0, 0] := by decide +kernel
theorem xsize0_3 : ∀ t : Fin cfg0.N, win0_3.xsize (grid0.coords t) = ![768, 3072] := by decide +kernel
theorem index0_4 : ∀ t : Fin cfg0.N, win0_4.index t = ![0, 0] := by decide +kernel
theorem xsize0_4 : ∀ t : Fin cfg0.N, win0_4.xsize (grid0.coords t) = ![1, 3072] := by decide +kernel
theorem index0_5 : ∀ t : Fin cfg0.N, win0_5.index t = ![0, 0] := by decide +kernel
theorem xsize0_5 : ∀ t : Fin cfg0.N, win0_5.xsize (grid0.coords t) = ![3072, 2048] := by decide +kernel
theorem index0_6 : ∀ t : Fin cfg0.N, win0_6.index t = ![0, 0] := by decide +kernel
theorem xsize0_6 : ∀ t : Fin cfg0.N, win0_6.xsize (grid0.coords t) = ![1, 2048] := by decide +kernel
theorem index0_7 : ∀ t : Fin cfg0.N, win0_7.index t = ![0, 0] := by decide +kernel
theorem xsize0_7 : ∀ t : Fin cfg0.N, win0_7.xsize (grid0.coords t) = ![3072, 2048] := by decide +kernel
theorem index0_8 : ∀ t : Fin cfg0.N, win0_8.index t = ![0, 0] := by decide +kernel
theorem xsize0_8 : ∀ t : Fin cfg0.N, win0_8.xsize (grid0.coords t) = ![1, 2048] := by decide +kernel
theorem index0_9 : ∀ t : Fin cfg0.N, win0_9.index t = ![0, 0] := by decide +kernel
theorem xsize0_9 : ∀ t : Fin cfg0.N, win0_9.xsize (grid0.coords t) = ![2048, 3072] := by decide +kernel
theorem index0_10 : ∀ t : Fin cfg0.N, win0_10.index t = ![0, 0] := by decide +kernel
theorem xsize0_10 : ∀ t : Fin cfg0.N, win0_10.xsize (grid0.coords t) = ![1, 3072] := by decide +kernel
theorem index0_11 : ∀ t : Fin cfg0.N, win0_11.index t = ![(grid0.coords t 0).val, (grid0.coords t 1).val, 0] := by decide +kernel
theorem xsize0_11 : ∀ t : Fin cfg0.N, win0_11.xsize (grid0.coords t) = ![1, min 384 (6480 - 384 * (grid0.coords t 1).val), 768] := by decide +kernel
theorem index0_12 : ∀ t : Fin cfg0.N, win0_12.index t = ![(grid0.coords t 0).val, 0, (grid0.coords t 1).val] := by decide +kernel
theorem xsize0_12 : ∀ t : Fin cfg0.N, win0_12.xsize (grid0.coords t) = ![1, 1, min 384 (6480 - 384 * (grid0.coords t 1).val)] := by decide +kernel
theorem index0_13 : ∀ t : Fin cfg0.N, win0_13.index t = ![(grid0.coords t 0).val, 0, (grid0.coords t 1).val] := by decide +kernel
theorem xsize0_13 : ∀ t : Fin cfg0.N, win0_13.xsize (grid0.coords t) = ![1, 1, min 384 (6480 - 384 * (grid0.coords t 1).val)] := by decide +kernel
theorem index0_14 : ∀ t : Fin cfg0.N, win0_14.index t = ![(grid0.coords t 0).val, 0, (grid0.coords t 1).val] := by decide +kernel
theorem xsize0_14 : ∀ t : Fin cfg0.N, win0_14.xsize (grid0.coords t) = ![1, 1, min 384 (6480 - 384 * (grid0.coords t 1).val)] := by decide +kernel
theorem index0_15 : ∀ t : Fin cfg0.N, win0_15.index t = ![(grid0.coords t 0).val, (grid0.coords t 1).val, 0] := by decide +kernel
theorem xsize0_15 : ∀ t : Fin cfg0.N, win0_15.xsize (grid0.coords t) = ![1, min 384 (6480 - 384 * (grid0.coords t 1).val), 3072] := by decide +kernel

/-! ### The fetched blocks -/

section
variable (t : Fin cfg0.N)

theorem block0_0 (d : S1x6x384x128.Idx → Elt Ideal win0_0.elt) (h : Fin 6) (i : Fin 384) (k : Fin 128) (hi : 384 * (grid0.coords t 1).val + i.val < 6480) :
    win0_0.fill (grid0.coords t) d ((win0_0.blk t).view.read (Elt Ideal) (V m c main_arg0)) (ix4 (0 : Fin 1) h i k) = V m c main_arg0 (ix4 (grid0.coords t 0) h (⟨384 * (grid0.coords t 1).val + i.val, hi⟩ : Fin 6480) k) := by
  refine (fill_at win0_0 t d _ (ix4 (0 : Fin 1) h i k) ?_).trans ?_
  · rw [xsize0_0]
    intro a
    match a with
    | ⟨0, _⟩ => exact Nat.zero_lt_one
    | ⟨1, _⟩ => exact h.isLt
    | ⟨2, _⟩ => exact lt_min i.isLt (by show i.val < _; omega)
    | ⟨3, _⟩ => exact k.isLt
  · refine congrArg (V m c main_arg0) (funext fun a => Fin.ext ?_)
    match a with
    | ⟨0, _⟩ => blk_simp [index0_0]; try (first | rfl | omega)
    | ⟨1, _⟩ => blk_simp [index0_0]; try (first | rfl | omega)
    | ⟨2, _⟩ => blk_simp [index0_0]; show (grid0.coords t 1).val * 384 + i.val = 384 * (grid0.coords t 1).val + i.val; omega
    | ⟨3, _⟩ => blk_simp [index0_0]; try (first | rfl | omega)

theorem block0_1 (d : S1x384x3072.Idx → Elt Ideal win0_1.elt) (i : Fin 384) (k : Fin 3072) (hi : 384 * (grid0.coords t 1).val + i.val < 6480) :
    win0_1.fill (grid0.coords t) d ((win0_1.blk t).view.read (Elt Ideal) (V m c main_arg1)) (ix3 (0 : Fin 1) i k) = V m c main_arg1 (ix3 (grid0.coords t 0) (⟨384 * (grid0.coords t 1).val + i.val, hi⟩ : Fin 6480) k) := by
  refine (fill_at win0_1 t d _ (ix3 (0 : Fin 1) i k) ?_).trans ?_
  · rw [xsize0_1]
    intro a
    match a with
    | ⟨0, _⟩ => exact Nat.zero_lt_one
    | ⟨1, _⟩ => exact lt_min i.isLt (by show i.val < _; omega)
    | ⟨2, _⟩ => exact k.isLt
  · refine congrArg (V m c main_arg1) (funext fun a => Fin.ext ?_)
    match a with
    | ⟨0, _⟩ => blk_simp [index0_1]; try (first | rfl | omega)
    | ⟨1, _⟩ => blk_simp [index0_1]; show (grid0.coords t 1).val * 384 + i.val = 384 * (grid0.coords t 1).val + i.val; omega
    | ⟨2, _⟩ => blk_simp [index0_1]; try (first | rfl | omega)

theorem block0_2 (d : S1x6x3072.Idx → Elt Ideal win0_2.elt) (h : Fin 6) (k : Fin 3072) :
    win0_2.fill (grid0.coords t) d ((win0_2.blk t).view.read (Elt Ideal) (V m c main_arg2)) (ix3 (0 : Fin 1) h k) = V m c main_arg2 (ix3 (grid0.coords t 0) h k) := by
  refine (fill_at win0_2 t d _ (ix3 (0 : Fin 1) h k) ?_).trans ?_
  · rw [xsize0_2]
    intro a
    match a with
    | ⟨0, _⟩ => exact Nat.zero_lt_one
    | ⟨1, _⟩ => exact h.isLt
    | ⟨2, _⟩ => exact k.isLt
  · refine congrArg (V m c main_arg2) (funext fun a => Fin.ext ?_)
    match a with
    | ⟨0, _⟩ => blk_simp [index0_2]; try (first | rfl | omega)
    | ⟨1, _⟩ => blk_simp [index0_2]; try (first | rfl | omega)
    | ⟨2, _⟩ => blk_simp [index0_2]; try (first | rfl | omega)

theorem block0_3 (d : S768x3072.Idx → Elt Ideal win0_3.elt) (i : Fin 768) (k : Fin 3072) :
    win0_3.fill (grid0.coords t) d ((win0_3.blk t).view.read (Elt Ideal) (V m c main_arg3)) (ix2 i k) = V m c main_arg3 (ix2 i k) := by
  refine (fill_at win0_3 t d _ (ix2 i k) ?_).trans ?_
  · rw [xsize0_3]
    intro a
    match a with
    | ⟨0, _⟩ => exact i.isLt
    | ⟨1, _⟩ => exact k.isLt
  · refine congrArg (V m c main_arg3) (funext fun a => Fin.ext ?_)
    match a with
    | ⟨0, _⟩ => blk_simp [index0_3]; try (first | rfl | omega)
    | ⟨1, _⟩ => blk_simp [index0_3]; try (first | rfl | omega)

theorem block0_4 (d : S1x3072.Idx → Elt Ideal win0_4.elt) (i : Fin 1) (k : Fin 3072) :
    win0_4.fill (grid0.coords t) d ((win0_4.blk t).view.read (Elt Ideal) (V m c main_v0)) (ix2 i k) = V m c main_v0 (ix2 i k) := by
  refine (fill_at win0_4 t d _ (ix2 i k) ?_).trans ?_
  · rw [xsize0_4]
    intro a
    match a with
    | ⟨0, _⟩ => exact i.isLt
    | ⟨1, _⟩ => exact k.isLt
  · refine congrArg (V m c main_v0) (funext fun a => Fin.ext ?_)
    match a with
    | ⟨0, _⟩ => blk_simp [index0_4]; try (first | rfl | omega)
    | ⟨1, _⟩ => blk_simp [index0_4]; try (first | rfl | omega)

theorem block0_5 (d : S3072x2048.Idx → Elt Ideal win0_5.elt) (i : Fin 3072) (k : Fin 2048) :
    win0_5.fill (grid0.coords t) d ((win0_5.blk t).view.read (Elt Ideal) (V m c main_arg5)) (ix2 i k) = V m c main_arg5 (ix2 i k) := by
  refine (fill_at win0_5 t d _ (ix2 i k) ?_).trans ?_
  · rw [xsize0_5]
    intro a
    match a with
    | ⟨0, _⟩ => exact i.isLt
    | ⟨1, _⟩ => exact k.isLt
  · refine congrArg (V m c main_arg5) (funext fun a => Fin.ext ?_)
    match a with
    | ⟨0, _⟩ => blk_simp [index0_5]; try (first | rfl | omega)
    | ⟨1, _⟩ => blk_simp [index0_5]; try (first | rfl | omega)

theorem block0_6 (d : S1x2048.Idx → Elt Ideal win0_6.elt) (i : Fin 1) (k : Fin 2048) :
    win0_6.fill (grid0.coords t) d ((win0_6.blk t).view.read (Elt Ideal) (V m c main_v1)) (ix2 i k) = V m c main_v1 (ix2 i k) := by
  refine (fill_at win0_6 t d _ (ix2 i k) ?_).trans ?_
  · rw [xsize0_6]
    intro a
    match a with
    | ⟨0, _⟩ => exact i.isLt
    | ⟨1, _⟩ => exact k.isLt
  · refine congrArg (V m c main_v1) (funext fun a => Fin.ext ?_)
    match a with
    | ⟨0, _⟩ => blk_simp [index0_6]; try (first | rfl | omega)
    | ⟨1, _⟩ => blk_simp [index0_6]; try (first | rfl | omega)

theorem block0_7 (d : S3072x2048.Idx → Elt Ideal win0_7.elt) (i : Fin 3072) (k : Fin 2048) :
    win0_7.fill (grid0.coords t) d ((win0_7.blk t).view.read (Elt Ideal) (V m c main_arg7)) (ix2 i k) = V m c main_arg7 (ix2 i k) := by
  refine (fill_at win0_7 t d _ (ix2 i k) ?_).trans ?_
  · rw [xsize0_7]
    intro a
    match a with
    | ⟨0, _⟩ => exact i.isLt
    | ⟨1, _⟩ => exact k.isLt
  · refine congrArg (V m c main_arg7) (funext fun a => Fin.ext ?_)
    match a with
    | ⟨0, _⟩ => blk_simp [index0_7]; try (first | rfl | omega)
    | ⟨1, _⟩ => blk_simp [index0_7]; try (first | rfl | omega)

theorem block0_8 (d : S1x2048.Idx → Elt Ideal win0_8.elt) (i : Fin 1) (k : Fin 2048) :
    win0_8.fill (grid0.coords t) d ((win0_8.blk t).view.read (Elt Ideal) (V m c main_v2)) (ix2 i k) = V m c main_v2 (ix2 i k) := by
  refine (fill_at win0_8 t d _ (ix2 i k) ?_).trans ?_
  · rw [xsize0_8]
    intro a
    match a with
    | ⟨0, _⟩ => exact i.isLt
    | ⟨1, _⟩ => exact k.isLt
  · refine congrArg (V m c main_v2) (funext fun a => Fin.ext ?_)
    match a with
    | ⟨0, _⟩ => blk_simp [index0_8]; try (first | rfl | omega)
    | ⟨1, _⟩ => blk_simp [index0_8]; try (first | rfl | omega)

theorem block0_9 (d : S2048x3072.Idx → Elt Ideal win0_9.elt) (i : Fin 2048) (k : Fin 3072) :
    win0_9.fill (grid0.coords t) d ((win0_9.blk t).view.read (Elt Ideal) (V m c main_arg9)) (ix2 i k) = V m c main_arg9 (ix2 i k) := by
  refine (fill_at win0_9 t d _ (ix2 i k) ?_).trans ?_
  · rw [xsize0_9]
    intro a
    match a with
    | ⟨0, _⟩ => exact i.isLt
    | ⟨1, _⟩ => exact k.isLt
  · refine congrArg (V m c main_arg9) (funext fun a => Fin.ext ?_)
    match a with
    | ⟨0, _⟩ => blk_simp [index0_9]; try (first | rfl | omega)
    | ⟨1, _⟩ => blk_simp [index0_9]; try (first | rfl | omega)

theorem block0_10 (d : S1x3072.Idx → Elt Ideal win0_10.elt) (i : Fin 1) (k : Fin 3072) :
    win0_10.fill (grid0.coords t) d ((win0_10.blk t).view.read (Elt Ideal) (V m c main_v3)) (ix2 i k) = V m c main_v3 (ix2 i k) := by
  refine (fill_at win0_10 t d _ (ix2 i k) ?_).trans ?_
  · rw [xsize0_10]
    intro a
    match a with
    | ⟨0, _⟩ => exact i.isLt
    | ⟨1, _⟩ => exact k.isLt
  · refine congrArg (V m c main_v3) (funext fun a => Fin.ext ?_)
    match a with
    | ⟨0, _⟩ => blk_simp [index0_10]; try (first | rfl | omega)
    | ⟨1, _⟩ => blk_simp [index0_10]; try (first | rfl | omega)

/-- The fetched blocks hold the rows of the arguments. -/
theorem rows_fetched (d0 : S1x6x384x128.Idx → Elt Ideal win0_0.elt) (d1 : S1x384x3072.Idx → Elt Ideal win0_1.elt) (d2 : S1x6x3072.Idx → Elt Ideal win0_2.elt) (d3 : S768x3072.Idx → Elt Ideal win0_3.elt) (d4 : S1x3072.Idx → Elt Ideal win0_4.elt) (d5 : S3072x2048.Idx → Elt Ideal win0_5.elt) (d6 : S1x2048.Idx → Elt Ideal win0_6.elt) (d7 : S3072x2048.Idx → Elt Ideal win0_7.elt) (d8 : S1x2048.Idx → Elt Ideal win0_8.elt) (d9 : S2048x3072.Idx → Elt Ideal win0_9.elt) (d10 : S1x3072.Idx → Elt Ideal win0_10.elt) :
    Rows (win0_0.fill (grid0.coords t) d0 ((win0_0.blk t).view.read (Elt Ideal) (V m c main_arg0)))
      (win0_1.fill (grid0.coords t) d1 ((win0_1.blk t).view.read (Elt Ideal) (V m c main_arg1)))
      (win0_2.fill (grid0.coords t) d2 ((win0_2.blk t).view.read (Elt Ideal) (V m c main_arg2)))
      (win0_3.fill (grid0.coords t) d3 ((win0_3.blk t).view.read (Elt Ideal) (V m c main_arg3)))
      (win0_4.fill (grid0.coords t) d4 ((win0_4.blk t).view.read (Elt Ideal) (V m c main_v0)))
      (win0_5.fill (grid0.coords t) d5 ((win0_5.blk t).view.read (Elt Ideal) (V m c main_arg5)))
      (win0_6.fill (grid0.coords t) d6 ((win0_6.blk t).view.read (Elt Ideal) (V m c main_v1)))
      (win0_7.fill (grid0.coords t) d7 ((win0_7.blk t).view.read (Elt Ideal) (V m c main_arg7)))
      (win0_8.fill (grid0.coords t) d8 ((win0_8.blk t).view.read (Elt Ideal) (V m c main_v2)))
      (win0_9.fill (grid0.coords t) d9 ((win0_9.blk t).view.read (Elt Ideal) (V m c main_arg9)))
      (win0_10.fill (grid0.coords t) d10 ((win0_10.blk t).view.read (Elt Ideal) (V m c main_v3)))
      (inputs m c) (grid0.coords t 0) (384 * (grid0.coords t 1).val) where
  att h i k hi := block0_0 m c t d0 h i k hi
  x i k hi := block0_1 m c t d1 i k hi
  mod q k := block0_2 m c t d2 q k
  wo i k := block0_3 m c t d3 i k
  so k := block0_4 m c t d4 0 k
  w1 i k := block0_5 m c t d5 i k
  s1 k := block0_6 m c t d6 0 k
  w3 i k := block0_7 m c t d7 i k
  s3 k := block0_8 m c t d8 0 k
  w2 i k := block0_9 m c t d9 i k
  s2 k := block0_10 m c t d10 0 k

/-! ### The blocks of the results -/

theorem cut0_11 (A : S3x6480x768.Idx → EReal) (Z : (⟨3, ![1, 384, 768]⟩ : Shape).Idx → EReal) (hZ : RowsAre (fun s d => A (ix3 (grid0.coords t 0) s d)) (384 * (grid0.coords t 1).val) Z) :
    win0_11.cut (grid0.coords t) Z = (win0_11.blk t).view.read (Elt Ideal) A := by
  funext y
  have b0 : (y 0).val < win0_11.xsize (grid0.coords t) 0 := (y 0).isLt
  have b1 : (y 1).val < win0_11.xsize (grid0.coords t) 1 := (y 1).isLt
  have b2 : (y 2).val < win0_11.xsize (grid0.coords t) 2 := (y 2).isLt
  rw [xsize0_11] at b0 b1 b2
  have h0 : (y 0).val < 1 := b0
  have h1 : (y 1).val < 384 := (lt_min_iff.mp b1).1
  have hx : (y 1).val < 6480 - 384 * (grid0.coords t 1).val := (lt_min_iff.mp b1).2
  have h2 : (y 2).val < 768 := b2
  have hy : 384 * (grid0.coords t 1).val + (y 1).val < 6480 := by omega
  have e1 : win0_11.xinj (grid0.coords t) y = ix3 (0 : Fin 1) (⟨(y 1).val, h1⟩ : Fin 384) (⟨(y 2).val, h2⟩ : Fin 768) := by
    funext a
    match a with
    | ⟨0, _⟩ => exact Fin.ext (show (y 0).val = 0 by omega)
    | ⟨1, _⟩ => exact Fin.ext rfl
    | ⟨2, _⟩ => exact Fin.ext rfl
  have e2 : (win0_11.blk t).view.emb y = ix3 (grid0.coords t 0) (⟨384 * (grid0.coords t 1).val + (y 1).val, hy⟩ : Fin 6480) (⟨(y 2).val, h2⟩ : Fin 768) := by
    funext a
    apply Fin.ext
    match a with
    | ⟨0, _⟩ => blk_simp [index0_11]; try (show (grid0.coords t 0).val + (y 0).val = (grid0.coords t 0).val; omega)
    | ⟨1, _⟩ => blk_simp [index0_11]; try (show (grid0.coords t 1).val * 384 + (y 1).val = 384 * (grid0.coords t 1).val + (y 1).val; omega)
    | ⟨2, _⟩ => blk_simp [index0_11]; try (rfl)
  refine (congrArg Z e1).trans ((hZ ⟨(y 1).val, h1⟩ hy ⟨(y 2).val, h2⟩).trans (Eq.symm ?_))
  exact congrArg A e2

theorem cut0_15 (A : S3x6480x3072.Idx → EReal) (Z : (⟨3, ![1, 384, 3072]⟩ : Shape).Idx → EReal) (hZ : RowsAre (fun s d => A (ix3 (grid0.coords t 0) s d)) (384 * (grid0.coords t 1).val) Z) :
    win0_15.cut (grid0.coords t) Z = (win0_15.blk t).view.read (Elt Ideal) A := by
  funext y
  have b0 : (y 0).val < win0_15.xsize (grid0.coords t) 0 := (y 0).isLt
  have b1 : (y 1).val < win0_15.xsize (grid0.coords t) 1 := (y 1).isLt
  have b2 : (y 2).val < win0_15.xsize (grid0.coords t) 2 := (y 2).isLt
  rw [xsize0_15] at b0 b1 b2
  have h0 : (y 0).val < 1 := b0
  have h1 : (y 1).val < 384 := (lt_min_iff.mp b1).1
  have hx : (y 1).val < 6480 - 384 * (grid0.coords t 1).val := (lt_min_iff.mp b1).2
  have h2 : (y 2).val < 3072 := b2
  have hy : 384 * (grid0.coords t 1).val + (y 1).val < 6480 := by omega
  have e1 : win0_15.xinj (grid0.coords t) y = ix3 (0 : Fin 1) (⟨(y 1).val, h1⟩ : Fin 384) (⟨(y 2).val, h2⟩ : Fin 3072) := by
    funext a
    match a with
    | ⟨0, _⟩ => exact Fin.ext (show (y 0).val = 0 by omega)
    | ⟨1, _⟩ => exact Fin.ext rfl
    | ⟨2, _⟩ => exact Fin.ext rfl
  have e2 : (win0_15.blk t).view.emb y = ix3 (grid0.coords t 0) (⟨384 * (grid0.coords t 1).val + (y 1).val, hy⟩ : Fin 6480) (⟨(y 2).val, h2⟩ : Fin 3072) := by
    funext a
    apply Fin.ext
    match a with
    | ⟨0, _⟩ => blk_simp [index0_15]; try (show (grid0.coords t 0).val + (y 0).val = (grid0.coords t 0).val; omega)
    | ⟨1, _⟩ => blk_simp [index0_15]; try (show (grid0.coords t 1).val * 384 + (y 1).val = 384 * (grid0.coords t 1).val + (y 1).val; omega)
    | ⟨2, _⟩ => blk_simp [index0_15]; try (rfl)
  refine (congrArg Z e1).trans ((hZ ⟨(y 1).val, h1⟩ hy ⟨(y 2).val, h2⟩).trans (Eq.symm ?_))
  exact congrArg A e2

theorem cut0_12 (A : S3x1x6480.Idx → EReal) (Z : (⟨3, ![1, 1, 384]⟩ : Shape).Idx → EReal) (hZ : ColsAre (fun s => A (ix3 (grid0.coords t 0) (0 : Fin 1) s)) (384 * (grid0.coords t 1).val) Z) :
    win0_12.cut (grid0.coords t) Z = (win0_12.blk t).view.read (Elt Ideal) A := by
  funext y
  have b0 : (y 0).val < win0_12.xsize (grid0.coords t) 0 := (y 0).isLt
  have b1 : (y 1).val < win0_12.xsize (grid0.coords t) 1 := (y 1).isLt
  have b2 : (y 2).val < win0_12.xsize (grid0.coords t) 2 := (y 2).isLt
  rw [xsize0_12] at b0 b1 b2
  have h0 : (y 0).val < 1 := b0
  have h1 : (y 1).val < 1 := b1
  have h2 : (y 2).val < 384 := (lt_min_iff.mp b2).1
  have hx : (y 2).val < 6480 - 384 * (grid0.coords t 1).val := (lt_min_iff.mp b2).2
  have hy : 384 * (grid0.coords t 1).val + (y 2).val < 6480 := by omega
  have e1 : win0_12.xinj (grid0.coords t) y = ix3 (0 : Fin 1) (0 : Fin 1) (⟨(y 2).val, h2⟩ : Fin 384) := by
    funext a
    match a with
    | ⟨0, _⟩ => exact Fin.ext (show (y 0).val = 0 by omega)
    | ⟨1, _⟩ => exact Fin.ext (show (y 1).val = 0 by omega)
    | ⟨2, _⟩ => exact Fin.ext rfl
  have e2 : (win0_12.blk t).view.emb y = ix3 (grid0.coords t 0) (0 : Fin 1) (⟨384 * (grid0.coords t 1).val + (y 2).val, hy⟩ : Fin 6480) := by
    funext a
    apply Fin.ext
    match a with
    | ⟨0, _⟩ => blk_simp [index0_12]; try (show (grid0.coords t 0).val + (y 0).val = (grid0.coords t 0).val; omega)
    | ⟨1, _⟩ => blk_simp [index0_12]; try (first | rfl | (show (y 1).val = 0; omega))
    | ⟨2, _⟩ => blk_simp [index0_12]; try (show (grid0.coords t 1).val * 384 + (y 2).val = 384 * (grid0.coords t 1).val + (y 2).val; omega)
  refine (congrArg Z e1).trans ((hZ ⟨(y 2).val, h2⟩ hy).trans (Eq.symm ?_))
  exact congrArg A e2

theorem cut0_13 (A : S3x1x6480.Idx → EReal) (Z : (⟨3, ![1, 1, 384]⟩ : Shape).Idx → EReal) (hZ : ColsAre (fun s => A (ix3 (grid0.coords t 0) (0 : Fin 1) s)) (384 * (grid0.coords t 1).val) Z) :
    win0_13.cut (grid0.coords t) Z = (win0_13.blk t).view.read (Elt Ideal) A := by
  funext y
  have b0 : (y 0).val < win0_13.xsize (grid0.coords t) 0 := (y 0).isLt
  have b1 : (y 1).val < win0_13.xsize (grid0.coords t) 1 := (y 1).isLt
  have b2 : (y 2).val < win0_13.xsize (grid0.coords t) 2 := (y 2).isLt
  rw [xsize0_13] at b0 b1 b2
  have h0 : (y 0).val < 1 := b0
  have h1 : (y 1).val < 1 := b1
  have h2 : (y 2).val < 384 := (lt_min_iff.mp b2).1
  have hx : (y 2).val < 6480 - 384 * (grid0.coords t 1).val := (lt_min_iff.mp b2).2
  have hy : 384 * (grid0.coords t 1).val + (y 2).val < 6480 := by omega
  have e1 : win0_13.xinj (grid0.coords t) y = ix3 (0 : Fin 1) (0 : Fin 1) (⟨(y 2).val, h2⟩ : Fin 384) := by
    funext a
    match a with
    | ⟨0, _⟩ => exact Fin.ext (show (y 0).val = 0 by omega)
    | ⟨1, _⟩ => exact Fin.ext (show (y 1).val = 0 by omega)
    | ⟨2, _⟩ => exact Fin.ext rfl
  have e2 : (win0_13.blk t).view.emb y = ix3 (grid0.coords t 0) (0 : Fin 1) (⟨384 * (grid0.coords t 1).val + (y 2).val, hy⟩ : Fin 6480) := by
    funext a
    apply Fin.ext
    match a with
    | ⟨0, _⟩ => blk_simp [index0_13]; try (show (grid0.coords t 0).val + (y 0).val = (grid0.coords t 0).val; omega)
    | ⟨1, _⟩ => blk_simp [index0_13]; try (first | rfl | (show (y 1).val = 0; omega))
    | ⟨2, _⟩ => blk_simp [index0_13]; try (show (grid0.coords t 1).val * 384 + (y 2).val = 384 * (grid0.coords t 1).val + (y 2).val; omega)
  refine (congrArg Z e1).trans ((hZ ⟨(y 2).val, h2⟩ hy).trans (Eq.symm ?_))
  exact congrArg A e2

theorem cut0_14 (A : S3x1x6480.Idx → EReal) (Z : (⟨3, ![1, 1, 384]⟩ : Shape).Idx → EReal) (hZ : ColsAre (fun s => A (ix3 (grid0.coords t 0) (0 : Fin 1) s)) (384 * (grid0.coords t 1).val) Z) :
    win0_14.cut (grid0.coords t) Z = (win0_14.blk t).view.read (Elt Ideal) A := by
  funext y
  have b0 : (y 0).val < win0_14.xsize (grid0.coords t) 0 := (y 0).isLt
  have b1 : (y 1).val < win0_14.xsize (grid0.coords t) 1 := (y 1).isLt
  have b2 : (y 2).val < win0_14.xsize (grid0.coords t) 2 := (y 2).isLt
  rw [xsize0_14] at b0 b1 b2
  have h0 : (y 0).val < 1 := b0
  have h1 : (y 1).val < 1 := b1
  have h2 : (y 2).val < 384 := (lt_min_iff.mp b2).1
  have hx : (y 2).val < 6480 - 384 * (grid0.coords t 1).val := (lt_min_iff.mp b2).2
  have hy : 384 * (grid0.coords t 1).val + (y 2).val < 6480 := by omega
  have e1 : win0_14.xinj (grid0.coords t) y = ix3 (0 : Fin 1) (0 : Fin 1) (⟨(y 2).val, h2⟩ : Fin 384) := by
    funext a
    match a with
    | ⟨0, _⟩ => exact Fin.ext (show (y 0).val = 0 by omega)
    | ⟨1, _⟩ => exact Fin.ext (show (y 1).val = 0 by omega)
    | ⟨2, _⟩ => exact Fin.ext rfl
  have e2 : (win0_14.blk t).view.emb y = ix3 (grid0.coords t 0) (0 : Fin 1) (⟨384 * (grid0.coords t 1).val + (y 2).val, hy⟩ : Fin 6480) := by
    funext a
    apply Fin.ext
    match a with
    | ⟨0, _⟩ => blk_simp [index0_14]; try (show (grid0.coords t 0).val + (y 0).val = (grid0.coords t 0).val; omega)
    | ⟨1, _⟩ => blk_simp [index0_14]; try (first | rfl | (show (y 1).val = 0; omega))
    | ⟨2, _⟩ => blk_simp [index0_14]; try (show (grid0.coords t 1).val * 384 + (y 2).val = 384 * (grid0.coords t 1).val + (y 2).val; omega)
  refine (congrArg Z e1).trans ((hZ ⟨(y 2).val, h2⟩ hy).trans (Eq.symm ?_))
  exact congrArg A e2

end

end Cert.KernelIdeal.Hand.Tile

end
-- ==== Proof.KernelIdealValue.lean ====
/-
  The call with its values: its results end holding the layer's values of the arguments.
-/
module

public import proofs.«01_k».proof.Proof.CallSpec
public import Idealize.ShloMosaic.Lib.Pipeline.FrameValue

@[expose] public section

set_option maxHeartbeats 2000000

noncomputable section

namespace Cert.KernelIdeal.Hand.Tile

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.RowSpec

/-- The proof's algebra: the pipeline's beside the transfers' counters. -/
local notation "𝕄" => MT nD τ sig Unit (Elt Ideal) ℕ (Pipeline.UD sig nD τ) ℕ

variable (m : (ℓ : Loc nD τ sig) → Buf (Elt Ideal) ℓ) (ρ : Dev nD → PrngReg)

/-- What is kept between points: the scratch at anything, the counters at zero, the rows of the tiles before copied out. -/
def kept (c : Dev nD) (t : ℕ) : sProp 𝕄 :=
  iprop(iprop((∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f)) ∗ (∃ r, prngReg c r) ∗ iprop(semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0) ∗ iprop(emp) ∗ iprop((∃ f, ⌜Done (Memref.whole main_v4_1).view (fun b t d => codes ((inputs m c).attRow b t) d) t f⌝ ∗ pt c (Memref.whole main_v4_1) f) ∗ (∃ f, ⌜Done (Memref.whole main_v4_3).view (fun b t d => codes ((inputs m c).norm b t) d) t f⌝ ∗ pt c (Memref.whole main_v4_3) f) ∗ (∃ f, ⌜Done (Memref.whole main_v4_5).view (fun b t d => codes ((inputs m c).hid b t) d) t f⌝ ∗ pt c (Memref.whole main_v4_5) f)))

/-- The proof data: the arrays as the region finds them; after a point each window holds its block of what its array ends with. -/
def values (_ : Fin 1) (c : Dev nD) : Dat τ (Elt Ideal) Unit ℕ (Pipeline.UD sig nD τ) ℕ cfg0 c where
  A w := V m c (Pipeline.arrRef spec0 w)
  after w t := (cfg0.win w).fill (grid0.coords t) (Dat.unnamed w t) (((cfg0.win w).blk t).view.read (Elt Ideal) (target m c w))
  Φ t := kept m c t.val
  q _ := fullShare
  owed _ := 0

theorem values_A (c : Dev nD) (w : Fin cfg0.W) : (values m 0 c).A w = V m c (Pipeline.arrRef spec0 w) := by
  dsimp only [values]

theorem cut_after (c : Dev nD) (w : Fin cfg0.W) (t : Fin cfg0.N) : (cfg0.win w).cut (grid0.coords t) ((values m 0 c).after w t)
    = ((cfg0.win w).blk t).view.read (Elt Ideal) (target m c w) := (cfg0.win w).cut_fill _ _ _

/-! ### What the input windows hold before a point -/

theorem before_0 (c : Dev nD) (t : Fin cfg0.N) (d : (cfg0.win 0).block.Idx → Elt Ideal (cfg0.win 0).elt) :
    (values m 0 c).before 0 t d = win0_0.fill (grid0.coords t) d ((win0_0.blk t).view.read (Elt Ideal) (V m c main_arg0)) :=
  (values m 0 c).before_fetched 0 t (fetch0_0 t) d
theorem before_1 (c : Dev nD) (t : Fin cfg0.N) (d : (cfg0.win 1).block.Idx → Elt Ideal (cfg0.win 1).elt) :
    (values m 0 c).before 1 t d = win0_1.fill (grid0.coords t) d ((win0_1.blk t).view.read (Elt Ideal) (V m c main_arg1)) :=
  (values m 0 c).before_fetched 1 t (fetch0_1 t) d
theorem before_2 (c : Dev nD) (t : Fin cfg0.N) (d : (cfg0.win 2).block.Idx → Elt Ideal (cfg0.win 2).elt) :
    (values m 0 c).before 2 t d = win0_2.fill (grid0.coords t) d ((win0_2.blk t).view.read (Elt Ideal) (V m c main_arg2)) :=
  (values m 0 c).before_in_eq_fetched 2 rfl (fun _ => rfl) (fun _ _ _ => rfl) (fun t => cut_after m c 2 t) t d
theorem before_3 (c : Dev nD) (t : Fin cfg0.N) (d : (cfg0.win 3).block.Idx → Elt Ideal (cfg0.win 3).elt) :
    (values m 0 c).before 3 t d = win0_3.fill (grid0.coords t) d ((win0_3.blk t).view.read (Elt Ideal) (V m c main_arg3)) :=
  (values m 0 c).before_in_eq_fetched 3 rfl (fun _ => rfl) (fun _ _ _ => rfl) (fun t => cut_after m c 3 t) t d
theorem before_4 (c : Dev nD) (t : Fin cfg0.N) (d : (cfg0.win 4).block.Idx → Elt Ideal (cfg0.win 4).elt) :
    (values m 0 c).before 4 t d = win0_4.fill (grid0.coords t) d ((win0_4.blk t).view.read (Elt Ideal) (V m c main_v0)) :=
  (values m 0 c).before_in_eq_fetched 4 rfl (fun _ => rfl) (fun _ _ _ => rfl) (fun t => cut_after m c 4 t) t d
theorem before_5 (c : Dev nD) (t : Fin cfg0.N) (d : (cfg0.win 5).block.Idx → Elt Ideal (cfg0.win 5).elt) :
    (values m 0 c).before 5 t d = win0_5.fill (grid0.coords t) d ((win0_5.blk t).view.read (Elt Ideal) (V m c main_arg5)) :=
  (values m 0 c).before_in_eq_fetched 5 rfl (fun _ => rfl) (fun _ _ _ => rfl) (fun t => cut_after m c 5 t) t d
theorem before_6 (c : Dev nD) (t : Fin cfg0.N) (d : (cfg0.win 6).block.Idx → Elt Ideal (cfg0.win 6).elt) :
    (values m 0 c).before 6 t d = win0_6.fill (grid0.coords t) d ((win0_6.blk t).view.read (Elt Ideal) (V m c main_v1)) :=
  (values m 0 c).before_in_eq_fetched 6 rfl (fun _ => rfl) (fun _ _ _ => rfl) (fun t => cut_after m c 6 t) t d
theorem before_7 (c : Dev nD) (t : Fin cfg0.N) (d : (cfg0.win 7).block.Idx → Elt Ideal (cfg0.win 7).elt) :
    (values m 0 c).before 7 t d = win0_7.fill (grid0.coords t) d ((win0_7.blk t).view.read (Elt Ideal) (V m c main_arg7)) :=
  (values m 0 c).before_in_eq_fetched 7 rfl (fun _ => rfl) (fun _ _ _ => rfl) (fun t => cut_after m c 7 t) t d
theorem before_8 (c : Dev nD) (t : Fin cfg0.N) (d : (cfg0.win 8).block.Idx → Elt Ideal (cfg0.win 8).elt) :
    (values m 0 c).before 8 t d = win0_8.fill (grid0.coords t) d ((win0_8.blk t).view.read (Elt Ideal) (V m c main_v2)) :=
  (values m 0 c).before_in_eq_fetched 8 rfl (fun _ => rfl) (fun _ _ _ => rfl) (fun t => cut_after m c 8 t) t d
theorem before_9 (c : Dev nD) (t : Fin cfg0.N) (d : (cfg0.win 9).block.Idx → Elt Ideal (cfg0.win 9).elt) :
    (values m 0 c).before 9 t d = win0_9.fill (grid0.coords t) d ((win0_9.blk t).view.read (Elt Ideal) (V m c main_arg9)) :=
  (values m 0 c).before_in_eq_fetched 9 rfl (fun _ => rfl) (fun _ _ _ => rfl) (fun t => cut_after m c 9 t) t d
theorem before_10 (c : Dev nD) (t : Fin cfg0.N) (d : (cfg0.win 10).block.Idx → Elt Ideal (cfg0.win 10).elt) :
    (values m 0 c).before 10 t d = win0_10.fill (grid0.coords t) d ((win0_10.blk t).view.read (Elt Ideal) (V m c main_v3)) :=
  (values m 0 c).before_in_eq_fetched 10 rfl (fun _ => rfl) (fun _ _ _ => rfl) (fun t => cut_after m c 10 t) t d

/-! ### What a window is left holding -/

theorem leave_part (c : Dev nD) (w : Fin cfg0.W) (t : Fin cfg0.N) (X : (cfg0.win w).block.Idx → Elt Ideal (cfg0.win w).elt)
    (h : (cfg0.win w).cut (grid0.coords t) X = ((cfg0.win w).blk t).view.read (Elt Ideal) (target m c w)) :
    (owns (c : Thread nD τ) ((cfg0.win w).stage (cfg0.slots t w)) fullShare X : sProp 𝕄)
      ⊢ iprop(∃ d, owns (c : Thread nD τ) ((cfg0.win w).stage (cfg0.slots t w)) fullShare
          ((cfg0.win w).fill (grid0.coords t) d ((cfg0.win w).cut (grid0.coords t) ((values m 0 c).after w t)))) := by
  rw [cut_after, ← h]
  iintro H
  iexists X
  rw [(cfg0.win w).fill_cut]
  iexact H

theorem leave_whole (c : Dev nD) (w : Fin cfg0.W) (t : Fin cfg0.N) (X : (cfg0.win w).block.Idx → Elt Ideal (cfg0.win w).elt)
    (h : X = (values m 0 c).after w t) :
    (owns (c : Thread nD τ) ((cfg0.win w).stage (cfg0.slots t w)) fullShare X : sProp 𝕄)
      ⊢ owns (c : Thread nD τ) ((cfg0.win w).stage (cfg0.slots t w)) fullShare ((values m 0 c).after w t) := by
  rw [h]

theorem whole_after (c : Dev nD) (w : Fin cfg0.W) (t : Fin cfg0.N) (hc : ∀ a, (cfg0.win w).clip (grid0.coords t) a = none)
    (d : (cfg0.win w).block.Idx → Elt Ideal (cfg0.win w).elt) :
    (cfg0.win w).fill (grid0.coords t) d (((cfg0.win w).blk t).view.read (Elt Ideal) (target m c w)) = (values m 0 c).after w t :=
  Pipeline.fill_of_clip_none w (grid0.coords t) hc _ _ _

theorem pos_eq : ∀ t : Fin cfg0.N, 17 * (grid0.coords t 0).val + (grid0.coords t 1).val = t.val := by decide +kernel

theorem value_body (c : Dev nD) (t : Fin cfg0.N) :
    iprop((values m 0 c).Φ t.castSucc ∗ (values m 0 c).owesAt () t.castSucc
      ∗ (∃ d, owns (c : Thread nD τ) ((cfg0.win 0).stage (cfg0.slots t 0)) fullShare ((values m 0 c).before 0 t d)) ∗ (∃ d, owns (c : Thread nD τ) ((cfg0.win 1).stage (cfg0.slots t 1)) fullShare ((values m 0 c).before 1 t d)) ∗ (∃ d, owns (c : Thread nD τ) ((cfg0.win 2).stage (cfg0.slots t 2)) fullShare ((values m 0 c).before 2 t d)) ∗ (∃ d, owns (c : Thread nD τ) ((cfg0.win 3).stage (cfg0.slots t 3)) fullShare ((values m 0 c).before 3 t d)) ∗ (∃ d, owns (c : Thread nD τ) ((cfg0.win 4).stage (cfg0.slots t 4)) fullShare ((values m 0 c).before 4 t d)) ∗ (∃ d, owns (c : Thread nD τ) ((cfg0.win 5).stage (cfg0.slots t 5)) fullShare ((values m 0 c).before 5 t d)) ∗ (∃ d, owns (c : Thread nD τ) ((cfg0.win 6).stage (cfg0.slots t 6)) fullShare ((values m 0 c).before 6 t d)) ∗ (∃ d, owns (c : Thread nD τ) ((cfg0.win 7).stage (cfg0.slots t 7)) fullShare ((values m 0 c).before 7 t d)) ∗ (∃ d, owns (c : Thread nD τ) ((cfg0.win 8).stage (cfg0.slots t 8)) fullShare ((values m 0 c).before 8 t d)) ∗ (∃ d, owns (c : Thread nD τ) ((cfg0.win 9).stage (cfg0.slots t 9)) fullShare ((values m 0 c).before 9 t d)) ∗ (∃ d, owns (c : Thread nD τ) ((cfg0.win 10).stage (cfg0.slots t 10)) fullShare ((values m 0 c).before 10 t d)) ∗ (∃ d, owns (c : Thread nD τ) ((cfg0.win 11).stage (cfg0.slots t 11)) fullShare ((values m 0 c).before 11 t d)) ∗ (∃ d, owns (c : Thread nD τ) ((cfg0.win 12).stage (cfg0.slots t 12)) fullShare ((values m 0 c).before 12 t d)) ∗ (∃ d, owns (c : Thread nD τ) ((cfg0.win 13).stage (cfg0.slots t 13)) fullShare ((values m 0 c).before 13 t d)) ∗ (∃ d, owns (c : Thread nD τ) ((cfg0.win 14).stage (cfg0.slots t 14)) fullShare ((values m 0 c).before 14 t d)) ∗ (∃ d, owns (c : Thread nD τ) ((cfg0.win 15).stage (cfg0.slots t 15)) fullShare ((values m 0 c).before 15 t d)))
    ⊢ wp Idealize.ShloMosaic.frame (wpE (defs₀ (F := Ideal)) Variants.none c none) Set.univ (bodyAt0 t) (fun _ =>
      iprop((values m 0 c).Φ t.succ ∗ (values m 0 c).owesAt () t.succ
      ∗ (∃ d, owns (c : Thread nD τ) ((cfg0.win 0).stage (cfg0.slots t 0)) fullShare ((cfg0.win 0).fill (grid0.coords t) d ((cfg0.win 0).cut (grid0.coords t) ((values m 0 c).after 0 t)))) ∗ (∃ d, owns (c : Thread nD τ) ((cfg0.win 1).stage (cfg0.slots t 1)) fullShare ((cfg0.win 1).fill (grid0.coords t) d ((cfg0.win 1).cut (grid0.coords t) ((values m 0 c).after 1 t)))) ∗ owns (c : Thread nD τ) ((cfg0.win 2).stage (cfg0.slots t 2)) fullShare ((values m 0 c).after 2 t) ∗ owns (c : Thread nD τ) ((cfg0.win 3).stage (cfg0.slots t 3)) fullShare ((values m 0 c).after 3 t) ∗ owns (c : Thread nD τ) ((cfg0.win 4).stage (cfg0.slots t 4)) fullShare ((values m 0 c).after 4 t) ∗ owns (c : Thread nD τ) ((cfg0.win 5).stage (cfg0.slots t 5)) fullShare ((values m 0 c).after 5 t) ∗ owns (c : Thread nD τ) ((cfg0.win 6).stage (cfg0.slots t 6)) fullShare ((values m 0 c).after 6 t) ∗ owns (c : Thread nD τ) ((cfg0.win 7).stage (cfg0.slots t 7)) fullShare ((values m 0 c).after 7 t) ∗ owns (c : Thread nD τ) ((cfg0.win 8).stage (cfg0.slots t 8)) fullShare ((values m 0 c).after 8 t) ∗ owns (c : Thread nD τ) ((cfg0.win 9).stage (cfg0.slots t 9)) fullShare ((values m 0 c).after 9 t) ∗ owns (c : Thread nD τ) ((cfg0.win 10).stage (cfg0.slots t 10)) fullShare ((values m 0 c).after 10 t) ∗ (∃ d, owns (c : Thread nD τ) ((cfg0.win 11).stage (cfg0.slots t 11)) fullShare ((cfg0.win 11).fill (grid0.coords t) d ((cfg0.win 11).cut (grid0.coords t) ((values m 0 c).after 11 t)))) ∗ (∃ d, owns (c : Thread nD τ) ((cfg0.win 12).stage (cfg0.slots t 12)) fullShare ((cfg0.win 12).fill (grid0.coords t) d ((cfg0.win 12).cut (grid0.coords t) ((values m 0 c).after 12 t)))) ∗ (∃ d, owns (c : Thread nD τ) ((cfg0.win 13).stage (cfg0.slots t 13)) fullShare ((cfg0.win 13).fill (grid0.coords t) d ((cfg0.win 13).cut (grid0.coords t) ((values m 0 c).after 13 t)))) ∗ (∃ d, owns (c : Thread nD τ) ((cfg0.win 14).stage (cfg0.slots t 14)) fullShare ((cfg0.win 14).fill (grid0.coords t) d ((cfg0.win 14).cut (grid0.coords t) ((values m 0 c).after 14 t)))) ∗ (∃ d, owns (c : Thread nD τ) ((cfg0.win 15).stage (cfg0.slots t 15)) fullShare ((cfg0.win 15).fill (grid0.coords t) d ((cfg0.win 15).cut (grid0.coords t) ((values m 0 c).after 15 t)))))) := by
  rw [show (values m 0 c).Φ t.succ = kept m c (17 * (grid0.coords t 0).val + (grid0.coords t 1).val + 1) from congrArg (fun n => kept m c (n + 1)) (pos_eq t).symm,
    show (values m 0 c).Φ t.castSucc = kept m c (17 * (grid0.coords t 0).val + (grid0.coords t 1).val) from congrArg (kept m c) (pos_eq t).symm]
  unfold Dat.owesAt Pipeline.owesWithin kept
  rw [show (values m 0 c).owed t.castSucc = 0 from rfl, show (values m 0 c).owed t.succ = 0 from rfl]
  iintro ⟨⟨⟨H21, H22, H23, H24, H25, H26, H27, H28, H29⟩, Hg, ⟨Hq0, Hq1, Hq2, Hq3, Hq4, Hq5⟩, He, ⟨H14, H16, H18⟩⟩, ⟨%Ws, -, HW⟩, ⟨%d0, H2⟩, ⟨%d1, H3⟩, ⟨%d2, H4⟩, ⟨%d3, H5⟩, ⟨%d4, H6⟩, ⟨%d5, H7⟩, ⟨%d6, H8⟩, ⟨%d7, H9⟩, ⟨%d8, H10⟩, ⟨%d9, H11⟩, ⟨%d10, H12⟩, ⟨%d11, H13⟩, ⟨%d12, H15⟩, ⟨%d13, H17⟩, ⟨%d14, H19⟩, ⟨%d15, H20⟩⟩
  rw [before_0 m c t d0, before_1 m c t d1, before_2 m c t d2, before_3 m c t d3, before_4 m c t d4, before_5 m c t d5, before_6 m c t d6, before_7 m c t d7, before_8 m c t d8, before_9 m c t d9, before_10 m c t d10]
  iapply (run_tile c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) _ (hstage0_14 ((cfg0.slots t 14).cast nbuf0_14)) _ (hstage0_15 ((cfg0.slots t 15).cast nbuf0_15)) (inputs m c) _ _ _ _ _ _ _ _ _ _ _ (rows_fetched m c t d0 d1 d2 d3 d4 d5 d6 d7 d8 d9 d10) Ws _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H15]; · iexists _; iexact H15
  isplitl [H17]; · iexists _; iexact H17
  isplitl [H19]; · iexists _; iexact H19
  isplitl [H20]; · iexists _; iexact H20
  isplitl [H14]; · iexact H14
  isplitl [H16]; · iexact H16
  isplitl [H18]; · iexact H18
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [HW]; · iexact HW
  iintro ⟨H2, H3, H4, H5, H6, H7, H8, H9, H10, H11, H12, ⟨%Z11, %hZ11, H13⟩, ⟨%Z12, %hZ12, H15⟩, ⟨%Z13, %hZ13, H17⟩, ⟨%Z14, %hZ14, H19⟩, ⟨%Z15, %hZ15, H20⟩, H14, H16, H18, H21, H22, H23, H24, H25, H26, H27, H28, H29, Hq0, Hq1, Hq2, Hq3, Hq4, Hq5, ⟨%W', HW'⟩⟩
  isplitl [H21 H22 H23 H24 H25 H26 H27 H28 H29 H14 H16 H18 Hg He Hq0 Hq1 Hq2 Hq3 Hq4 Hq5]
  · isplitl [H21 H22 H23 H24 H25 H26 H27 H28 H29]
    · isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      iexact H29
    isplitl [Hg]; · iexact Hg
    isplitl [Hq0 Hq1 Hq2 Hq3 Hq4 Hq5]
    · isplitl [Hq0]; · iexact Hq0
      isplitl [Hq1]; · iexact Hq1
      isplitl [Hq2]; · iexact Hq2
      isplitl [Hq3]; · iexact Hq3
      isplitl [Hq4]; · iexact Hq4
      iexact Hq5
    isplitl [He]; · iexact He
    isplitl [H14]; · iexact H14
    isplitl [H16]; · iexact H16
    iexact H18
  isplitl [HW']
  · iexists W'; isplitr; · ipureintro; exact fun _ _ => Or.inl trivial
    iexact HW'
  isplitl [H2]; · iapply (leave_part m c 0 t _ (win0_0.cut_fill (grid0.coords t) d0 _)); iexact H2
  isplitl [H3]; · iapply (leave_part m c 1 t _ (win0_1.cut_fill (grid0.coords t) d1 _)); iexact H3
  isplitl [H4]; · iapply (leave_whole m c 2 t _ (whole_after m c 2 t (fun _ => rfl) d2)); iexact H4
  isplitl [H5]; · iapply (leave_whole m c 3 t _ (whole_after m c 3 t (fun _ => rfl) d3)); iexact H5
  isplitl [H6]; · iapply (leave_whole m c 4 t _ (whole_after m c 4 t (fun _ => rfl) d4)); iexact H6
  isplitl [H7]; · iapply (leave_whole m c 5 t _ (whole_after m c 5 t (fun _ => rfl) d5)); iexact H7
  isplitl [H8]; · iapply (leave_whole m c 6 t _ (whole_after m c 6 t (fun _ => rfl) d6)); iexact H8
  isplitl [H9]; · iapply (leave_whole m c 7 t _ (whole_after m c 7 t (fun _ => rfl) d7)); iexact H9
  isplitl [H10]; · iapply (leave_whole m c 8 t _ (whole_after m c 8 t (fun _ => rfl) d8)); iexact H10
  isplitl [H11]; · iapply (leave_whole m c 9 t _ (whole_after m c 9 t (fun _ => rfl) d9)); iexact H11
  isplitl [H12]; · iapply (leave_whole m c 10 t _ (whole_after m c 10 t (fun _ => rfl) d10)); iexact H12
  isplitl [H13]; · iapply (leave_part m c 11 t Z11 (cut0_11 t (attArr (inputs m c)) Z11 hZ11)); iexact H13
  isplitl [H15]; · iapply (leave_part m c 12 t Z12 (cut0_12 t (attScaleArr (inputs m c)) Z12 hZ12)); iexact H15
  isplitl [H17]; · iapply (leave_part m c 13 t Z13 (cut0_13 t (normScaleArr (inputs m c)) Z13 hZ13)); iexact H17
  isplitl [H19]; · iapply (leave_part m c 14 t Z14 (cut0_14 t (hidScaleArr (inputs m c)) Z14 hZ14)); iexact H19
  iapply (leave_part m c 15 t Z15 (cut0_15 t (outArr (inputs m c)) Z15 hZ15)); iexact H20

theorem value_obligation (c : Dev nD) : BodyObligationLoose (values m 0 c) (defs₀ (F := Ideal)) Variants.none () Set.univ := fun t => by
  simp only [bigSep_W0]
  rw [defs₀_row]
  exact triple_restated (value_body m c t) rfl .rfl fun _ => .rfl

/-! ### Before the first point and after the last -/

/-- The arrays the body writes by its own transfers, as they end. -/
def copied (c : Dev nD) : (b : Ref sig .tc) → Buf (Elt Ideal) ((c : Thread nD τ).loc b) :=
  Function.update (β := fun b : Ref sig .tc => Buf (Elt Ideal) ((c : Thread nD τ).loc b))
    (Function.update (β := fun b : Ref sig .tc => Buf (Elt Ideal) ((c : Thread nD τ).loc b))
      (Function.update (β := fun b : Ref sig .tc => Buf (Elt Ideal) ((c : Thread nD τ).loc b)) (V m c)
        main_v4_1 (attCodeArr (inputs m c)))
      main_v4_3 (normCodeArr (inputs m c)))
    main_v4_5 (hidCodeArr (inputs m c))

theorem copied_1 (c : Dev nD) : copied m c main_v4_1 = attCodeArr (inputs m c) := by
  unfold copied
  rw [Function.update_of_ne (by decide), Function.update_of_ne (by decide), Function.update_self]
theorem copied_3 (c : Dev nD) : copied m c main_v4_3 = normCodeArr (inputs m c) := by
  unfold copied
  rw [Function.update_of_ne (by decide), Function.update_self]
theorem copied_5 (c : Dev nD) : copied m c main_v4_5 = hidCodeArr (inputs m c) := by
  unfold copied
  rw [Function.update_self]

theorem routed_eq (c : Dev nD) (W : (b : Ref sig .tc) → Buf (Elt Ideal) ((c : Thread nD τ).loc b)) :
    (Pipeline.routed R0 c W : sProp 𝕄)
      = iprop(pt c (Memref.whole main_v4_1) (W main_v4_1) ∗ pt c (Memref.whole main_v4_3) (W main_v4_3) ∗ pt c (Memref.whole main_v4_5) (W main_v4_5)) := by
  unfold Pipeline.routed; rw [BI.bigSep_eq_bigSepL_of_eq [main_v4_1, main_v4_3, main_v4_5] (by decide) (by decide)]; rfl

theorem done_all {C : ℕ} {e : EltTy} (f g : (⟨3, ![3, 6480, C]⟩ : Shape).Idx → Elt Ideal e)
    (h : ∀ (b : Fin 3) (r : Fin 6480) (d : Fin C), 17 * b.val + r.val / 384 < 51 → f (ix3 b r d) = g (ix3 b r d)) : f = g := by
  funext y
  rw [eq_ix3 y]
  refine h (y 0) (y 1) (y 2) ?_
  have h0 : (y 0).val < 3 := (y 0).isLt
  have h1 : (y 1).val < 6480 := (y 1).isLt
  omega

theorem held_none (Φ : Ref sig .tc → sProp 𝕄) : BI.bigSep H0 Φ = iprop(emp) := by
  unfold H0; rfl

theorem enter (c : Dev nD) : (Pipeline.ΦDRG osem0 spec0 H0 R0 (V m) (V m) c : sProp 𝕄) ⊢ kept m c 0 := by
  unfold kept
  rw [Pipeline.ΦDRG_eq, scopedRest0_eq, ownSems00_eq, routed_eq, held_none]
  iintro ⟨H, Hg, Hq, He, H14, H16, H18⟩
  isplitl [H]; · iexact H
  isplitl [Hg]; · iexact Hg
  isplitl [Hq]; · iexact Hq
  isplitl [He]; · iexact He
  isplitl [H14]
  · iexists (V m c main_v4_1); isplitr; · ipureintro; exact fun b r d h => absurd h (Nat.not_lt_zero _)
    iexact H14
  isplitl [H16]
  · iexists (V m c main_v4_3); isplitr; · ipureintro; exact fun b r d h => absurd h (Nat.not_lt_zero _)
    iexact H16
  iexists (V m c main_v4_5); isplitr; · ipureintro; exact fun b r d h => absurd h (Nat.not_lt_zero _)
  iexact H18

theorem leave (c : Dev nD) : (kept m c 51 : sProp 𝕄) ⊢ Pipeline.ΦDRG osem0 spec0 H0 R0 (V m) (copied m) c := by
  unfold kept
  rw [Pipeline.ΦDRG_eq, scopedRest0_eq, ownSems00_eq, routed_eq, held_none, copied_1, copied_3, copied_5]
  iintro ⟨H, Hg, Hq, He, ⟨%f1, %h1, H14⟩, ⟨%f3, %h3, H16⟩, ⟨%f5, %h5, H18⟩⟩
  have e1 : f1 = attCodeArr (inputs m c) := done_all (e := .fp8e4m3) f1 (attCodeArr (inputs m c)) h1
  have e3 : f3 = normCodeArr (inputs m c) := done_all (e := .fp8e4m3) f3 (normCodeArr (inputs m c)) h3
  have e5 : f5 = hidCodeArr (inputs m c) := done_all (e := .fp8e4m3) f5 (hidCodeArr (inputs m c)) h5
  subst e1 e3 e5
  isplitl [H]; · iexact H
  isplitl [Hg]; · iexact Hg
  isplitl [Hq]; · iexact Hq
  isplitl [He]; · iexact He
  isplitl [H14]; · iexact H14
  isplitl [H16]; · iexact H16
  iexact H18

set_option backward.isDefEq.respectTransparency.types false in
theorem run_values : θ_run defs (onTc (τ := τ) (main (F := Ideal))) (s₀ m ρ) (Pipeline.FramePostRG cfgs (values m) (0 : Fin 1) R0 (V m) (copied m)) :=
  Pipeline.θ_run_frame_dmaRG cfgs (values m) (0 : Fin 1) launch0 osem0 defs₀ Variants.none ownSemFacts0 H0 R0 H0_sub R0_sub m ρ main
    (hbody := fun c => value_obligation m c) (hshare := fun c => (values m 0 c).share_full fun _ => rfl)
    (howed := fun _ _ => rfl) (V := V m) (hmain := hmain m Variants.none) (hA := values_A m) (G := copied m)
    (hin := fun c => enter m c) (hout := fun c => leave m c)

/-! ### The arrays in the end -/

theorem final_11 (c : Dev nD) : (values m 0 c).arrAt 11 cfg0.N = attArr (inputs m c) :=
  (values m 0 c).arrAt_eq_of_covers 11 (attArr (inputs m c)) (by decide +kernel) fun t _ y =>
    (win0_11.fill_xinj (grid0.coords t) _ _ y).trans rfl
theorem final_12 (c : Dev nD) : (values m 0 c).arrAt 12 cfg0.N = attScaleArr (inputs m c) :=
  (values m 0 c).arrAt_eq_of_covers 12 (attScaleArr (inputs m c)) (by decide +kernel) fun t _ y =>
    (win0_12.fill_xinj (grid0.coords t) _ _ y).trans rfl
theorem final_13 (c : Dev nD) : (values m 0 c).arrAt 13 cfg0.N = normScaleArr (inputs m c) :=
  (values m 0 c).arrAt_eq_of_covers 13 (normScaleArr (inputs m c)) (by decide +kernel) fun t _ y =>
    (win0_13.fill_xinj (grid0.coords t) _ _ y).trans rfl
theorem final_14 (c : Dev nD) : (values m 0 c).arrAt 14 cfg0.N = hidScaleArr (inputs m c) :=
  (values m 0 c).arrAt_eq_of_covers 14 (hidScaleArr (inputs m c)) (by decide +kernel) fun t _ y =>
    (win0_14.fill_xinj (grid0.coords t) _ _ y).trans rfl
theorem final_15 (c : Dev nD) : (values m 0 c).arrAt 15 cfg0.N = outArr (inputs m c) :=
  (values m 0 c).arrAt_eq_of_covers 15 (outArr (inputs m c)) (by decide +kernel) fun t _ y =>
    (win0_15.fill_xinj (grid0.coords t) _ _ y).trans rfl

/-- The call's results hold the layer's values; its arguments are unchanged. -/
theorem run_layer : θ_run defs (onTc (τ := τ) (main (F := Ideal))) ⟨m, fun _ => 0, ρ⟩ (fun r => ∀ c : Dev nD,
      r.2.mem ((c.tc : Thread nD τ).loc main_v4_0) = attArr (inputs m c)
      ∧ r.2.mem ((c.tc : Thread nD τ).loc main_v4_1) = attCodeArr (inputs m c)
      ∧ r.2.mem ((c.tc : Thread nD τ).loc main_v4_2) = attScaleArr (inputs m c)
      ∧ r.2.mem ((c.tc : Thread nD τ).loc main_v4_3) = normCodeArr (inputs m c)
      ∧ r.2.mem ((c.tc : Thread nD τ).loc main_v4_4) = normScaleArr (inputs m c)
      ∧ r.2.mem ((c.tc : Thread nD τ).loc main_v4_5) = hidCodeArr (inputs m c)
      ∧ r.2.mem ((c.tc : Thread nD τ).loc main_v4_6) = hidScaleArr (inputs m c)
      ∧ r.2.mem ((c.tc : Thread nD τ).loc main_v4_7) = outArr (inputs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h.1 c).1 11).trans (final_11 m c),
      (h.2 c main_v4_1 (by decide)).trans (copied_1 m c),
      ((h.1 c).1 12).trans (final_12 m c),
      (h.2 c main_v4_3 (by decide)).trans (copied_3 m c),
      ((h.1 c).1 13).trans (final_13 m c),
      (h.2 c main_v4_5 (by decide)).trans (copied_5 m c),
      ((h.1 c).1 14).trans (final_14 m c),
      ((h.1 c).1 15).trans (final_15 m c),
      ((h.1 c).1 0).trans (((values m 0 c).arrAt_in 0 rfl _).trans ((values_A m c 0).trans (V_main_arg0 m c))),
      ((h.1 c).1 1).trans (((values m 0 c).arrAt_in 1 rfl _).trans ((values_A m c 1).trans (V_main_arg1 m c))),
      ((h.1 c).1 2).trans (((values m 0 c).arrAt_in 2 rfl _).trans ((values_A m c 2).trans (V_main_arg2 m c))),
      ((h.1 c).1 3).trans (((values m 0 c).arrAt_in 3 rfl _).trans ((values_A m c 3).trans (V_main_arg3 m c))),
      ((h.1 c).2 main_arg4 (Finset.mem_sdiff.mpr ⟨Pipeline.mem_restRefs_of main_arg4 (by decide) (by decide), by decide⟩)).trans (V_main_arg4 m c),
      ((h.1 c).1 5).trans (((values m 0 c).arrAt_in 5 rfl _).trans ((values_A m c 5).trans (V_main_arg5 m c))),
      ((h.1 c).2 main_arg6 (Finset.mem_sdiff.mpr ⟨Pipeline.mem_restRefs_of main_arg6 (by decide) (by decide), by decide⟩)).trans (V_main_arg6 m c),
      ((h.1 c).1 7).trans (((values m 0 c).arrAt_in 7 rfl _).trans ((values_A m c 7).trans (V_main_arg7 m c))),
      ((h.1 c).2 main_arg8 (Finset.mem_sdiff.mpr ⟨Pipeline.mem_restRefs_of main_arg8 (by decide) (by decide), by decide⟩)).trans (V_main_arg8 m c),
      ((h.1 c).1 9).trans (((values m 0 c).arrAt_in 9 rfl _).trans ((values_A m c 9).trans (V_main_arg9 m c))),
      ((h.1 c).2 main_arg10 (Finset.mem_sdiff.mpr ⟨Pipeline.mem_restRefs_of main_arg10 (by decide) (by decide), by decide⟩)).trans (V_main_arg10 m c)⟩) (run_values m ρ)

end Cert.KernelIdeal.Hand.Tile

end
-- ==== Proof.ReferenceRun.lean ====
/-
  The run of the reference with each of its result arrays named.
-/
module

public import proofs.«01_k».proof.Proof.Gen.ReferenceIdeal.Frame
public import Idealize.ShloMosaic.Lib.Pipeline.Value

@[expose] public section

noncomputable section

namespace Cert.ReferenceIdeal.Value

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 14's array: the body's result for that window (`Gen.out0_14`: its stores
    as pieces over the input windows' blocks), read through the window's block. -/
theorem flushed14 (c : Dev nD) (t : Fin cfg0.N) :
    (dats m 0 c).flushed 14 t = (cfg0.win 14).cut (grid0.coords t) (out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  show (cfg0.win 14).cut (grid0.coords t) ((dats m 0 c).after 14 t) = _
  rw [after0_14]

/-- The index map sends distinct grid points to distinct block indices (decided over the 1 point). -/
theorem idx_inj14 : ∀ t t' : Fin cfg0.N, win0_14.index t = win0_14.index t' → t = t' :=
  (by decide +kernel : ∀ t t' : Fin grid0.N, win0_14.index t = win0_14.index t' → t = t')

/-- So two flushing points' blocks share no array index (Lib/Pipeline/Cells.lean `Window.disjoint_blk`). -/
theorem disjoint14 : ∀ t t' : Fin cfg0.N, (cfg0.win 14).flush t = true → (cfg0.win 14).flush t' = true → t ≠ t' →
    Disjoint ((cfg0.win 14).blk t).view.set ((cfg0.win 14).blk t').view.set :=
  fun t t' _ _ hne => (cfg0.win 14).disjoint_blk fun h => hne (idx_inj14 t t' h)

/-- BLOCK `t` OF THE FINAL ARRAY, read back through the window, is what point `t` wrote back (`flushed14`), for every
    point that writes back: no other point's block meets it. -/
theorem blocks14 (c : Dev nD) (t : Fin cfg0.N) (hf : (cfg0.win 14).flush t = true) :
    ((cfg0.win 14).blk t).view.read (Elt F) ((dats m 0 c).arrAt 14 cfg0.N) = (dats m 0 c).flushed 14 t :=
  (dats m 0 c).read_blk_arrAt_eq_flushed 14 disjoint14 cfg0.N t t.isLt hf

/-- An index that no flushing point's block covers keeps output window 14's array contents at region entry. -/
theorem entry14 (c : Dev nD) (i : S3x6480x768.Idx) (h : ∀ t : Fin cfg0.N, (cfg0.win 14).flush t = true → i ∉ ((cfg0.win 14).blk t).view.set) :
    (dats m 0 c).arrAt 14 cfg0.N i = V m c (Pipeline.arrRef spec0 14) i := by
  rw [(dats m 0 c).arrAt_apply_of_forall_not_mem 14 cfg0.N i (fun t _ hf => h t hf), A_eq]

/-- WHAT POINT `t` WRITES BACK to output window 15's array: the body's result for that window (`Gen.out0_15`: its stores
    as pieces over the input windows' blocks), read through the window's block. -/
theorem flushed15 (c : Dev nD) (t : Fin cfg0.N) :
    (dats m 0 c).flushed 15 t = (cfg0.win 15).cut (grid0.coords t) (out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  show (cfg0.win 15).cut (grid0.coords t) ((dats m 0 c).after 15 t) = _
  rw [after0_15]

/-- The index map sends distinct grid points to distinct block indices (decided over the 1 point). -/
theorem idx_inj15 : ∀ t t' : Fin cfg0.N, win0_15.index t = win0_15.index t' → t = t' :=
  (by decide +kernel : ∀ t t' : Fin grid0.N, win0_15.index t = win0_15.index t' → t = t')

/-- So two flushing points' blocks share no array index (Lib/Pipeline/Cells.lean `Window.disjoint_blk`). -/
theorem disjoint15 : ∀ t t' : Fin cfg0.N, (cfg0.win 15).flush t = true → (cfg0.win 15).flush t' = true → t ≠ t' →
    Disjoint ((cfg0.win 15).blk t).view.set ((cfg0.win 15).blk t').view.set :=
  fun t t' _ _ hne => (cfg0.win 15).disjoint_blk fun h => hne (idx_inj15 t t' h)

/-- BLOCK `t` OF THE FINAL ARRAY, read back through the window, is what point `t` wrote back (`flushed15`), for every
    point that writes back: no other point's block meets it. -/
theorem blocks15 (c : Dev nD) (t : Fin cfg0.N) (hf : (cfg0.win 15).flush t = true) :
    ((cfg0.win 15).blk t).view.read (Elt F) ((dats m 0 c).arrAt 15 cfg0.N) = (dats m 0 c).flushed 15 t :=
  (dats m 0 c).read_blk_arrAt_eq_flushed 15 disjoint15 cfg0.N t t.isLt hf

/-- An index that no flushing point's block covers keeps output window 15's array contents at region entry. -/
theorem entry15 (c : Dev nD) (i : S3x6480x768.Idx) (h : ∀ t : Fin cfg0.N, (cfg0.win 15).flush t = true → i ∉ ((cfg0.win 15).blk t).view.set) :
    (dats m 0 c).arrAt 15 cfg0.N i = V m c (Pipeline.arrRef spec0 15) i := by
  rw [(dats m 0 c).arrAt_apply_of_forall_not_mem 15 cfg0.N i (fun t _ hf => h t hf), A_eq]

/-- WHAT POINT `t` WRITES BACK to output window 16's array: the body's result for that window (`Gen.out0_16`: its stores
    as pieces over the input windows' blocks), read through the window's block. -/
theorem flushed16 (c : Dev nD) (t : Fin cfg0.N) :
    (dats m 0 c).flushed 16 t = (cfg0.win 16).cut (grid0.coords t) (out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  show (cfg0.win 16).cut (grid0.coords t) ((dats m 0 c).after 16 t) = _
  rw [after0_16]

/-- The index map sends distinct grid points to distinct block indices (decided over the 1 point). -/
theorem idx_inj16 : ∀ t t' : Fin cfg0.N, win0_16.index t = win0_16.index t' → t = t' :=
  (by decide +kernel : ∀ t t' : Fin grid0.N, win0_16.index t = win0_16.index t' → t = t')

/-- So two flushing points' blocks share no array index (Lib/Pipeline/Cells.lean `Window.disjoint_blk`). -/
theorem disjoint16 : ∀ t t' : Fin cfg0.N, (cfg0.win 16).flush t = true → (cfg0.win 16).flush t' = true → t ≠ t' →
    Disjoint ((cfg0.win 16).blk t).view.set ((cfg0.win 16).blk t').view.set :=
  fun t t' _ _ hne => (cfg0.win 16).disjoint_blk fun h => hne (idx_inj16 t t' h)

/-- BLOCK `t` OF THE FINAL ARRAY, read back through the window, is what point `t` wrote back (`flushed16`), for every
    point that writes back: no other point's block meets it. -/
theorem blocks16 (c : Dev nD) (t : Fin cfg0.N) (hf : (cfg0.win 16).flush t = true) :
    ((cfg0.win 16).blk t).view.read (Elt F) ((dats m 0 c).arrAt 16 cfg0.N) = (dats m 0 c).flushed 16 t :=
  (dats m 0 c).read_blk_arrAt_eq_flushed 16 disjoint16 cfg0.N t t.isLt hf

/-- An index that no flushing point's block covers keeps output window 16's array contents at region entry. -/
theorem entry16 (c : Dev nD) (i : S3x1x6480.Idx) (h : ∀ t : Fin cfg0.N, (cfg0.win 16).flush t = true → i ∉ ((cfg0.win 16).blk t).view.set) :
    (dats m 0 c).arrAt 16 cfg0.N i = V m c (Pipeline.arrRef spec0 16) i := by
  rw [(dats m 0 c).arrAt_apply_of_forall_not_mem 16 cfg0.N i (fun t _ hf => h t hf), A_eq]

/-- WHAT POINT `t` WRITES BACK to output window 17's array: the body's result for that window (`Gen.out0_17`: its stores
    as pieces over the input windows' blocks), read through the window's block. -/
theorem flushed17 (c : Dev nD) (t : Fin cfg0.N) :
    (dats m 0 c).flushed 17 t = (cfg0.win 17).cut (grid0.coords t) (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  show (cfg0.win 17).cut (grid0.coords t) ((dats m 0 c).after 17 t) = _
  rw [after0_17]

/-- The index map sends distinct grid points to distinct block indices (decided over the 1 point). -/
theorem idx_inj17 : ∀ t t' : Fin cfg0.N, win0_17.index t = win0_17.index t' → t = t' :=
  (by decide +kernel : ∀ t t' : Fin grid0.N, win0_17.index t = win0_17.index t' → t = t')

/-- So two flushing points' blocks share no array index (Lib/Pipeline/Cells.lean `Window.disjoint_blk`). -/
theorem disjoint17 : ∀ t t' : Fin cfg0.N, (cfg0.win 17).flush t = true → (cfg0.win 17).flush t' = true → t ≠ t' →
    Disjoint ((cfg0.win 17).blk t).view.set ((cfg0.win 17).blk t').view.set :=
  fun t t' _ _ hne => (cfg0.win 17).disjoint_blk fun h => hne (idx_inj17 t t' h)

/-- BLOCK `t` OF THE FINAL ARRAY, read back through the window, is what point `t` wrote back (`flushed17`), for every
    point that writes back: no other point's block meets it. -/
theorem blocks17 (c : Dev nD) (t : Fin cfg0.N) (hf : (cfg0.win 17).flush t = true) :
    ((cfg0.win 17).blk t).view.read (Elt F) ((dats m 0 c).arrAt 17 cfg0.N) = (dats m 0 c).flushed 17 t :=
  (dats m 0 c).read_blk_arrAt_eq_flushed 17 disjoint17 cfg0.N t t.isLt hf

/-- An index that no flushing point's block covers keeps output window 17's array contents at region entry. -/
theorem entry17 (c : Dev nD) (i : S3x6480x3072.Idx) (h : ∀ t : Fin cfg0.N, (cfg0.win 17).flush t = true → i ∉ ((cfg0.win 17).blk t).view.set) :
    (dats m 0 c).arrAt 17 cfg0.N i = V m c (Pipeline.arrRef spec0 17) i := by
  rw [(dats m 0 c).arrAt_apply_of_forall_not_mem 17 cfg0.N i (fun t _ hf => h t hf), A_eq]

/-- WHAT POINT `t` WRITES BACK to output window 18's array: the body's result for that window (`Gen.out0_18`: its stores
    as pieces over the input windows' blocks), read through the window's block. -/
theorem flushed18 (c : Dev nD) (t : Fin cfg0.N) :
    (dats m 0 c).flushed 18 t = (cfg0.win 18).cut (grid0.coords t) (out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  show (cfg0.win 18).cut (grid0.coords t) ((dats m 0 c).after 18 t) = _
  rw [after0_18]

/-- The index map sends distinct grid points to distinct block indices (decided over the 1 point). -/
theorem idx_inj18 : ∀ t t' : Fin cfg0.N, win0_18.index t = win0_18.index t' → t = t' :=
  (by decide +kernel : ∀ t t' : Fin grid0.N, win0_18.index t = win0_18.index t' → t = t')

/-- So two flushing points' blocks share no array index (Lib/Pipeline/Cells.lean `Window.disjoint_blk`). -/
theorem disjoint18 : ∀ t t' : Fin cfg0.N, (cfg0.win 18).flush t = true → (cfg0.win 18).flush t' = true → t ≠ t' →
    Disjoint ((cfg0.win 18).blk t).view.set ((cfg0.win 18).blk t').view.set :=
  fun t t' _ _ hne => (cfg0.win 18).disjoint_blk fun h => hne (idx_inj18 t t' h)

/-- BLOCK `t` OF THE FINAL ARRAY, read back through the window, is what point `t` wrote back (`flushed18`), for every
    point that writes back: no other point's block meets it. -/
theorem blocks18 (c : Dev nD) (t : Fin cfg0.N) (hf : (cfg0.win 18).flush t = true) :
    ((cfg0.win 18).blk t).view.read (Elt F) ((dats m 0 c).arrAt 18 cfg0.N) = (dats m 0 c).flushed 18 t :=
  (dats m 0 c).read_blk_arrAt_eq_flushed 18 disjoint18 cfg0.N t t.isLt hf

/-- An index that no flushing point's block covers keeps output window 18's array contents at region entry. -/
theorem entry18 (c : Dev nD) (i : S3x1x6480.Idx) (h : ∀ t : Fin cfg0.N, (cfg0.win 18).flush t = true → i ∉ ((cfg0.win 18).blk t).view.set) :
    (dats m 0 c).arrAt 18 cfg0.N i = V m c (Pipeline.arrRef spec0 18) i := by
  rw [(dats m 0 c).arrAt_apply_of_forall_not_mem 18 cfg0.N i (fun t _ hf => h t hf), A_eq]

/-- WHAT POINT `t` WRITES BACK to output window 19's array: the body's result for that window (`Gen.out0_19`: its stores
    as pieces over the input windows' blocks), read through the window's block. -/
theorem flushed19 (c : Dev nD) (t : Fin cfg0.N) :
    (dats m 0 c).flushed 19 t = (cfg0.win 19).cut (grid0.coords t) (out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  show (cfg0.win 19).cut (grid0.coords t) ((dats m 0 c).after 19 t) = _
  rw [after0_19]

/-- The index map sends distinct grid points to distinct block indices (decided over the 1 point). -/
theorem idx_inj19 : ∀ t t' : Fin cfg0.N, win0_19.index t = win0_19.index t' → t = t' :=
  (by decide +kernel : ∀ t t' : Fin grid0.N, win0_19.index t = win0_19.index t' → t = t')

/-- So two flushing points' blocks share no array index (Lib/Pipeline/Cells.lean `Window.disjoint_blk`). -/
theorem disjoint19 : ∀ t t' : Fin cfg0.N, (cfg0.win 19).flush t = true → (cfg0.win 19).flush t' = true → t ≠ t' →
    Disjoint ((cfg0.win 19).blk t).view.set ((cfg0.win 19).blk t').view.set :=
  fun t t' _ _ hne => (cfg0.win 19).disjoint_blk fun h => hne (idx_inj19 t t' h)

/-- BLOCK `t` OF THE FINAL ARRAY, read back through the window, is what point `t` wrote back (`flushed19`), for every
    point that writes back: no other point's block meets it. -/
theorem blocks19 (c : Dev nD) (t : Fin cfg0.N) (hf : (cfg0.win 19).flush t = true) :
    ((cfg0.win 19).blk t).view.read (Elt F) ((dats m 0 c).arrAt 19 cfg0.N) = (dats m 0 c).flushed 19 t :=
  (dats m 0 c).read_blk_arrAt_eq_flushed 19 disjoint19 cfg0.N t t.isLt hf

/-- An index that no flushing point's block covers keeps output window 19's array contents at region entry. -/
theorem entry19 (c : Dev nD) (i : S3x6480x2048.Idx) (h : ∀ t : Fin cfg0.N, (cfg0.win 19).flush t = true → i ∉ ((cfg0.win 19).blk t).view.set) :
    (dats m 0 c).arrAt 19 cfg0.N i = V m c (Pipeline.arrRef spec0 19) i := by
  rw [(dats m 0 c).arrAt_apply_of_forall_not_mem 19 cfg0.N i (fun t _ hf => h t hf), A_eq]

/-- WHAT POINT `t` WRITES BACK to output window 20's array: the body's result for that window (`Gen.out0_20`: its stores
    as pieces over the input windows' blocks), read through the window's block. -/
theorem flushed20 (c : Dev nD) (t : Fin cfg0.N) :
    (dats m 0 c).flushed 20 t = (cfg0.win 20).cut (grid0.coords t) (out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  show (cfg0.win 20).cut (grid0.coords t) ((dats m 0 c).after 20 t) = _
  rw [after0_20]

/-- The index map sends distinct grid points to distinct block indices (decided over the 1 point). -/
theorem idx_inj20 : ∀ t t' : Fin cfg0.N, win0_20.index t = win0_20.index t' → t = t' :=
  (by decide +kernel : ∀ t t' : Fin grid0.N, win0_20.index t = win0_20.index t' → t = t')

/-- So two flushing points' blocks share no array index (Lib/Pipeline/Cells.lean `Window.disjoint_blk`). -/
theorem disjoint20 : ∀ t t' : Fin cfg0.N, (cfg0.win 20).flush t = true → (cfg0.win 20).flush t' = true → t ≠ t' →
    Disjoint ((cfg0.win 20).blk t).view.set ((cfg0.win 20).blk t').view.set :=
  fun t t' _ _ hne => (cfg0.win 20).disjoint_blk fun h => hne (idx_inj20 t t' h)

/-- BLOCK `t` OF THE FINAL ARRAY, read back through the window, is what point `t` wrote back (`flushed20`), for every
    point that writes back: no other point's block meets it. -/
theorem blocks20 (c : Dev nD) (t : Fin cfg0.N) (hf : (cfg0.win 20).flush t = true) :
    ((cfg0.win 20).blk t).view.read (Elt F) ((dats m 0 c).arrAt 20 cfg0.N) = (dats m 0 c).flushed 20 t :=
  (dats m 0 c).read_blk_arrAt_eq_flushed 20 disjoint20 cfg0.N t t.isLt hf

/-- An index that no flushing point's block covers keeps output window 20's array contents at region entry. -/
theorem entry20 (c : Dev nD) (i : S3x1x6480.Idx) (h : ∀ t : Fin cfg0.N, (cfg0.win 20).flush t = true → i ∉ ((cfg0.win 20).blk t).view.set) :
    (dats m 0 c).arrAt 20 cfg0.N i = V m c (Pipeline.arrRef spec0 20) i := by
  rw [(dats m 0 c).arrAt_apply_of_forall_not_mem 20 cfg0.N i (fun t _ hf => h t hf), A_eq]

/-- WHAT POINT `t` WRITES BACK to output window 21's array: the body's result for that window (`Gen.out0_21`: its stores
    as pieces over the input windows' blocks), read through the window's block. -/
theorem flushed21 (c : Dev nD) (t : Fin cfg0.N) :
    (dats m 0 c).flushed 21 t = (cfg0.win 21).cut (grid0.coords t) (out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  show (cfg0.win 21).cut (grid0.coords t) ((dats m 0 c).after 21 t) = _
  rw [after0_21]

/-- The index map sends distinct grid points to distinct block indices (decided over the 1 point). -/
theorem idx_inj21 : ∀ t t' : Fin cfg0.N, win0_21.index t = win0_21.index t' → t = t' :=
  (by decide +kernel : ∀ t t' : Fin grid0.N, win0_21.index t = win0_21.index t' → t = t')

/-- So two flushing points' blocks share no array index (Lib/Pipeline/Cells.lean `Window.disjoint_blk`). -/
theorem disjoint21 : ∀ t t' : Fin cfg0.N, (cfg0.win 21).flush t = true → (cfg0.win 21).flush t' = true → t ≠ t' →
    Disjoint ((cfg0.win 21).blk t).view.set ((cfg0.win 21).blk t').view.set :=
  fun t t' _ _ hne => (cfg0.win 21).disjoint_blk fun h => hne (idx_inj21 t t' h)

/-- BLOCK `t` OF THE FINAL ARRAY, read back through the window, is what point `t` wrote back (`flushed21`), for every
    point that writes back: no other point's block meets it. -/
theorem blocks21 (c : Dev nD) (t : Fin cfg0.N) (hf : (cfg0.win 21).flush t = true) :
    ((cfg0.win 21).blk t).view.read (Elt F) ((dats m 0 c).arrAt 21 cfg0.N) = (dats m 0 c).flushed 21 t :=
  (dats m 0 c).read_blk_arrAt_eq_flushed 21 disjoint21 cfg0.N t t.isLt hf

/-- An index that no flushing point's block covers keeps output window 21's array contents at region entry. -/
theorem entry21 (c : Dev nD) (i : S3x6480x3072.Idx) (h : ∀ t : Fin cfg0.N, (cfg0.win 21).flush t = true → i ∉ ((cfg0.win 21).blk t).view.set) :
    (dats m 0 c).arrAt 21 cfg0.N i = V m c (Pipeline.arrRef spec0 21) i := by
  rw [(dats m 0 c).arrAt_apply_of_forall_not_mem 21 cfg0.N i (fun t _ hf => h t hf), A_eq]

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v20_0) = (dats m 0 c).arrAt 14 cfg0.N :=
  (h c).1 14

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v20_1) = (dats m 0 c).arrAt 15 cfg0.N :=
  (h c).1 15

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v20_2) = (dats m 0 c).arrAt 16 cfg0.N :=
  (h c).1 16

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v20_3) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v20_4) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v20_5) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v20_6) = (dats m 0 c).arrAt 20 cfg0.N :=
  (h c).1 20

/-- After the frame run, output window 21's array is `(dats m 0 c).arrAt 21 N`. -/
theorem post21 (r : PUnit × MemSt nD τ sig (Elt F)) (h : Pipeline.FramePost cfgs (dats m) 0 (V m) r) (c : Dev nD) :
    r.2.mem ((c : Thread nD τ).loc main_v20_7) = (dats m 0 c).arrAt 21 cfg0.N :=
  (h c).1 21

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 6 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 6).trans (((dats m 0 c).arrAt_in 6 rfl _).trans ((A_eq m c 6).trans (V_main_arg3 m c)))

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: input window 8 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 8).trans (((dats m 0 c).arrAt_in 8 rfl _).trans ((A_eq m c 8).trans (V_main_arg5 m c)))

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: input window 10 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 10).trans (((dats m 0 c).arrAt_in 10 rfl _).trans ((A_eq m c 10).trans (V_main_arg7 m c)))

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: input window 12 stages it and never writes it back. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 12).trans (((dats m 0 c).arrAt_in 12 rfl _).trans ((A_eq m c 12).trans (V_main_arg9 m c)))

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v20_0) = (dats m 0 c).arrAt 14 cfg0.N
      ∧ r.2.mem ((c : Thread nD τ).loc main_v20_1) = (dats m 0 c).arrAt 15 cfg0.N
      ∧ r.2.mem ((c : Thread nD τ).loc main_v20_2) = (dats m 0 c).arrAt 16 cfg0.N
      ∧ r.2.mem ((c : Thread nD τ).loc main_v20_3) = (dats m 0 c).arrAt 17 cfg0.N
      ∧ r.2.mem ((c : Thread nD τ).loc main_v20_4) = (dats m 0 c).arrAt 18 cfg0.N
      ∧ r.2.mem ((c : Thread nD τ).loc main_v20_5) = (dats m 0 c).arrAt 19 cfg0.N
      ∧ r.2.mem ((c : Thread nD τ).loc main_v20_6) = (dats m 0 c).arrAt 20 cfg0.N
      ∧ r.2.mem ((c : Thread nD τ).loc main_v20_7) = (dats m 0 c).arrAt 21 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨post14 m r h c,
      post15 m r h c,
      post16 m r h c,
      post17 m r h c,
      post18 m r h c,
      post19 m r h c,
      post20 m r h c,
      post21 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c⟩)
    (run_main m ρ)

end Cert.ReferenceIdeal.Value

end
-- ==== Proof.ReferenceTokens.lean ====
/-
  The reference's body, a token at a time: each of its values on a row of tokens is the layer's.
-/
module

public import proofs.«01_k».proof.Proof.Gen.ReferenceIdeal.Skeleton
public import proofs.«01_k».proof.Proof.RowSpec
public import Idealize.ShloMosaic.Lib.Pointwise

@[expose] public section

set_option maxRecDepth 16384
set_option maxHeartbeats 400000

noncomputable section

namespace Cert.ReferenceIdeal.Value

open Cert.ReferenceIdeal Cert.ReferenceIdeal.Gen
open Idealize.ShloMosaic
open Cert.RowSpec

/-! ### A row's scale and codes -/

theorem scaled_apply (v : FVec Ideal S19440x1 .f32) (i : Fin 19440) :
    (select (cmpf .oeq v (broadcast S19440x1 (Scalar.ofBits .f32 0x00000000#32))) (broadcast S19440x1 (Scalar.ofBits .f32 0x3F800000#32))
      (divf v (broadcast S19440x1 (Scalar.ofBits .f32 0x43E00000#32))) : FVec Ideal S19440x1 .f32) (ix2 i 0) = scaleOf (v (ix2 i 0)) := by
  pointwise
  rfl

theorem amax768 (v : FVec Ideal S19440x768 .f32) (i : Fin 19440) :
    (shapeCast S19440x1 (multiReduction .maximumf [1] S19440 (absf v) 0xFF800000#32 reduces_S19440x768_S19440 (.inl rfl) rfl : FVec Ideal S19440 .f32)
      shapeCasts_S19440_S19440x1 : FVec Ideal S19440x1 .f32) (ix2 i 0) = amax fun j => v (ix2 i j) := by
  pointwise
  rfl

theorem amax3072 (v : FVec Ideal S19440x3072 .f32) (i : Fin 19440) :
    (shapeCast S19440x1 (multiReduction .maximumf [1] S19440 (absf v) 0xFF800000#32 reduces_S19440x3072_S19440 (.inl rfl) rfl : FVec Ideal S19440 .f32)
      shapeCasts_S19440_S19440x1 : FVec Ideal S19440x1 .f32) (ix2 i 0) = amax fun j => v (ix2 i j) := by
  pointwise
  rfl

theorem amax2048 (v : FVec Ideal S19440x2048 .f32) (i : Fin 19440) :
    (shapeCast S19440x1 (multiReduction .maximumf [1] S19440 (absf v) 0xFF800000#32 reduces_S19440x2048_S19440 (.inl rfl) rfl : FVec Ideal S19440 .f32)
      shapeCasts_S19440_S19440x1 : FVec Ideal S19440x1 .f32) (ix2 i 0) = amax fun j => v (ix2 i j) := by
  pointwise
  rfl

theorem codes768 (v : FVec Ideal S19440x768 .f32) (s : FVec Ideal S19440x1 .f32) (i : Fin 19440) (j : Fin 768) :
    (truncf .fp8e4m3 (minimumf (broadcast S19440x768 (Scalar.ofBits .f32 0x43E00000#32)) (maximumf (broadcast S19440x768 (Scalar.ofBits .f32 0xC3E00000#32))
      (divf v (broadcastTo S19440x768 s broadcasts_S19440x1_S19440x768 : FVec Ideal S19440x768 .f32)))) bitsLt_fp8e4m3_f32 : FVec Ideal S19440x768 .fp8e4m3) (ix2 i j)
      = clamp (Ideal.div (v (ix2 i j)) (s (ix2 i 0))) := by
  pointwise
  rfl

theorem codes3072 (v : FVec Ideal S19440x3072 .f32) (s : FVec Ideal S19440x1 .f32) (i : Fin 19440) (j : Fin 3072) :
    (truncf .fp8e4m3 (minimumf (broadcast S19440x3072 (Scalar.ofBits .f32 0x43E00000#32)) (maximumf (broadcast S19440x3072 (Scalar.ofBits .f32 0xC3E00000#32))
      (divf v (broadcastTo S19440x3072 s broadcasts_S19440x1_S19440x3072 : FVec Ideal S19440x3072 .f32)))) bitsLt_fp8e4m3_f32 : FVec Ideal S19440x3072 .fp8e4m3) (ix2 i j)
      = clamp (Ideal.div (v (ix2 i j)) (s (ix2 i 0))) := by
  pointwise
  rfl

theorem codes2048 (v : FVec Ideal S19440x2048 .f32) (s : FVec Ideal S19440x1 .f32) (i : Fin 19440) (j : Fin 2048) :
    (truncf .fp8e4m3 (minimumf (broadcast S19440x2048 (Scalar.ofBits .f32 0x43E00000#32)) (maximumf (broadcast S19440x2048 (Scalar.ofBits .f32 0xC3E00000#32))
      (divf v (broadcastTo S19440x2048 s broadcasts_S19440x1_S19440x2048 : FVec Ideal S19440x2048 .f32)))) bitsLt_fp8e4m3_f32 : FVec Ideal S19440x2048 .fp8e4m3) (ix2 i j)
      = clamp (Ideal.div (v (ix2 i j)) (s (ix2 i 0))) := by
  pointwise
  rfl

/-! ### The linear maps -/

theorem lin_att (q : FVec Ideal S19440x768 .fp8e4m3) (w : FVec Ideal S768x3072 .fp8e4m3) (d : FVec Ideal S19440x1 .f32) (s : FVec Ideal S1x3072 .f32)
    (i : Fin 19440) (j : Fin 3072) :
    (mulf (mulf (matmul dot_S19440x768_S768x3072_S19440x3072_1_0_0_1_n_n none q w (constant S19440x3072 .f32 0x00000000#32))
      (broadcastTo S19440x3072 d broadcasts_S19440x1_S19440x3072 : FVec Ideal S19440x3072 .f32))
      (broadcastTo S19440x3072 s broadcasts_S1x3072_S19440x3072 : FVec Ideal S19440x3072 .f32) : FVec Ideal S19440x3072 .f32) (ix2 i j)
      = ((∑ k : Fin 768, (q (ix2 i k) : EReal) * w (ix2 k j)) * d (ix2 i 0) * s (ix2 0 j) : EReal) := by
  pointwise

theorem lin_x (q : FVec Ideal S19440x3072 .fp8e4m3) (w : FVec Ideal S3072x2048 .fp8e4m3) (d : FVec Ideal S19440x1 .f32) (s : FVec Ideal S1x2048 .f32)
    (i : Fin 19440) (j : Fin 2048) :
    (mulf (mulf (matmul dot_S19440x3072_S3072x2048_S19440x2048_1_0_0_1_n_n none q w (constant S19440x2048 .f32 0x00000000#32))
      (broadcastTo S19440x2048 d broadcasts_S19440x1_S19440x2048 : FVec Ideal S19440x2048 .f32))
      (broadcastTo S19440x2048 s broadcasts_S1x2048_S19440x2048 : FVec Ideal S19440x2048 .f32) : FVec Ideal S19440x2048 .f32) (ix2 i j)
      = ((∑ k : Fin 3072, (q (ix2 i k) : EReal) * w (ix2 k j)) * d (ix2 i 0) * s (ix2 0 j) : EReal) := by
  pointwise

theorem lin_h (q : FVec Ideal S19440x2048 .fp8e4m3) (w : FVec Ideal S2048x3072 .fp8e4m3) (d : FVec Ideal S19440x1 .f32) (s : FVec Ideal S1x3072 .f32)
    (i : Fin 19440) (j : Fin 3072) :
    (mulf (mulf (matmul dot_S19440x2048_S2048x3072_S19440x3072_1_0_0_1_n_n none q w (constant S19440x3072 .f32 0x00000000#32))
      (broadcastTo S19440x3072 d broadcasts_S19440x1_S19440x3072 : FVec Ideal S19440x3072 .f32))
      (broadcastTo S19440x3072 s broadcasts_S1x3072_S19440x3072 : FVec Ideal S19440x3072 .f32) : FVec Ideal S19440x3072 .f32) (ix2 i j)
      = ((∑ k : Fin 2048, (q (ix2 i k) : EReal) * w (ix2 k j)) * d (ix2 i 0) * s (ix2 0 j) : EReal) := by
  pointwise

theorem same768 (v : FVec Ideal S19440x768 .f32) : (shapeCast S19440x768 v shapeCasts_S19440x768_S19440x768 : FVec Ideal S19440x768 .f32) = v :=
  shapeCast_self v _
theorem same3072 (v : FVec Ideal S19440x3072 .f32) : (shapeCast S19440x3072 v shapeCasts_S19440x3072_S19440x3072 : FVec Ideal S19440x3072 .f32) = v :=
  shapeCast_self v _
theorem same3072b (v : FVec Ideal S19440x3072 .bf16) : (shapeCast S19440x3072 v shapeCasts_S19440x3072_S19440x3072 : FVec Ideal S19440x3072 .bf16) = v :=
  shapeCast_self v _
theorem sameRow3072 (v : FVec Ideal S1x3072 .f32) : (shapeCast S1x3072 v shapeCasts_S1x3072_S1x3072 : FVec Ideal S1x3072 .f32) = v :=
  shapeCast_self v _
theorem sameRow2048 (v : FVec Ideal S1x2048 .f32) : (shapeCast S1x2048 v shapeCasts_S1x2048_S1x2048 : FVec Ideal S1x2048 .f32) = v :=
  shapeCast_self v _

/-! ### The values, row by row -/

section
variable (x0 : FVec Ideal S19440x768 .f32) (x1 : FVec Ideal S19440x3072 .bf16) (x2 x3 x4 x5 : FVec Ideal S19440x3072 .f32)
  (x6 : FVec Ideal S768x3072 .fp8e4m3) (x7 : FVec Ideal S1x3072 .f32) (x8 : FVec Ideal S3072x2048 .fp8e4m3) (x9 : FVec Ideal S1x2048 .f32)
  (x10 : FVec Ideal S3072x2048 .fp8e4m3) (x11 : FVec Ideal S1x2048 .f32) (x12 : FVec Ideal S2048x3072 .fp8e4m3) (x13 : FVec Ideal S1x3072 .f32)
  (i : Fin 19440)

theorem pay8_apply : k0_pay8 (F := Ideal) x0 (ix2 i 0) = scale fun d => x0 (ix2 i d) := by
  unfold k0_pay8 k0_pay7
  dsimp only
  rw [same768]
  exact (scaled_apply _ i).trans (congrArg scaleOf (amax768 x0 i))

theorem pay9_apply (d : Fin 768) : k0_pay9 (F := Ideal) x0 (ix2 i d) = codes (fun d => x0 (ix2 i d)) d := by
  unfold k0_pay9 k0_pay7
  dsimp only
  rw [same768]
  exact (codes768 x0 (k0_pay8 x0) i d).trans (congrArg (fun s => clamp (Ideal.div (x0 (ix2 i d)) s)) (pay8_apply x0 i))

theorem pay10_apply (j : Fin 3072) : k0_pay10 (F := Ideal) x0 x1 x2 x6 x7 (ix2 i j)
    = resid (fun d => x0 (ix2 i d)) (fun j => x1 (ix2 i j)) (fun j => x2 (ix2 i j)) (fun k j => x6 (ix2 k j)) (fun j => x7 (ix2 (0 : Fin 1) j)) j := by
  unfold k0_pay10 resid lin
  dsimp only
  rw [same3072, same3072b, sameRow3072]
  refine congrArg (fun z : EReal => (x1 (ix2 i j) : EReal) + (x2 (ix2 i j) : EReal) * z)
    ((lin_att (k0_pay9 x0) x6 (k0_pay8 x0) x7 i j).trans ?_)
  rw [pay8_apply, Finset.sum_congr rfl fun k _ => congrArg (fun z : EReal => z * (x6 (ix2 k j) : EReal)) (pay9_apply x0 i k)]

end

section
variable (y s c q : FVec Ideal S19440x3072 .f32) (i : Fin 19440)

theorem norm_apply (j : Fin 3072) : k0_pay14 (F := Ideal) y s c q (ix2 i j)
    = (Ideal.div (y (ix2 i j)) (Ideal.sqrt (Ideal.div (∑ k : Fin 3072, (q (ix2 i k) : EReal)) width + eps)) * (1 + c (ix2 i j)) + s (ix2 i j) : EReal) := by
  pointwise [k0_pay14]
  rfl

theorem pay14_apply (hq : ∀ k : Fin 3072, q (ix2 i k) = (y (ix2 i k) * y (ix2 i k) : EReal)) (j : Fin 3072) : k0_pay14 (F := Ideal) y s c q (ix2 i j)
    = normed (fun j => y (ix2 i j)) (fun j => s (ix2 i j)) (fun j => c (ix2 i j)) j := by
  rw [norm_apply, Finset.sum_congr rfl fun k _ => hq k]
  rfl

theorem pay15_apply : k0_pay15 (F := Ideal) y s c q (ix2 i 0) = scale fun j => k0_pay14 y s c q (ix2 i j) := by
  unfold k0_pay15
  exact (scaled_apply _ i).trans (congrArg scaleOf (amax3072 _ i))

theorem pay16_apply (j : Fin 3072) : k0_pay16 (F := Ideal) y s c q (ix2 i j) = codes (fun j => k0_pay14 y s c q (ix2 i j)) j := by
  unfold k0_pay16
  exact (codes3072 _ (k0_pay15 y s c q) i j).trans (congrArg (fun s' => clamp (Ideal.div (k0_pay14 y s c q (ix2 i j)) s')) (pay15_apply y s c q i))

theorem pay17_apply (w : FVec Ideal S3072x2048 .fp8e4m3) (v : FVec Ideal S1x2048 .f32) (j : Fin 2048) : k0_pay17 (F := Ideal) y s c q w v (ix2 i j)
    = lin (fun j => k0_pay14 y s c q (ix2 i j)) (fun k => w (ix2 k j)) (v (ix2 (0 : Fin 1) j)) := by
  unfold k0_pay17 lin
  dsimp only
  rw [sameRow2048]
  refine (lin_x (k0_pay16 y s c q) w (k0_pay15 y s c q) v i j).trans ?_
  rw [pay15_apply, Finset.sum_congr rfl fun k _ => congrArg (fun z : EReal => z * (w (ix2 k j) : EReal)) (pay16_apply y s c q i k)]

theorem gate_apply (d : FVec Ideal S19440x1 .f32) (g : FVec Ideal S19440x2048 .f32) (v : FVec Ideal S1x2048 .f32) (q' : FVec Ideal S19440x3072 .fp8e4m3)
    (w : FVec Ideal S3072x2048 .fp8e4m3) (j : Fin 2048) :
    (mulf (mulf g (logistic g)) (mulf (mulf (matmul dot_S19440x3072_S3072x2048_S19440x2048_1_0_0_1_n_n none q' w (constant S19440x2048 .f32 0x00000000#32))
      (broadcastTo S19440x2048 d broadcasts_S19440x1_S19440x2048 : FVec Ideal S19440x2048 .f32))
      (broadcastTo S19440x2048 v broadcasts_S1x2048_S19440x2048 : FVec Ideal S19440x2048 .f32)) : FVec Ideal S19440x2048 .f32) (ix2 i j)
      = (g (ix2 i j) * Ideal.logistic (g (ix2 i j)) * ((∑ k : Fin 3072, (q' (ix2 i k) : EReal) * w (ix2 k j)) * d (ix2 i 0) * v (ix2 0 j)) : EReal) :=
  congrArg (fun z : EReal => ((g (ix2 i j) : EReal) * Ideal.logistic (g (ix2 i j)) : EReal) * z) (lin_x q' w d v i j)

theorem pay20_apply (w w' : FVec Ideal S3072x2048 .fp8e4m3) (v v' : FVec Ideal S1x2048 .f32) (j : Fin 2048) :
    k0_pay20 (F := Ideal) (k0_pay15 y s c q) (k0_pay17 y s c q w v) (k0_pay18 v') (k0_pay19 y s c q w') (ix2 i j)
    = RowSpec.hidden (fun j => k0_pay14 y s c q (ix2 i j)) (fun k j => w (ix2 k j)) (fun k j => w' (ix2 k j)) (fun j => v (ix2 (0 : Fin 1) j))
      (fun j => v' (ix2 (0 : Fin 1) j)) j := by
  unfold k0_pay20 k0_pay18 k0_pay19 RowSpec.hidden
  dsimp only
  rw [sameRow2048]
  refine (gate_apply i (k0_pay15 y s c q) (k0_pay17 y s c q w v) v' (k0_pay16 y s c q) w' j).trans ?_
  rw [pay17_apply, pay15_apply, Finset.sum_congr rfl fun k _ => congrArg (fun z : EReal => z * (w' (ix2 k j) : EReal)) (pay16_apply y s c q i k)]
  rfl

end

section
variable (d : FVec Ideal S19440x1 .f32) (g : FVec Ideal S19440x2048 .f32) (v : FVec Ideal S1x2048 .f32) (p : FVec Ideal S19440x2048 .f32)
  (i : Fin 19440)

theorem pay21_apply : k0_pay21 (F := Ideal) d g v p (ix2 i 0) = scale fun j => k0_pay20 d g v p (ix2 i j) := by
  unfold k0_pay21
  exact (scaled_apply _ i).trans (congrArg scaleOf (amax2048 _ i))

theorem pay22_apply (j : Fin 2048) : k0_pay22 (F := Ideal) d g v p (ix2 i j) = codes (fun j => k0_pay20 d g v p (ix2 i j)) j := by
  unfold k0_pay22
  exact (codes2048 _ (k0_pay21 d g v p) i j).trans (congrArg (fun s' => clamp (Ideal.div (k0_pay20 d g v p (ix2 i j)) s')) (pay21_apply d g v p i))

theorem pay23_apply (y x : FVec Ideal S19440x3072 .f32) (w : FVec Ideal S2048x3072 .fp8e4m3) (s : FVec Ideal S1x3072 .f32) (j : Fin 3072) :
    k0_pay23 (F := Ideal) y d g v p x w s (ix2 i j) = result (fun j => y (ix2 i j)) (fun j => x (ix2 i j)) (fun j => k0_pay20 d g v p (ix2 i j))
      (fun k j => w (ix2 k j)) (fun j => s (ix2 (0 : Fin 1) j)) j := by
  unfold k0_pay23 result lin
  dsimp only
  rw [same3072, sameRow3072]
  refine congrArg (fun z : EReal => (y (ix2 i j) : EReal) + (x (ix2 i j) : EReal) * z)
    ((lin_h (k0_pay22 d g v p) w (k0_pay21 d g v p) s i j).trans ?_)
  rw [pay21_apply, Finset.sum_congr rfl fun k _ => congrArg (fun z : EReal => z * (w (ix2 k j) : EReal)) (pay22_apply d g v p i k)]

end

/-! ### Rows by batch and token -/

/-- Token `t` of batch `b`, counted through. -/
def tok (b : Fin 3) (t : Fin 6480) : Fin 19440 := ⟨b.val * 6480 + t.val, by omega⟩

section
variable (b : Fin 3) (t : Fin 6480)

theorem tok_div (h : (tok b t).val / 6480 < 3) : (⟨(tok b t).val / 6480, h⟩ : Fin 3) = b := by
  refine Fin.ext ?_
  show (b.val * 6480 + t.val) / 6480 = b.val
  omega
theorem tok_mod (h : (tok b t).val % 6480 < 6480) : (⟨(tok b t).val % 6480, h⟩ : Fin 6480) = t := by
  refine Fin.ext ?_
  show (b.val * 6480 + t.val) % 6480 = t.val
  omega

theorem pay1_apply (v : FVec Ideal S19440x1 .f32) : k0_pay1 (F := Ideal) v (ix3 b 0 t) = v (ix2 (tok b t) 0) := by
  pointwise [k0_pay1]
  rfl
theorem pay3_apply (v : FVec Ideal S19440x1 .f32) : k0_pay3 (F := Ideal) v (ix3 b 0 t) = v (ix2 (tok b t) 0) := by
  pointwise [k0_pay3]
  rfl
theorem pay5_apply (v : FVec Ideal S19440x1 .f32) : k0_pay5 (F := Ideal) v (ix3 b 0 t) = v (ix2 (tok b t) 0) := by
  pointwise [k0_pay5]
  rfl
theorem pay2_apply (v : FVec Ideal S19440x3072 .fp8e4m3) (j : Fin 3072) : k0_pay2 (F := Ideal) v (ix3 b t j) = v (ix2 (tok b t) j) := by
  pointwise [k0_pay2]
  rfl
theorem pay4_apply (v : FVec Ideal S19440x2048 .fp8e4m3) (j : Fin 2048) : k0_pay4 (F := Ideal) v (ix3 b t j) = v (ix2 (tok b t) j) := by
  pointwise [k0_pay4]
  rfl
theorem pay6_apply (v : FVec Ideal S19440x3072 .f32) (j : Fin 3072) : k0_pay6 (F := Ideal) v (ix3 b t j) = v (ix2 (tok b t) j) := by
  pointwise [k0_pay6]
  rfl
theorem pay24_apply (v : FVec Ideal S19440x768 .f32) (d : Fin 768) : k0_pay24 (F := Ideal) v (ix3 b t d) = v (ix2 (tok b t) d) := by
  pointwise [k0_pay24]
  rfl
theorem pay25_apply (v : FVec Ideal S19440x768 .fp8e4m3) (d : Fin 768) : k0_pay25 (F := Ideal) v (ix3 b t d) = v (ix2 (tok b t) d) := by
  pointwise [k0_pay25]
  rfl

/-! ### The arrays before the call -/

theorem rows_att (v : FVec Ideal S3x6x6480x128 .f32) (d : Fin 768) :
    (shapeCast S19440x768 (shapeCast S3x6480x768 (transpose S3x6480x6x128 [0, 2, 1, 3] v transposes_S3x6x6480x128_S3x6480x6x128_0_2_1_3 : FVec Ideal S3x6480x6x128 .f32)
      shapeCasts_S3x6480x6x128_S3x6480x768 : FVec Ideal S3x6480x768 .f32) shapeCasts_S3x6480x768_S19440x768 : FVec Ideal S19440x768 .f32) (ix2 (tok b t) d)
      = v (ix4 b (⟨d / 128, by omega⟩ : Fin 6) t (⟨d % 128, by omega⟩ : Fin 128)) := by
  pointwise
  rw [tok_div, tok_mod]

theorem rows_x (v : FVec Ideal S3x6480x3072 .bf16) (j : Fin 3072) :
    (shapeCast S19440x3072 v shapeCasts_S3x6480x3072_S19440x3072 : FVec Ideal S19440x3072 .bf16) (ix2 (tok b t) j) = v (ix3 b t j) := by
  pointwise
  rw [tok_div, tok_mod]

theorem rows_spread (v : FVec Ideal S3x1x3072 .f32) (j : Fin 3072) :
    (shapeCast S19440x3072 (broadcastInDim S3x6480x3072 ![0, 1, 2] bcast_S3x1x3072_S3x6480x3072_0_1_2 v : FVec Ideal S3x6480x3072 .f32)
      shapeCasts_S3x6480x3072_S19440x3072 : FVec Ideal S19440x3072 .f32) (ix2 (tok b t) j) = v (ix3 b 0 j) := by
  pointwise
  rw [tok_div]

theorem slice_2 (v : FVec Ideal S3x6x3072 .f32) (j : Fin 3072) :
    (extractStridedSlice S3x1x3072 ![0, 2, 0] v slices_S3x6x3072_S3x1x3072_0_2_0 : FVec Ideal S3x1x3072 .f32) (ix3 b 0 j) = v (ix3 b (2 : Fin 6) j) := by
  pointwise
theorem slice_3 (v : FVec Ideal S3x6x3072 .f32) (j : Fin 3072) :
    (extractStridedSlice S3x1x3072 ![0, 3, 0] v slices_S3x6x3072_S3x1x3072_0_3_0 : FVec Ideal S3x1x3072 .f32) (ix3 b 0 j) = v (ix3 b (3 : Fin 6) j) := by
  pointwise
theorem slice_4 (v : FVec Ideal S3x6x3072 .f32) (j : Fin 3072) :
    (extractStridedSlice S3x1x3072 ![0, 4, 0] v slices_S3x6x3072_S3x1x3072_0_4_0 : FVec Ideal S3x1x3072 .f32) (ix3 b 0 j) = v (ix3 b (4 : Fin 6) j) := by
  pointwise
theorem slice_5 (v : FVec Ideal S3x6x3072 .f32) (j : Fin 3072) :
    (extractStridedSlice S3x1x3072 ![0, 5, 0] v slices_S3x6x3072_S3x1x3072_0_5_0 : FVec Ideal S3x1x3072 .f32) (ix3 b 0 j) = v (ix3 b (5 : Fin 6) j) := by
  pointwise

theorem row_3072 (v : FVec Ideal S3072 .f32) (j : Fin 3072) :
    (broadcastInDim S1x3072 ![1] bcast_S3072_S1x3072_1 v : FVec Ideal S1x3072 .f32) (ix2 (0 : Fin 1) j) = v (ix1 j) := by
  pointwise
theorem row_2048 (v : FVec Ideal S2048 .f32) (j : Fin 2048) :
    (broadcastInDim S1x2048 ![1] bcast_S2048_S1x2048_1 v : FVec Ideal S1x2048 .f32) (ix2 (0 : Fin 1) j) = v (ix1 j) := by
  pointwise

end

end Cert.ReferenceIdeal.Value

end
-- ==== Proof.ReferenceValue.lean ====
/-
  The reference with its values: its results hold the layer's values of the arguments.
-/
module

public import proofs.«01_k».proof.Proof.ReferenceRun
public import proofs.«01_k».proof.Proof.ReferenceTokens
public import proofs.«01_k».proof.Proof.TokenSpec
public import Idealize.ShloMosaic.Lib.Claim
public import Idealize.ShloMosaic.Lib.Pipeline.ValueKit.Geometry

@[expose] public section

set_option maxRecDepth 16384
set_option maxHeartbeats 1000000

noncomputable section

namespace Cert.ReferenceIdeal.Value

open Cert.ReferenceIdeal Cert.ReferenceIdeal.Gen
open Idealize.ShloMosaic Idealize.ShloMosaic.TcCoe Idealize.SL.Sem
open Idealize.ShloMosaic.Pipeline (Dat)
open Cert.RowSpec

variable (m : (ℓ : Loc nD τ sig) → Buf (Elt Ideal) ℓ) (ρ : Dev nD → PrngReg)

/-- The arguments, by batch and token. -/
def inputs (c : Dev nD) : Inputs where
  att b h t d := m ((c : Thread nD τ).loc main_arg0) (ix4 b h t d)
  x b t d := m ((c : Thread nD τ).loc main_arg1) (ix3 b t d)
  mod b q d := m ((c : Thread nD τ).loc main_arg2) (ix3 b q d)
  wo k j := m ((c : Thread nD τ).loc main_arg3) (ix2 k j)
  so j := m ((c : Thread nD τ).loc main_arg4) (ix1 j)
  w1 k j := m ((c : Thread nD τ).loc main_arg5) (ix2 k j)
  s1 j := m ((c : Thread nD τ).loc main_arg6) (ix1 j)
  w3 k j := m ((c : Thread nD τ).loc main_arg7) (ix2 k j)
  s3 j := m ((c : Thread nD τ).loc main_arg8) (ix1 j)
  w2 k j := m ((c : Thread nD τ).loc main_arg9) (ix2 k j)
  s2 j := m ((c : Thread nD τ).loc main_arg10) (ix1 j)

/-! ### What the call is given -/

section
variable (c : Dev nD) (b : Fin 3) (t : Fin 6480)

theorem in_att (d : Fin 768) : V m c main_v2 (ix2 (tok b t) d) = (inputs m c).attRow b t d := by
  entry_read
  exact rows_att b t (m ((c : Thread nD τ).loc main_arg0)) d
theorem in_x (j : Fin 3072) : V m c main_v3 (ix2 (tok b t) j) = (inputs m c).x b t j := by
  entry_read
  exact rows_x b t (m ((c : Thread nD τ).loc main_arg1)) j
theorem in_mod_2 (j : Fin 3072) : V m c main_v6 (ix2 (tok b t) j) = (inputs m c).mod b 2 j := by
  entry_read
  exact (rows_spread b t _ j).trans (slice_2 b (m ((c : Thread nD τ).loc main_arg2)) j)
theorem in_mod_3 (j : Fin 3072) : V m c main_v9 (ix2 (tok b t) j) = (inputs m c).mod b 3 j := by
  entry_read
  exact (rows_spread b t _ j).trans (slice_3 b (m ((c : Thread nD τ).loc main_arg2)) j)
theorem in_mod_4 (j : Fin 3072) : V m c main_v12 (ix2 (tok b t) j) = (inputs m c).mod b 4 j := by
  entry_read
  exact (rows_spread b t _ j).trans (slice_4 b (m ((c : Thread nD τ).loc main_arg2)) j)
theorem in_mod_5 (j : Fin 3072) : V m c main_v15 (ix2 (tok b t) j) = (inputs m c).mod b 5 j := by
  entry_read
  exact (rows_spread b t _ j).trans (slice_5 b (m ((c : Thread nD τ).loc main_arg2)) j)
theorem in_so (j : Fin 3072) : V m c main_v16 (ix2 (0 : Fin 1) j) = (inputs m c).so j := by
  entry_read
  exact row_3072 (m ((c : Thread nD τ).loc main_arg4)) j
theorem in_s1 (j : Fin 2048) : V m c main_v17 (ix2 (0 : Fin 1) j) = (inputs m c).s1 j := by
  entry_read
  exact row_2048 (m ((c : Thread nD τ).loc main_arg6)) j
theorem in_s3 (j : Fin 2048) : V m c main_v18 (ix2 (0 : Fin 1) j) = (inputs m c).s3 j := by
  entry_read
  exact row_2048 (m ((c : Thread nD τ).loc main_arg8)) j
theorem in_s2 (j : Fin 3072) : V m c main_v19 (ix2 (0 : Fin 1) j) = (inputs m c).s2 j := by
  entry_read
  exact row_3072 (m ((c : Thread nD τ).loc main_arg10)) j
theorem in_wo (k : Fin 768) (j : Fin 3072) : V m c main_arg3 (ix2 k j) = (inputs m c).wo k j := by
  rw [V_main_arg3]
  rfl
theorem in_w1 (k : Fin 3072) (j : Fin 2048) : V m c main_arg5 (ix2 k j) = (inputs m c).w1 k j := by
  rw [V_main_arg5]
  rfl
theorem in_w3 (k : Fin 3072) (j : Fin 2048) : V m c main_arg7 (ix2 k j) = (inputs m c).w3 k j := by
  rw [V_main_arg7]
  rfl
theorem in_w2 (k : Fin 2048) (j : Fin 3072) : V m c main_arg9 (ix2 k j) = (inputs m c).w2 k j := by
  rw [V_main_arg9]
  rfl

/-! ### The values of a token -/

theorem tok_att : (fun d : Fin 768 => V m c main_v2 (ix2 (tok b t) d)) = (inputs m c).attRow b t := funext fun d => in_att m c b t d

theorem tok_scale : k0_pay8 (F := Ideal) (V m c main_v2) (ix2 (tok b t) 0) = scale ((inputs m c).attRow b t) :=
  (pay8_apply _ _).trans (congrArg scale (tok_att m c b t))

theorem tok_codes (d : Fin 768) : k0_pay9 (F := Ideal) (V m c main_v2) (ix2 (tok b t) d) = codes ((inputs m c).attRow b t) d :=
  (pay9_apply _ _ d).trans (congrArg (fun v => codes v d) (tok_att m c b t))

theorem tok_res (j : Fin 3072) : k0_pay10 (F := Ideal) (V m c main_v2) (V m c main_v3) (V m c main_v6) (V m c main_arg3) (V m c main_v16) (ix2 (tok b t) j) = (inputs m c).res b t j := by
  refine (pay10_apply _ _ _ _ _ _ j).trans ?_
  unfold Inputs.res
  rw [tok_att, show (fun j : Fin 3072 => V m c main_v3 (ix2 (tok b t) j)) = (inputs m c).x b t from funext fun j => in_x m c b t j,
    show (fun j : Fin 3072 => V m c main_v6 (ix2 (tok b t) j)) = (inputs m c).mod b 2 from funext fun j => in_mod_2 m c b t j,
    show (fun (k : Fin 768) (j : Fin 3072) => V m c main_arg3 (ix2 k j)) = (inputs m c).wo from funext fun k => funext fun j => in_wo m c k j,
    show (fun j : Fin 3072 => V m c main_v16 (ix2 (0 : Fin 1) j)) = (inputs m c).so from funext fun j => in_so m c j]

/-- The residual of every token. -/
def yArr : FVec Ideal S19440x3072 .f32 := k0_pay10 (F := Ideal) (V m c main_v2) (V m c main_v3) (V m c main_v6) (V m c main_arg3) (V m c main_v16)
/-- Its squares. -/
def qArr : FVec Ideal S19440x3072 .f32 := k0_pay13 (F := Ideal) (V m c main_v2) (V m c main_v3) (V m c main_v6) (V m c main_arg3) (V m c main_v16)

theorem yArr_apply (j : Fin 3072) : yArr m c (ix2 (tok b t) j) = (inputs m c).res b t j := tok_res m c b t j

theorem qArr_apply (i : Fin 19440) (j : Fin 3072) : qArr m c (ix2 i j) = (yArr m c (ix2 i j) * yArr m c (ix2 i j) : EReal) := rfl

theorem tok_norm : (fun j : Fin 3072 => k0_pay14 (F := Ideal) (yArr m c) (V m c main_v9) (V m c main_v12) (qArr m c) (ix2 (tok b t) j)) = (inputs m c).norm b t := by
  funext j
  refine (pay14_apply (yArr m c) _ _ (qArr m c) (tok b t) (fun k => qArr_apply m c (tok b t) k) j).trans ?_
  unfold Inputs.norm
  rw [show (fun j : Fin 3072 => yArr m c (ix2 (tok b t) j)) = (inputs m c).res b t from funext fun j => yArr_apply m c b t j,
    show (fun j : Fin 3072 => V m c main_v9 (ix2 (tok b t) j)) = (inputs m c).mod b 3 from funext fun j => in_mod_3 m c b t j,
    show (fun j : Fin 3072 => V m c main_v12 (ix2 (tok b t) j)) = (inputs m c).mod b 4 from funext fun j => in_mod_4 m c b t j]

/-- The scales of the normed rows. -/
def dArr : FVec Ideal S19440x1 .f32 := k0_pay15 (F := Ideal) (yArr m c) (V m c main_v9) (V m c main_v12) (qArr m c)
/-- The first linear map of the hidden layer. -/
def gArr : FVec Ideal S19440x2048 .f32 := k0_pay17 (F := Ideal) (yArr m c) (V m c main_v9) (V m c main_v12) (qArr m c) (V m c main_arg5) (V m c main_v17)
/-- The second's scale. -/
def uArr : FVec Ideal S1x2048 .f32 := k0_pay18 (F := Ideal) (V m c main_v18)
/-- The second's sums. -/
def pArr : FVec Ideal S19440x2048 .f32 := k0_pay19 (F := Ideal) (yArr m c) (V m c main_v9) (V m c main_v12) (qArr m c) (V m c main_arg7)

theorem dArr_apply : dArr m c (ix2 (tok b t) 0) = scale ((inputs m c).norm b t) :=
  (pay15_apply (yArr m c) _ _ (qArr m c) (tok b t)).trans (congrArg scale (tok_norm m c b t))

theorem tok_normCodes (j : Fin 3072) : k0_pay16 (F := Ideal) (yArr m c) (V m c main_v9) (V m c main_v12) (qArr m c) (ix2 (tok b t) j) = codes ((inputs m c).norm b t) j :=
  (pay16_apply (yArr m c) _ _ (qArr m c) (tok b t) j).trans (congrArg (fun v => codes v j) (tok_norm m c b t))

theorem tok_hid : (fun j : Fin 2048 => k0_pay20 (F := Ideal) (dArr m c) (gArr m c) (uArr m c) (pArr m c) (ix2 (tok b t) j)) = (inputs m c).hid b t := by
  funext j
  refine (pay20_apply (yArr m c) _ _ (qArr m c) (tok b t) _ _ _ _ j).trans ?_
  unfold Inputs.hid
  rw [tok_norm, show (fun (k : Fin 3072) (j : Fin 2048) => V m c main_arg5 (ix2 k j)) = (inputs m c).w1 from funext fun k => funext fun j => in_w1 m c k j,
    show (fun (k : Fin 3072) (j : Fin 2048) => V m c main_arg7 (ix2 k j)) = (inputs m c).w3 from funext fun k => funext fun j => in_w3 m c k j,
    show (fun j : Fin 2048 => V m c main_v17 (ix2 (0 : Fin 1) j)) = (inputs m c).s1 from funext fun j => in_s1 m c j,
    show (fun j : Fin 2048 => V m c main_v18 (ix2 (0 : Fin 1) j)) = (inputs m c).s3 from funext fun j => in_s3 m c j]

theorem tok_hidScale : k0_pay21 (F := Ideal) (dArr m c) (gArr m c) (uArr m c) (pArr m c) (ix2 (tok b t) 0) = scale ((inputs m c).hid b t) :=
  (pay21_apply (dArr m c) (gArr m c) (uArr m c) (pArr m c) (tok b t)).trans (congrArg scale (tok_hid m c b t))

theorem tok_hidCodes (j : Fin 2048) : k0_pay22 (F := Ideal) (dArr m c) (gArr m c) (uArr m c) (pArr m c) (ix2 (tok b t) j) = codes ((inputs m c).hid b t) j :=
  (pay22_apply (dArr m c) (gArr m c) (uArr m c) (pArr m c) (tok b t) j).trans (congrArg (fun v => codes v j) (tok_hid m c b t))

theorem tok_out (j : Fin 3072) : k0_pay23 (F := Ideal) (yArr m c) (dArr m c) (gArr m c) (uArr m c) (pArr m c) (V m c main_v15) (V m c main_arg9) (V m c main_v19) (ix2 (tok b t) j)
    = (inputs m c).out b t j := by
  refine (pay23_apply (dArr m c) (gArr m c) (uArr m c) (pArr m c) (tok b t) (yArr m c) _ _ _ j).trans ?_
  unfold Inputs.out
  rw [show (fun j : Fin 3072 => yArr m c (ix2 (tok b t) j)) = (inputs m c).res b t from funext fun j => yArr_apply m c b t j, tok_hid,
    show (fun j : Fin 3072 => V m c main_v15 (ix2 (tok b t) j)) = (inputs m c).mod b 5 from funext fun j => in_mod_5 m c b t j,
    show (fun (k : Fin 2048) (j : Fin 3072) => V m c main_arg9 (ix2 k j)) = (inputs m c).w2 from funext fun k => funext fun j => in_w2 m c k j,
    show (fun j : Fin 3072 => V m c main_v19 (ix2 (0 : Fin 1) j)) = (inputs m c).s2 from funext fun j => in_s2 m c j]

end

/-! ### The blocks are the whole arrays -/

theorem index_0 : ∀ (t : Fin cfg0.N) (a : Fin 2), win0_0.index t a = 0 :=
  (by decide +kernel : ∀ (t : Fin grid0.N) (a : Fin 2), win0_0.index t a = 0)
theorem emb_0 (t : Fin cfg0.N) (j : S19440x768.Idx) : ((cfg0.win 0).blk t).view.emb j = j := by
  have e := index_0 t
  funext a; apply Fin.ext
  match a with
  | ⟨0, _⟩ => show win0_0.index t (0 : Fin 2) * 19440 + 1 * (j 0).val = (j 0).val; have := e 0; omega
  | ⟨1, _⟩ => show win0_0.index t (1 : Fin 2) * 768 + 1 * (j 1).val = (j 1).val; have := e 1; omega
theorem block_0 (c : Dev nD) (t : Fin cfg0.N) : iblk m c 0 t = V m c main_v2 := by
  funext j; show V m c main_v2 (((cfg0.win 0).blk t).view.emb j) = V m c main_v2 j; rw [emb_0]
theorem index_1 : ∀ (t : Fin cfg0.N) (a : Fin 2), win0_1.index t a = 0 :=
  (by decide +kernel : ∀ (t : Fin grid0.N) (a : Fin 2), win0_1.index t a = 0)
theorem emb_1 (t : Fin cfg0.N) (j : S19440x3072.Idx) : ((cfg0.win 1).blk t).view.emb j = j := by
  have e := index_1 t
  funext a; apply Fin.ext
  match a with
  | ⟨0, _⟩ => show win0_1.index t (0 : Fin 2) * 19440 + 1 * (j 0).val = (j 0).val; have := e 0; omega
  | ⟨1, _⟩ => show win0_1.index t (1 : Fin 2) * 3072 + 1 * (j 1).val = (j 1).val; have := e 1; omega
theorem block_1 (c : Dev nD) (t : Fin cfg0.N) : iblk m c 1 t = V m c main_v3 := by
  funext j; show V m c main_v3 (((cfg0.win 1).blk t).view.emb j) = V m c main_v3 j; rw [emb_1]
theorem index_2 : ∀ (t : Fin cfg0.N) (a : Fin 2), win0_2.index t a = 0 :=
  (by decide +kernel : ∀ (t : Fin grid0.N) (a : Fin 2), win0_2.index t a = 0)
theorem emb_2 (t : Fin cfg0.N) (j : S19440x3072.Idx) : ((cfg0.win 2).blk t).view.emb j = j := by
  have e := index_2 t
  funext a; apply Fin.ext
  match a with
  | ⟨0, _⟩ => show win0_2.index t (0 : Fin 2) * 19440 + 1 * (j 0).val = (j 0).val; have := e 0; omega
  | ⟨1, _⟩ => show win0_2.index t (1 : Fin 2) * 3072 + 1 * (j 1).val = (j 1).val; have := e 1; omega
theorem block_2 (c : Dev nD) (t : Fin cfg0.N) : iblk m c 2 t = V m c main_v6 := by
  funext j; show V m c main_v6 (((cfg0.win 2).blk t).view.emb j) = V m c main_v6 j; rw [emb_2]
theorem index_3 : ∀ (t : Fin cfg0.N) (a : Fin 2), win0_3.index t a = 0 :=
  (by decide +kernel : ∀ (t : Fin grid0.N) (a : Fin 2), win0_3.index t a = 0)
theorem emb_3 (t : Fin cfg0.N) (j : S19440x3072.Idx) : ((cfg0.win 3).blk t).view.emb j = j := by
  have e := index_3 t
  funext a; apply Fin.ext
  match a with
  | ⟨0, _⟩ => show win0_3.index t (0 : Fin 2) * 19440 + 1 * (j 0).val = (j 0).val; have := e 0; omega
  | ⟨1, _⟩ => show win0_3.index t (1 : Fin 2) * 3072 + 1 * (j 1).val = (j 1).val; have := e 1; omega
theorem block_3 (c : Dev nD) (t : Fin cfg0.N) : iblk m c 3 t = V m c main_v9 := by
  funext j; show V m c main_v9 (((cfg0.win 3).blk t).view.emb j) = V m c main_v9 j; rw [emb_3]
theorem index_4 : ∀ (t : Fin cfg0.N) (a : Fin 2), win0_4.index t a = 0 :=
  (by decide +kernel : ∀ (t : Fin grid0.N) (a : Fin 2), win0_4.index t a = 0)
theorem emb_4 (t : Fin cfg0.N) (j : S19440x3072.Idx) : ((cfg0.win 4).blk t).view.emb j = j := by
  have e := index_4 t
  funext a; apply Fin.ext
  match a with
  | ⟨0, _⟩ => show win0_4.index t (0 : Fin 2) * 19440 + 1 * (j 0).val = (j 0).val; have := e 0; omega
  | ⟨1, _⟩ => show win0_4.index t (1 : Fin 2) * 3072 + 1 * (j 1).val = (j 1).val; have := e 1; omega
theorem block_4 (c : Dev nD) (t : Fin cfg0.N) : iblk m c 4 t = V m c main_v12 := by
  funext j; show V m c main_v12 (((cfg0.win 4).blk t).view.emb j) = V m c main_v12 j; rw [emb_4]
theorem index_5 : ∀ (t : Fin cfg0.N) (a : Fin 2), win0_5.index t a = 0 :=
  (by decide +kernel : ∀ (t : Fin grid0.N) (a : Fin 2), win0_5.index t a = 0)
theorem emb_5 (t : Fin cfg0.N) (j : S19440x3072.Idx) : ((cfg0.win 5).blk t).view.emb j = j := by
  have e := index_5 t
  funext a; apply Fin.ext
  match a with
  | ⟨0, _⟩ => show win0_5.index t (0 : Fin 2) * 19440 + 1 * (j 0).val = (j 0).val; have := e 0; omega
  | ⟨1, _⟩ => show win0_5.index t (1 : Fin 2) * 3072 + 1 * (j 1).val = (j 1).val; have := e 1; omega
theorem block_5 (c : Dev nD) (t : Fin cfg0.N) : iblk m c 5 t = V m c main_v15 := by
  funext j; show V m c main_v15 (((cfg0.win 5).blk t).view.emb j) = V m c main_v15 j; rw [emb_5]
theorem index_6 : ∀ (t : Fin cfg0.N) (a : Fin 2), win0_6.index t a = 0 :=
  (by decide +kernel : ∀ (t : Fin grid0.N) (a : Fin 2), win0_6.index t a = 0)
theorem emb_6 (t : Fin cfg0.N) (j : S768x3072.Idx) : ((cfg0.win 6).blk t).view.emb j = j := by
  have e := index_6 t
  funext a; apply Fin.ext
  match a with
  | ⟨0, _⟩ => show win0_6.index t (0 : Fin 2) * 768 + 1 * (j 0).val = (j 0).val; have := e 0; omega
  | ⟨1, _⟩ => show win0_6.index t (1 : Fin 2) * 3072 + 1 * (j 1).val = (j 1).val; have := e 1; omega
theorem block_6 (c : Dev nD) (t : Fin cfg0.N) : iblk m c 6 t = V m c main_arg3 := by
  funext j; show V m c main_arg3 (((cfg0.win 6).blk t).view.emb j) = V m c main_arg3 j; rw [emb_6]
theorem index_7 : ∀ (t : Fin cfg0.N) (a : Fin 2), win0_7.index t a = 0 :=
  (by decide +kernel : ∀ (t : Fin grid0.N) (a : Fin 2), win0_7.index t a = 0)
theorem emb_7 (t : Fin cfg0.N) (j : S1x3072.Idx) : ((cfg0.win 7).blk t).view.emb j = j := by
  have e := index_7 t
  funext a; apply Fin.ext
  match a with
  | ⟨0, _⟩ => show win0_7.index t (0 : Fin 2) * 1 + 1 * (j 0).val = (j 0).val; have := e 0; omega
  | ⟨1, _⟩ => show win0_7.index t (1 : Fin 2) * 3072 + 1 * (j 1).val = (j 1).val; have := e 1; omega
theorem block_7 (c : Dev nD) (t : Fin cfg0.N) : iblk m c 7 t = V m c main_v16 := by
  funext j; show V m c main_v16 (((cfg0.win 7).blk t).view.emb j) = V m c main_v16 j; rw [emb_7]
theorem index_8 : ∀ (t : Fin cfg0.N) (a : Fin 2), win0_8.index t a = 0 :=
  (by decide +kernel : ∀ (t : Fin grid0.N) (a : Fin 2), win0_8.index t a = 0)
theorem emb_8 (t : Fin cfg0.N) (j : S3072x2048.Idx) : ((cfg0.win 8).blk t).view.emb j = j := by
  have e := index_8 t
  funext a; apply Fin.ext
  match a with
  | ⟨0, _⟩ => show win0_8.index t (0 : Fin 2) * 3072 + 1 * (j 0).val = (j 0).val; have := e 0; omega
  | ⟨1, _⟩ => show win0_8.index t (1 : Fin 2) * 2048 + 1 * (j 1).val = (j 1).val; have := e 1; omega
theorem block_8 (c : Dev nD) (t : Fin cfg0.N) : iblk m c 8 t = V m c main_arg5 := by
  funext j; show V m c main_arg5 (((cfg0.win 8).blk t).view.emb j) = V m c main_arg5 j; rw [emb_8]
theorem index_9 : ∀ (t : Fin cfg0.N) (a : Fin 2), win0_9.index t a = 0 :=
  (by decide +kernel : ∀ (t : Fin grid0.N) (a : Fin 2), win0_9.index t a = 0)
theorem emb_9 (t : Fin cfg0.N) (j : S1x2048.Idx) : ((cfg0.win 9).blk t).view.emb j = j := by
  have e := index_9 t
  funext a; apply Fin.ext
  match a with
  | ⟨0, _⟩ => show win0_9.index t (0 : Fin 2) * 1 + 1 * (j 0).val = (j 0).val; have := e 0; omega
  | ⟨1, _⟩ => show win0_9.index t (1 : Fin 2) * 2048 + 1 * (j 1).val = (j 1).val; have := e 1; omega
theorem block_9 (c : Dev nD) (t : Fin cfg0.N) : iblk m c 9 t = V m c main_v17 := by
  funext j; show V m c main_v17 (((cfg0.win 9).blk t).view.emb j) = V m c main_v17 j; rw [emb_9]
theorem index_10 : ∀ (t : Fin cfg0.N) (a : Fin 2), win0_10.index t a = 0 :=
  (by decide +kernel : ∀ (t : Fin grid0.N) (a : Fin 2), win0_10.index t a = 0)
theorem emb_10 (t : Fin cfg0.N) (j : S3072x2048.Idx) : ((cfg0.win 10).blk t).view.emb j = j := by
  have e := index_10 t
  funext a; apply Fin.ext
  match a with
  | ⟨0, _⟩ => show win0_10.index t (0 : Fin 2) * 3072 + 1 * (j 0).val = (j 0).val; have := e 0; omega
  | ⟨1, _⟩ => show win0_10.index t (1 : Fin 2) * 2048 + 1 * (j 1).val = (j 1).val; have := e 1; omega
theorem block_10 (c : Dev nD) (t : Fin cfg0.N) : iblk m c 10 t = V m c main_arg7 := by
  funext j; show V m c main_arg7 (((cfg0.win 10).blk t).view.emb j) = V m c main_arg7 j; rw [emb_10]
theorem index_11 : ∀ (t : Fin cfg0.N) (a : Fin 2), win0_11.index t a = 0 :=
  (by decide +kernel : ∀ (t : Fin grid0.N) (a : Fin 2), win0_11.index t a = 0)
theorem emb_11 (t : Fin cfg0.N) (j : S1x2048.Idx) : ((cfg0.win 11).blk t).view.emb j = j := by
  have e := index_11 t
  funext a; apply Fin.ext
  match a with
  | ⟨0, _⟩ => show win0_11.index t (0 : Fin 2) * 1 + 1 * (j 0).val = (j 0).val; have := e 0; omega
  | ⟨1, _⟩ => show win0_11.index t (1 : Fin 2) * 2048 + 1 * (j 1).val = (j 1).val; have := e 1; omega
theorem block_11 (c : Dev nD) (t : Fin cfg0.N) : iblk m c 11 t = V m c main_v18 := by
  funext j; show V m c main_v18 (((cfg0.win 11).blk t).view.emb j) = V m c main_v18 j; rw [emb_11]
theorem index_12 : ∀ (t : Fin cfg0.N) (a : Fin 2), win0_12.index t a = 0 :=
  (by decide +kernel : ∀ (t : Fin grid0.N) (a : Fin 2), win0_12.index t a = 0)
theorem emb_12 (t : Fin cfg0.N) (j : S2048x3072.Idx) : ((cfg0.win 12).blk t).view.emb j = j := by
  have e := index_12 t
  funext a; apply Fin.ext
  match a with
  | ⟨0, _⟩ => show win0_12.index t (0 : Fin 2) * 2048 + 1 * (j 0).val = (j 0).val; have := e 0; omega
  | ⟨1, _⟩ => show win0_12.index t (1 : Fin 2) * 3072 + 1 * (j 1).val = (j 1).val; have := e 1; omega
theorem block_12 (c : Dev nD) (t : Fin cfg0.N) : iblk m c 12 t = V m c main_arg9 := by
  funext j; show V m c main_arg9 (((cfg0.win 12).blk t).view.emb j) = V m c main_arg9 j; rw [emb_12]
theorem index_13 : ∀ (t : Fin cfg0.N) (a : Fin 2), win0_13.index t a = 0 :=
  (by decide +kernel : ∀ (t : Fin grid0.N) (a : Fin 2), win0_13.index t a = 0)
theorem emb_13 (t : Fin cfg0.N) (j : S1x3072.Idx) : ((cfg0.win 13).blk t).view.emb j = j := by
  have e := index_13 t
  funext a; apply Fin.ext
  match a with
  | ⟨0, _⟩ => show win0_13.index t (0 : Fin 2) * 1 + 1 * (j 0).val = (j 0).val; have := e 0; omega
  | ⟨1, _⟩ => show win0_13.index t (1 : Fin 2) * 3072 + 1 * (j 1).val = (j 1).val; have := e 1; omega
theorem block_13 (c : Dev nD) (t : Fin cfg0.N) : iblk m c 13 t = V m c main_v19 := by
  funext j; show V m c main_v19 (((cfg0.win 13).blk t).view.emb j) = V m c main_v19 j; rw [emb_13]
theorem index_14 : ∀ (t : Fin cfg0.N) (a : Fin 3), win0_14.index t a = 0 :=
  (by decide +kernel : ∀ (t : Fin grid0.N) (a : Fin 3), win0_14.index t a = 0)
theorem emb_14 (t : Fin cfg0.N) (j : S3x6480x768.Idx) : ((cfg0.win 14).blk t).view.emb j = j := by
  have e := index_14 t
  funext a; apply Fin.ext
  match a with
  | ⟨0, _⟩ => show win0_14.index t (0 : Fin 3) * 3 + 1 * (j 0).val = (j 0).val; have := e 0; omega
  | ⟨1, _⟩ => show win0_14.index t (1 : Fin 3) * 6480 + 1 * (j 1).val = (j 1).val; have := e 1; omega
  | ⟨2, _⟩ => show win0_14.index t (2 : Fin 3) * 768 + 1 * (j 2).val = (j 2).val; have := e 2; omega
theorem index_15 : ∀ (t : Fin cfg0.N) (a : Fin 3), win0_15.index t a = 0 :=
  (by decide +kernel : ∀ (t : Fin grid0.N) (a : Fin 3), win0_15.index t a = 0)
theorem emb_15 (t : Fin cfg0.N) (j : S3x6480x768.Idx) : ((cfg0.win 15).blk t).view.emb j = j := by
  have e := index_15 t
  funext a; apply Fin.ext
  match a with
  | ⟨0, _⟩ => show win0_15.index t (0 : Fin 3) * 3 + 1 * (j 0).val = (j 0).val; have := e 0; omega
  | ⟨1, _⟩ => show win0_15.index t (1 : Fin 3) * 6480 + 1 * (j 1).val = (j 1).val; have := e 1; omega
  | ⟨2, _⟩ => show win0_15.index t (2 : Fin 3) * 768 + 1 * (j 2).val = (j 2).val; have := e 2; omega
theorem index_16 : ∀ (t : Fin cfg0.N) (a : Fin 3), win0_16.index t a = 0 :=
  (by decide +kernel : ∀ (t : Fin grid0.N) (a : Fin 3), win0_16.index t a = 0)
theorem emb_16 (t : Fin cfg0.N) (j : S3x1x6480.Idx) : ((cfg0.win 16).blk t).view.emb j = j := by
  have e := index_16 t
  funext a; apply Fin.ext
  match a with
  | ⟨0, _⟩ => show win0_16.index t (0 : Fin 3) * 3 + 1 * (j 0).val = (j 0).val; have := e 0; omega
  | ⟨1, _⟩ => show win0_16.index t (1 : Fin 3) * 1 + 1 * (j 1).val = (j 1).val; have := e 1; omega
  | ⟨2, _⟩ => show win0_16.index t (2 : Fin 3) * 6480 + 1 * (j 2).val = (j 2).val; have := e 2; omega
theorem index_17 : ∀ (t : Fin cfg0.N) (a : Fin 3), win0_17.index t a = 0 :=
  (by decide +kernel : ∀ (t : Fin grid0.N) (a : Fin 3), win0_17.index t a = 0)
theorem emb_17 (t : Fin cfg0.N) (j : S3x6480x3072.Idx) : ((cfg0.win 17).blk t).view.emb j = j := by
  have e := index_17 t
  funext a; apply Fin.ext
  match a with
  | ⟨0, _⟩ => show win0_17.index t (0 : Fin 3) * 3 + 1 * (j 0).val = (j 0).val; have := e 0; omega
  | ⟨1, _⟩ => show win0_17.index t (1 : Fin 3) * 6480 + 1 * (j 1).val = (j 1).val; have := e 1; omega
  | ⟨2, _⟩ => show win0_17.index t (2 : Fin 3) * 3072 + 1 * (j 2).val = (j 2).val; have := e 2; omega
theorem index_18 : ∀ (t : Fin cfg0.N) (a : Fin 3), win0_18.index t a = 0 :=
  (by decide +kernel : ∀ (t : Fin grid0.N) (a : Fin 3), win0_18.index t a = 0)
theorem emb_18 (t : Fin cfg0.N) (j : S3x1x6480.Idx) : ((cfg0.win 18).blk t).view.emb j = j := by
  have e := index_18 t
  funext a; apply Fin.ext
  match a with
  | ⟨0, _⟩ => show win0_18.index t (0 : Fin 3) * 3 + 1 * (j 0).val = (j 0).val; have := e 0; omega
  | ⟨1, _⟩ => show win0_18.index t (1 : Fin 3) * 1 + 1 * (j 1).val = (j 1).val; have := e 1; omega
  | ⟨2, _⟩ => show win0_18.index t (2 : Fin 3) * 6480 + 1 * (j 2).val = (j 2).val; have := e 2; omega
theorem index_19 : ∀ (t : Fin cfg0.N) (a : Fin 3), win0_19.index t a = 0 :=
  (by decide +kernel : ∀ (t : Fin grid0.N) (a : Fin 3), win0_19.index t a = 0)
theorem emb_19 (t : Fin cfg0.N) (j : S3x6480x2048.Idx) : ((cfg0.win 19).blk t).view.emb j = j := by
  have e := index_19 t
  funext a; apply Fin.ext
  match a with
  | ⟨0, _⟩ => show win0_19.index t (0 : Fin 3) * 3 + 1 * (j 0).val = (j 0).val; have := e 0; omega
  | ⟨1, _⟩ => show win0_19.index t (1 : Fin 3) * 6480 + 1 * (j 1).val = (j 1).val; have := e 1; omega
  | ⟨2, _⟩ => show win0_19.index t (2 : Fin 3) * 2048 + 1 * (j 2).val = (j 2).val; have := e 2; omega
theorem index_20 : ∀ (t : Fin cfg0.N) (a : Fin 3), win0_20.index t a = 0 :=
  (by decide +kernel : ∀ (t : Fin grid0.N) (a : Fin 3), win0_20.index t a = 0)
theorem emb_20 (t : Fin cfg0.N) (j : S3x1x6480.Idx) : ((cfg0.win 20).blk t).view.emb j = j := by
  have e := index_20 t
  funext a; apply Fin.ext
  match a with
  | ⟨0, _⟩ => show win0_20.index t (0 : Fin 3) * 3 + 1 * (j 0).val = (j 0).val; have := e 0; omega
  | ⟨1, _⟩ => show win0_20.index t (1 : Fin 3) * 1 + 1 * (j 1).val = (j 1).val; have := e 1; omega
  | ⟨2, _⟩ => show win0_20.index t (2 : Fin 3) * 6480 + 1 * (j 2).val = (j 2).val; have := e 2; omega
theorem index_21 : ∀ (t : Fin cfg0.N) (a : Fin 3), win0_21.index t a = 0 :=
  (by decide +kernel : ∀ (t : Fin grid0.N) (a : Fin 3), win0_21.index t a = 0)
theorem emb_21 (t : Fin cfg0.N) (j : S3x6480x3072.Idx) : ((cfg0.win 21).blk t).view.emb j = j := by
  have e := index_21 t
  funext a; apply Fin.ext
  match a with
  | ⟨0, _⟩ => show win0_21.index t (0 : Fin 3) * 3 + 1 * (j 0).val = (j 0).val; have := e 0; omega
  | ⟨1, _⟩ => show win0_21.index t (1 : Fin 3) * 6480 + 1 * (j 1).val = (j 1).val; have := e 1; omega
  | ⟨2, _⟩ => show win0_21.index t (2 : Fin 3) * 3072 + 1 * (j 2).val = (j 2).val; have := e 2; omega

theorem zero2 : (![0, 0] : Fin 2 → ℕ) = fun _ => 0 := by decide
theorem zero3 : (![0, 0, 0] : Fin 3 → ℕ) = fun _ => 0 := by decide

theorem ld_0 {e : EltTy} (X : S19440x768.Idx → Elt Ideal e) : View.ld X r0_0 = X := View.ld_unit_zero (S := S19440x768) zero2 _ X
theorem ld_1 {e : EltTy} (X : S19440x3072.Idx → Elt Ideal e) : View.ld X r0_1 = X := View.ld_unit_zero (S := S19440x3072) zero2 _ X
theorem ld_2 {e : EltTy} (X : S768x3072.Idx → Elt Ideal e) : View.ld X r0_2 = X := View.ld_unit_zero (S := S768x3072) zero2 _ X
theorem ld_3 {e : EltTy} (X : S1x3072.Idx → Elt Ideal e) : View.ld X r0_3 = X := View.ld_unit_zero (S := S1x3072) zero2 _ X
theorem ld_4 {e : EltTy} (X : S3072x2048.Idx → Elt Ideal e) : View.ld X r0_4 = X := View.ld_unit_zero (S := S3072x2048) zero2 _ X
theorem ld_5 {e : EltTy} (X : S1x2048.Idx → Elt Ideal e) : View.ld X r0_5 = X := View.ld_unit_zero (S := S1x2048) zero2 _ X
theorem ld_6 {e : EltTy} (X : S2048x3072.Idx → Elt Ideal e) : View.ld X r0_6 = X := View.ld_unit_zero (S := S2048x3072) zero2 _ X

section
variable (c : Dev nD)

theorem named_26 : k0_pay26 (F := Ideal) (V m c main_v2) (V m c main_v3) (V m c main_v6) (V m c main_v9) (V m c main_v12) (V m c main_v15) (V m c main_arg3) (V m c main_v16) (V m c main_arg5) (V m c main_v17) (V m c main_arg7) (V m c main_v18) (V m c main_arg9) (V m c main_v19) = yArr m c := by
  unfold k0_pay26 yArr
  rw [ld_0, ld_1, ld_1, ld_2, ld_3]
theorem named_27 : k0_pay27 (F := Ideal) (V m c main_v2) (V m c main_v3) (V m c main_v6) (V m c main_v9) (V m c main_v12) (V m c main_v15) (V m c main_arg3) (V m c main_v16) (V m c main_arg5) (V m c main_v17) (V m c main_arg7) (V m c main_v18) (V m c main_arg9) (V m c main_v19) = V m c main_v9 := by
  unfold k0_pay27 k0_pay11
  rw [ld_1]
  exact shapeCast_self _ _
theorem named_28 : k0_pay28 (F := Ideal) (V m c main_v2) (V m c main_v3) (V m c main_v6) (V m c main_v9) (V m c main_v12) (V m c main_v15) (V m c main_arg3) (V m c main_v16) (V m c main_arg5) (V m c main_v17) (V m c main_arg7) (V m c main_v18) (V m c main_arg9) (V m c main_v19) = V m c main_v12 := by
  unfold k0_pay28 k0_pay12
  rw [ld_1]
  exact shapeCast_self _ _
theorem named_29 : k0_pay29 (F := Ideal) (V m c main_v2) (V m c main_v3) (V m c main_v6) (V m c main_v9) (V m c main_v12) (V m c main_v15) (V m c main_arg3) (V m c main_v16) (V m c main_arg5) (V m c main_v17) (V m c main_arg7) (V m c main_v18) (V m c main_arg9) (V m c main_v19) = qArr m c := by
  unfold k0_pay29 qArr
  rw [ld_0, ld_1, ld_1, ld_2, ld_3]
theorem named_30 : k0_pay30 (F := Ideal) (V m c main_v2) (V m c main_v3) (V m c main_v6) (V m c main_v9) (V m c main_v12) (V m c main_v15) (V m c main_arg3) (V m c main_v16) (V m c main_arg5) (V m c main_v17) (V m c main_arg7) (V m c main_v18) (V m c main_arg9) (V m c main_v19) = dArr m c := by
  unfold k0_pay30 dArr
  rw [named_26, named_27, named_28, named_29]
theorem named_31 : k0_pay31 (F := Ideal) (V m c main_v2) (V m c main_v3) (V m c main_v6) (V m c main_v9) (V m c main_v12) (V m c main_v15) (V m c main_arg3) (V m c main_v16) (V m c main_arg5) (V m c main_v17) (V m c main_arg7) (V m c main_v18) (V m c main_arg9) (V m c main_v19) = gArr m c := by
  unfold k0_pay31 gArr
  rw [named_26, named_27, named_28, named_29, ld_4, ld_5]
theorem named_32 : k0_pay32 (F := Ideal) (V m c main_v2) (V m c main_v3) (V m c main_v6) (V m c main_v9) (V m c main_v12) (V m c main_v15) (V m c main_arg3) (V m c main_v16) (V m c main_arg5) (V m c main_v17) (V m c main_arg7) (V m c main_v18) (V m c main_arg9) (V m c main_v19) = uArr m c := by
  unfold k0_pay32 uArr
  rw [ld_5]
theorem named_33 : k0_pay33 (F := Ideal) (V m c main_v2) (V m c main_v3) (V m c main_v6) (V m c main_v9) (V m c main_v12) (V m c main_v15) (V m c main_arg3) (V m c main_v16) (V m c main_arg5) (V m c main_v17) (V m c main_arg7) (V m c main_v18) (V m c main_arg9) (V m c main_v19) = pArr m c := by
  unfold k0_pay33 pArr
  rw [named_26, named_27, named_28, named_29, ld_4]
theorem whole_14 : out0_14 (F := Ideal) (V m c main_v2) (V m c main_v3) (V m c main_v6) (V m c main_v9) (V m c main_v12) (V m c main_v15) (V m c main_arg3) (V m c main_v16) (V m c main_arg5) (V m c main_v17) (V m c main_arg7) (V m c main_v18) (V m c main_arg9) (V m c main_v19) = k0_pay24 (F := Ideal) (V m c main_v2) := by
  unfold out0_14
  rw [View.canon_cons_unit_zero zero3, ld_0]
theorem whole_15 : out0_15 (F := Ideal) (V m c main_v2) (V m c main_v3) (V m c main_v6) (V m c main_v9) (V m c main_v12) (V m c main_v15) (V m c main_arg3) (V m c main_v16) (V m c main_arg5) (V m c main_v17) (V m c main_arg7) (V m c main_v18) (V m c main_arg9) (V m c main_v19) = k0_pay25 (k0_pay9 (F := Ideal) (V m c main_v2)) := by
  unfold out0_15
  rw [View.canon_cons_unit_zero zero3, ld_0]
theorem whole_16 : out0_16 (F := Ideal) (V m c main_v2) (V m c main_v3) (V m c main_v6) (V m c main_v9) (V m c main_v12) (V m c main_v15) (V m c main_arg3) (V m c main_v16) (V m c main_arg5) (V m c main_v17) (V m c main_arg7) (V m c main_v18) (V m c main_arg9) (V m c main_v19) = k0_pay1 (k0_pay8 (F := Ideal) (V m c main_v2)) := by
  unfold out0_16
  rw [View.canon_cons_unit_zero zero3, ld_0]
theorem whole_17 : out0_17 (F := Ideal) (V m c main_v2) (V m c main_v3) (V m c main_v6) (V m c main_v9) (V m c main_v12) (V m c main_v15) (V m c main_arg3) (V m c main_v16) (V m c main_arg5) (V m c main_v17) (V m c main_arg7) (V m c main_v18) (V m c main_arg9) (V m c main_v19) = k0_pay2 (k0_pay16 (F := Ideal) (yArr m c) (V m c main_v9) (V m c main_v12) (qArr m c)) := by
  unfold out0_17
  rw [View.canon_cons_unit_zero zero3, named_26, named_27, named_28, named_29]
theorem whole_18 : out0_18 (F := Ideal) (V m c main_v2) (V m c main_v3) (V m c main_v6) (V m c main_v9) (V m c main_v12) (V m c main_v15) (V m c main_arg3) (V m c main_v16) (V m c main_arg5) (V m c main_v17) (V m c main_arg7) (V m c main_v18) (V m c main_arg9) (V m c main_v19) = k0_pay3 (dArr m c) := by
  unfold out0_18
  rw [View.canon_cons_unit_zero zero3, named_30]
theorem whole_19 : out0_19 (F := Ideal) (V m c main_v2) (V m c main_v3) (V m c main_v6) (V m c main_v9) (V m c main_v12) (V m c main_v15) (V m c main_arg3) (V m c main_v16) (V m c main_arg5) (V m c main_v17) (V m c main_arg7) (V m c main_v18) (V m c main_arg9) (V m c main_v19) = k0_pay4 (k0_pay22 (F := Ideal) (dArr m c) (gArr m c) (uArr m c) (pArr m c)) := by
  unfold out0_19
  rw [View.canon_cons_unit_zero zero3, named_30, named_31, named_32, named_33]
theorem whole_20 : out0_20 (F := Ideal) (V m c main_v2) (V m c main_v3) (V m c main_v6) (V m c main_v9) (V m c main_v12) (V m c main_v15) (V m c main_arg3) (V m c main_v16) (V m c main_arg5) (V m c main_v17) (V m c main_arg7) (V m c main_v18) (V m c main_arg9) (V m c main_v19) = k0_pay5 (k0_pay21 (F := Ideal) (dArr m c) (gArr m c) (uArr m c) (pArr m c)) := by
  unfold out0_20
  rw [View.canon_cons_unit_zero zero3, named_30, named_31, named_32, named_33]
theorem whole_21 : out0_21 (F := Ideal) (V m c main_v2) (V m c main_v3) (V m c main_v6) (V m c main_v9) (V m c main_v12) (V m c main_v15) (V m c main_arg3) (V m c main_v16) (V m c main_arg5) (V m c main_v17) (V m c main_arg7) (V m c main_v18) (V m c main_arg9) (V m c main_v19) = k0_pay6 (k0_pay23 (F := Ideal) (yArr m c) (dArr m c) (gArr m c) (uArr m c) (pArr m c) (V m c main_v15) (V m c main_arg9) (V m c main_v19)) := by
  unfold out0_21
  rw [View.canon_cons_unit_zero zero3, named_26, named_30, named_31, named_32, named_33, ld_1, ld_6, ld_3]
theorem value_14 (y : S3x6480x768.Idx) : (k0_pay24 (F := Ideal) (V m c main_v2)) y = (fun y => (inputs m c).attRow (y 0) (y 1) (y 2) : S3x6480x768.Idx → EReal) y := by
  obtain ⟨b, t, d, rfl⟩ : ∃ (b : Fin 3) (t : Fin 6480) (d : Fin 768), y = ix3 b t d := ⟨y 0, y 1, y 2, eq_ix3 y⟩
  exact (pay24_apply b t _ d).trans (in_att m c b t d)
theorem final_14 : (dats m 0 c).arrAt 14 cfg0.N = (fun y => (inputs m c).attRow (y 0) (y 1) (y 2) : S3x6480x768.Idx → EReal) := by
  refine (dats m 0 c).arrAt_eq_of_covers 14 (fun y => (inputs m c).attRow (y 0) (y 1) (y 2) : S3x6480x768.Idx → EReal) (by decide +kernel) (fun t _ y => ?_)
  have h : (dats m 0 c).after 14 t = (k0_pay24 (F := Ideal) (V m c main_v2)) := by
    rw [after0_14, block_0, block_1, block_2, block_3, block_4, block_5, block_6, block_7, block_8, block_9, block_10, block_11, block_12, block_13]
    exact whole_14 m c
  refine Eq.trans (b := (k0_pay24 (F := Ideal) (V m c main_v2)) y) (congrFun h y) ?_
  exact (value_14 m c y).trans (congrArg (fun y => (inputs m c).attRow (y 0) (y 1) (y 2) : S3x6480x768.Idx → EReal) (emb_14 t y).symm)
theorem value_15 (y : S3x6480x768.Idx) : (k0_pay25 (k0_pay9 (F := Ideal) (V m c main_v2))) y = (fun y => codes ((inputs m c).attRow (y 0) (y 1)) (y 2) : S3x6480x768.Idx → EReal) y := by
  obtain ⟨b, t, d, rfl⟩ : ∃ (b : Fin 3) (t : Fin 6480) (d : Fin 768), y = ix3 b t d := ⟨y 0, y 1, y 2, eq_ix3 y⟩
  exact (pay25_apply b t _ d).trans (tok_codes m c b t d)
theorem final_15 : (dats m 0 c).arrAt 15 cfg0.N = (fun y => codes ((inputs m c).attRow (y 0) (y 1)) (y 2) : S3x6480x768.Idx → EReal) := by
  refine (dats m 0 c).arrAt_eq_of_covers 15 (fun y => codes ((inputs m c).attRow (y 0) (y 1)) (y 2) : S3x6480x768.Idx → EReal) (by decide +kernel) (fun t _ y => ?_)
  have h : (dats m 0 c).after 15 t = (k0_pay25 (k0_pay9 (F := Ideal) (V m c main_v2))) := by
    rw [after0_15, block_0, block_1, block_2, block_3, block_4, block_5, block_6, block_7, block_8, block_9, block_10, block_11, block_12, block_13]
    exact whole_15 m c
  refine Eq.trans (b := (k0_pay25 (k0_pay9 (F := Ideal) (V m c main_v2))) y) (congrFun h y) ?_
  exact (value_15 m c y).trans (congrArg (fun y => codes ((inputs m c).attRow (y 0) (y 1)) (y 2) : S3x6480x768.Idx → EReal) (emb_15 t y).symm)
theorem value_16 (y : S3x1x6480.Idx) : (k0_pay1 (k0_pay8 (F := Ideal) (V m c main_v2))) y = (fun y => scale ((inputs m c).attRow (y 0) (y 2)) : S3x1x6480.Idx → EReal) y := by
  obtain ⟨b, t, rfl⟩ : ∃ (b : Fin 3) (t : Fin 6480), y = ix3 b (0 : Fin 1) t := ⟨y 0, y 2, (eq_ix3 y).trans (congrArg (fun z : Fin 1 => ix3 (y 0) z (y 2)) (Subsingleton.elim _ _))⟩
  exact (pay1_apply b t _).trans (tok_scale m c b t)
theorem final_16 : (dats m 0 c).arrAt 16 cfg0.N = (fun y => scale ((inputs m c).attRow (y 0) (y 2)) : S3x1x6480.Idx → EReal) := by
  refine (dats m 0 c).arrAt_eq_of_covers 16 (fun y => scale ((inputs m c).attRow (y 0) (y 2)) : S3x1x6480.Idx → EReal) (by decide +kernel) (fun t _ y => ?_)
  have h : (dats m 0 c).after 16 t = (k0_pay1 (k0_pay8 (F := Ideal) (V m c main_v2))) := by
    rw [after0_16, block_0, block_1, block_2, block_3, block_4, block_5, block_6, block_7, block_8, block_9, block_10, block_11, block_12, block_13]
    exact whole_16 m c
  refine Eq.trans (b := (k0_pay1 (k0_pay8 (F := Ideal) (V m c main_v2))) y) (congrFun h y) ?_
  exact (value_16 m c y).trans (congrArg (fun y => scale ((inputs m c).attRow (y 0) (y 2)) : S3x1x6480.Idx → EReal) (emb_16 t y).symm)
theorem value_17 (y : S3x6480x3072.Idx) : (k0_pay2 (k0_pay16 (F := Ideal) (yArr m c) (V m c main_v9) (V m c main_v12) (qArr m c))) y = (fun y => codes ((inputs m c).norm (y 0) (y 1)) (y 2) : S3x6480x3072.Idx → EReal) y := by
  obtain ⟨b, t, d, rfl⟩ : ∃ (b : Fin 3) (t : Fin 6480) (d : Fin 3072), y = ix3 b t d := ⟨y 0, y 1, y 2, eq_ix3 y⟩
  exact (pay2_apply b t _ d).trans (tok_normCodes m c b t d)
theorem final_17 : (dats m 0 c).arrAt 17 cfg0.N = (fun y => codes ((inputs m c).norm (y 0) (y 1)) (y 2) : S3x6480x3072.Idx → EReal) := by
  refine (dats m 0 c).arrAt_eq_of_covers 17 (fun y => codes ((inputs m c).norm (y 0) (y 1)) (y 2) : S3x6480x3072.Idx → EReal) (by decide +kernel) (fun t _ y => ?_)
  have h : (dats m 0 c).after 17 t = (k0_pay2 (k0_pay16 (F := Ideal) (yArr m c) (V m c main_v9) (V m c main_v12) (qArr m c))) := by
    rw [after0_17, block_0, block_1, block_2, block_3, block_4, block_5, block_6, block_7, block_8, block_9, block_10, block_11, block_12, block_13]
    exact whole_17 m c
  refine Eq.trans (b := (k0_pay2 (k0_pay16 (F := Ideal) (yArr m c) (V m c main_v9) (V m c main_v12) (qArr m c))) y) (congrFun h y) ?_
  exact (value_17 m c y).trans (congrArg (fun y => codes ((inputs m c).norm (y 0) (y 1)) (y 2) : S3x6480x3072.Idx → EReal) (emb_17 t y).symm)
theorem value_18 (y : S3x1x6480.Idx) : (k0_pay3 (dArr m c)) y = (fun y => scale ((inputs m c).norm (y 0) (y 2)) : S3x1x6480.Idx → EReal) y := by
  obtain ⟨b, t, rfl⟩ : ∃ (b : Fin 3) (t : Fin 6480), y = ix3 b (0 : Fin 1) t := ⟨y 0, y 2, (eq_ix3 y).trans (congrArg (fun z : Fin 1 => ix3 (y 0) z (y 2)) (Subsingleton.elim _ _))⟩
  exact (pay3_apply b t _).trans (dArr_apply m c b t)
theorem final_18 : (dats m 0 c).arrAt 18 cfg0.N = (fun y => scale ((inputs m c).norm (y 0) (y 2)) : S3x1x6480.Idx → EReal) := by
  refine (dats m 0 c).arrAt_eq_of_covers 18 (fun y => scale ((inputs m c).norm (y 0) (y 2)) : S3x1x6480.Idx → EReal) (by decide +kernel) (fun t _ y => ?_)
  have h : (dats m 0 c).after 18 t = (k0_pay3 (dArr m c)) := by
    rw [after0_18, block_0, block_1, block_2, block_3, block_4, block_5, block_6, block_7, block_8, block_9, block_10, block_11, block_12, block_13]
    exact whole_18 m c
  refine Eq.trans (b := (k0_pay3 (dArr m c)) y) (congrFun h y) ?_
  exact (value_18 m c y).trans (congrArg (fun y => scale ((inputs m c).norm (y 0) (y 2)) : S3x1x6480.Idx → EReal) (emb_18 t y).symm)
theorem value_19 (y : S3x6480x2048.Idx) : (k0_pay4 (k0_pay22 (F := Ideal) (dArr m c) (gArr m c) (uArr m c) (pArr m c))) y = (fun y => codes ((inputs m c).hid (y 0) (y 1)) (y 2) : S3x6480x2048.Idx → EReal) y := by
  obtain ⟨b, t, d, rfl⟩ : ∃ (b : Fin 3) (t : Fin 6480) (d : Fin 2048), y = ix3 b t d := ⟨y 0, y 1, y 2, eq_ix3 y⟩
  exact (pay4_apply b t _ d).trans (tok_hidCodes m c b t d)
theorem final_19 : (dats m 0 c).arrAt 19 cfg0.N = (fun y => codes ((inputs m c).hid (y 0) (y 1)) (y 2) : S3x6480x2048.Idx → EReal) := by
  refine (dats m 0 c).arrAt_eq_of_covers 19 (fun y => codes ((inputs m c).hid (y 0) (y 1)) (y 2) : S3x6480x2048.Idx → EReal) (by decide +kernel) (fun t _ y => ?_)
  have h : (dats m 0 c).after 19 t = (k0_pay4 (k0_pay22 (F := Ideal) (dArr m c) (gArr m c) (uArr m c) (pArr m c))) := by
    rw [after0_19, block_0, block_1, block_2, block_3, block_4, block_5, block_6, block_7, block_8, block_9, block_10, block_11, block_12, block_13]
    exact whole_19 m c
  refine Eq.trans (b := (k0_pay4 (k0_pay22 (F := Ideal) (dArr m c) (gArr m c) (uArr m c) (pArr m c))) y) (congrFun h y) ?_
  exact (value_19 m c y).trans (congrArg (fun y => codes ((inputs m c).hid (y 0) (y 1)) (y 2) : S3x6480x2048.Idx → EReal) (emb_19 t y).symm)
theorem value_20 (y : S3x1x6480.Idx) : (k0_pay5 (k0_pay21 (F := Ideal) (dArr m c) (gArr m c) (uArr m c) (pArr m c))) y = (fun y => scale ((inputs m c).hid (y 0) (y 2)) : S3x1x6480.Idx → EReal) y := by
  obtain ⟨b, t, rfl⟩ : ∃ (b : Fin 3) (t : Fin 6480), y = ix3 b (0 : Fin 1) t := ⟨y 0, y 2, (eq_ix3 y).trans (congrArg (fun z : Fin 1 => ix3 (y 0) z (y 2)) (Subsingleton.elim _ _))⟩
  exact (pay5_apply b t _).trans (tok_hidScale m c b t)
theorem final_20 : (dats m 0 c).arrAt 20 cfg0.N = (fun y => scale ((inputs m c).hid (y 0) (y 2)) : S3x1x6480.Idx → EReal) := by
  refine (dats m 0 c).arrAt_eq_of_covers 20 (fun y => scale ((inputs m c).hid (y 0) (y 2)) : S3x1x6480.Idx → EReal) (by decide +kernel) (fun t _ y => ?_)
  have h : (dats m 0 c).after 20 t = (k0_pay5 (k0_pay21 (F := Ideal) (dArr m c) (gArr m c) (uArr m c) (pArr m c))) := by
    rw [after0_20, block_0, block_1, block_2, block_3, block_4, block_5, block_6, block_7, block_8, block_9, block_10, block_11, block_12, block_13]
    exact whole_20 m c
  refine Eq.trans (b := (k0_pay5 (k0_pay21 (F := Ideal) (dArr m c) (gArr m c) (uArr m c) (pArr m c))) y) (congrFun h y) ?_
  exact (value_20 m c y).trans (congrArg (fun y => scale ((inputs m c).hid (y 0) (y 2)) : S3x1x6480.Idx → EReal) (emb_20 t y).symm)
theorem value_21 (y : S3x6480x3072.Idx) : (k0_pay6 (k0_pay23 (F := Ideal) (yArr m c) (dArr m c) (gArr m c) (uArr m c) (pArr m c) (V m c main_v15) (V m c main_arg9) (V m c main_v19))) y = (fun y => (inputs m c).out (y 0) (y 1) (y 2) : S3x6480x3072.Idx → EReal) y := by
  obtain ⟨b, t, d, rfl⟩ : ∃ (b : Fin 3) (t : Fin 6480) (d : Fin 3072), y = ix3 b t d := ⟨y 0, y 1, y 2, eq_ix3 y⟩
  exact (pay6_apply b t _ d).trans (tok_out m c b t d)
theorem final_21 : (dats m 0 c).arrAt 21 cfg0.N = (fun y => (inputs m c).out (y 0) (y 1) (y 2) : S3x6480x3072.Idx → EReal) := by
  refine (dats m 0 c).arrAt_eq_of_covers 21 (fun y => (inputs m c).out (y 0) (y 1) (y 2) : S3x6480x3072.Idx → EReal) (by decide +kernel) (fun t _ y => ?_)
  have h : (dats m 0 c).after 21 t = (k0_pay6 (k0_pay23 (F := Ideal) (yArr m c) (dArr m c) (gArr m c) (uArr m c) (pArr m c) (V m c main_v15) (V m c main_arg9) (V m c main_v19))) := by
    rw [after0_21, block_0, block_1, block_2, block_3, block_4, block_5, block_6, block_7, block_8, block_9, block_10, block_11, block_12, block_13]
    exact whole_21 m c
  refine Eq.trans (b := (k0_pay6 (k0_pay23 (F := Ideal) (yArr m c) (dArr m c) (gArr m c) (uArr m c) (pArr m c) (V m c main_v15) (V m c main_arg9) (V m c main_v19))) y) (congrFun h y) ?_
  exact (value_21 m c y).trans (congrArg (fun y => (inputs m c).out (y 0) (y 1) (y 2) : S3x6480x3072.Idx → EReal) (emb_21 t y).symm)
end

/-- The reference's results hold the layer's values; its arguments are unchanged. -/
theorem run_layer : θ_run defs (onTc (τ := τ) (main (F := Ideal))) ⟨m, fun _ => 0, ρ⟩ (fun r => ∀ c : Dev nD,
      r.2.mem ((c.tc : Thread nD τ).loc main_v20_0) = (fun y => (inputs m c).attRow (y 0) (y 1) (y 2) : S3x6480x768.Idx → EReal)
      ∧ r.2.mem ((c.tc : Thread nD τ).loc main_v20_1) = (fun y => codes ((inputs m c).attRow (y 0) (y 1)) (y 2) : S3x6480x768.Idx → EReal)
      ∧ r.2.mem ((c.tc : Thread nD τ).loc main_v20_2) = (fun y => scale ((inputs m c).attRow (y 0) (y 2)) : S3x1x6480.Idx → EReal)
      ∧ r.2.mem ((c.tc : Thread nD τ).loc main_v20_3) = (fun y => codes ((inputs m c).norm (y 0) (y 1)) (y 2) : S3x6480x3072.Idx → EReal)
      ∧ r.2.mem ((c.tc : Thread nD τ).loc main_v20_4) = (fun y => scale ((inputs m c).norm (y 0) (y 2)) : S3x1x6480.Idx → EReal)
      ∧ r.2.mem ((c.tc : Thread nD τ).loc main_v20_5) = (fun y => codes ((inputs m c).hid (y 0) (y 1)) (y 2) : S3x6480x2048.Idx → EReal)
      ∧ r.2.mem ((c.tc : Thread nD τ).loc main_v20_6) = (fun y => scale ((inputs m c).hid (y 0) (y 2)) : S3x1x6480.Idx → EReal)
      ∧ r.2.mem ((c.tc : Thread nD τ).loc main_v20_7) = (fun y => (inputs m c).out (y 0) (y 1) (y 2) : S3x6480x3072.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => by
    obtain ⟨h0, h1, h2, h3, h4, h5, h6, h7, hk⟩ := h c
    exact ⟨h0.trans (final_14 m c), h1.trans (final_15 m c), h2.trans (final_16 m c), h3.trans (final_17 m c), h4.trans (final_18 m c), h5.trans (final_19 m c), h6.trans (final_20 m c), h7.trans (final_21 m c), hk⟩) (run_blocks m ρ)

end Cert.ReferenceIdeal.Value

end
-- ==== Proof.Agreement.lean ====
/-
  The two programs from agreeing arguments: the call and the reference leave the same arrays.
-/
module

public import proofs.«01_k».proof.Defs
public import Idealize.ShloMosaic.Lib.Claim
public import proofs.«01_k».proof.Proof.KernelIdealValue
public import proofs.«01_k».proof.Proof.ReferenceValue

@[expose] public section

set_option maxHeartbeats 1000000

noncomputable section

namespace Cert.KernelIdeal.Hand.Tile

open Cert.KernelIdeal Cert.KernelIdeal.Gen Cert.KernelIdeal.Hand
open Idealize.ShloMosaic Idealize.ShloMosaic.TcCoe Idealize.ShloMosaic.Tactic
open Cert.RowSpec

theorem row_3072 (v : FVec Ideal S3072 .f32) (j : Fin 3072) :
    (broadcastInDim S1x3072 ![1] bcast_S3072_S1x3072_1 v : FVec Ideal S1x3072 .f32) (ix2 (0 : Fin 1) j) = v (ix1 j) := by
  pointwise
theorem row_2048 (v : FVec Ideal S2048 .f32) (j : Fin 2048) :
    (broadcastInDim S1x2048 ![1] bcast_S2048_S1x2048_1 v : FVec Ideal S1x2048 .f32) (ix2 (0 : Fin 1) j) = v (ix1 j) := by
  pointwise

variable (m : (ℓ : Loc nD τ sig) → Buf (Elt Ideal) ℓ) (c : Dev nD)

theorem scale_row_0 (j : Fin 3072) : V m c main_v0 (ix2 (0 : Fin 1) j) = m ((c : Thread nD τ).loc main_arg4) (ix1 j) := by
  entry_read
  exact row_3072 (m ((c : Thread nD τ).loc main_arg4)) j
theorem scale_row_1 (j : Fin 2048) : V m c main_v1 (ix2 (0 : Fin 1) j) = m ((c : Thread nD τ).loc main_arg6) (ix1 j) := by
  entry_read
  exact row_2048 (m ((c : Thread nD τ).loc main_arg6)) j
theorem scale_row_2 (j : Fin 2048) : V m c main_v2 (ix2 (0 : Fin 1) j) = m ((c : Thread nD τ).loc main_arg8) (ix1 j) := by
  entry_read
  exact row_2048 (m ((c : Thread nD τ).loc main_arg8)) j
theorem scale_row_3 (j : Fin 3072) : V m c main_v3 (ix2 (0 : Fin 1) j) = m ((c : Thread nD τ).loc main_arg10) (ix1 j) := by
  entry_read
  exact row_3072 (m ((c : Thread nD τ).loc main_arg10)) j

/-- The call's arguments, read from the memory it starts on. -/
def given : Inputs where
  att b h t d := m ((c : Thread nD τ).loc main_arg0) (ix4 b h t d)
  x b t d := m ((c : Thread nD τ).loc main_arg1) (ix3 b t d)
  mod b q d := m ((c : Thread nD τ).loc main_arg2) (ix3 b q d)
  wo k j := m ((c : Thread nD τ).loc main_arg3) (ix2 k j)
  so j := m ((c : Thread nD τ).loc main_arg4) (ix1 j)
  w1 k j := m ((c : Thread nD τ).loc main_arg5) (ix2 k j)
  s1 j := m ((c : Thread nD τ).loc main_arg6) (ix1 j)
  w3 k j := m ((c : Thread nD τ).loc main_arg7) (ix2 k j)
  s3 j := m ((c : Thread nD τ).loc main_arg8) (ix1 j)
  w2 k j := m ((c : Thread nD τ).loc main_arg9) (ix2 k j)
  s2 j := m ((c : Thread nD τ).loc main_arg10) (ix1 j)

theorem inputs_given : inputs m c = given m c := by
  unfold inputs given
  refine Inputs.ext ?_ ?_ ?_ ?_ ?_ ?_ ?_ ?_ ?_ ?_ ?_
  · exact funext fun b => funext fun h => funext fun t => funext fun d => congrFun (V_main_arg0 m c) (ix4 b h t d)
  · exact funext fun b => funext fun t => funext fun d => congrFun (V_main_arg1 m c) (ix3 b t d)
  · exact funext fun b => funext fun q => funext fun d => congrFun (V_main_arg2 m c) (ix3 b q d)
  · exact funext fun k => funext fun j => congrFun (V_main_arg3 m c) (ix2 k j)
  · exact funext fun j => scale_row_0 m c j
  · exact funext fun k => funext fun j => congrFun (V_main_arg5 m c) (ix2 k j)
  · exact funext fun j => scale_row_1 m c j
  · exact funext fun k => funext fun j => congrFun (V_main_arg7 m c) (ix2 k j)
  · exact funext fun j => scale_row_2 m c j
  · exact funext fun k => funext fun j => congrFun (V_main_arg9 m c) (ix2 k j)
  · exact funext fun j => scale_row_3 m c j

end Cert.KernelIdeal.Hand.Tile

namespace Cert.Agreement

open Idealize.ShloMosaic Idealize.ShloMosaic.TcCoe Idealize.SL.Sem
open Cert.RowSpec

/-- From agreeing memories the two programs have the same arguments. -/
theorem inputs_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    : Cert.ReferenceIdeal.Value.inputs m' c = Cert.KernelIdeal.Hand.Tile.inputs m c := by
  rw [Cert.KernelIdeal.Hand.Tile.inputs_given]
  unfold Cert.ReferenceIdeal.Value.inputs Cert.KernelIdeal.Hand.Tile.given
  refine Inputs.ext ?_ ?_ ?_ ?_ ?_ ?_ ?_ ?_ ?_ ?_ ?_
  · exact funext fun b => funext fun h => funext fun t => funext fun d => congrFun h0 (ix4 b h t d)
  · exact funext fun b => funext fun t => funext fun d => congrFun h1 (ix3 b t d)
  · exact funext fun b => funext fun q => funext fun d => congrFun h2 (ix3 b q d)
  · exact funext fun k => funext fun j => congrFun h3 (ix2 k j)
  · exact funext fun j => congrFun h4 (ix1 j)
  · exact funext fun k => funext fun j => congrFun h5 (ix2 k j)
  · exact funext fun j => congrFun h6 (ix1 j)
  · exact funext fun k => funext fun j => congrFun h7 (ix2 k j)
  · exact funext fun j => congrFun h8 (ix1 j)
  · exact funext fun k => funext fun j => congrFun h9 (ix2 k j)
  · exact funext fun j => congrFun h10 (ix1 j)

theorem algebraic : Cert.algebraic_KernelIdeal_ReferenceIdeal (hKernelIdeal := Cert.KernelIdeal.Gen.facts) (hReferenceIdeal := Cert.ReferenceIdeal.Gen.facts) := by
  intro m g m' g' _ hm
  have hi : ∀ c : Dev Cert.KernelIdeal.nD, Cert.ReferenceIdeal.Value.inputs m' c = Cert.KernelIdeal.Hand.Tile.inputs m c := fun c => by
    obtain ⟨h0, h1, h2, h3, h4, h5, h6, h7, h8, h9, h10⟩ := hm c
    exact inputs_eq m m' c h0 h1 h2 h3 h4 h5 h6 h7 h8 h9 h10
  refine ⟨fun c => Cert.KernelIdeal.Hand.Tile.attArr (Cert.KernelIdeal.Hand.Tile.inputs m c), fun c => Cert.KernelIdeal.Hand.Tile.attCodeArr (Cert.KernelIdeal.Hand.Tile.inputs m c), fun c => Cert.KernelIdeal.Hand.Tile.attScaleArr (Cert.KernelIdeal.Hand.Tile.inputs m c), fun c => Cert.KernelIdeal.Hand.Tile.normCodeArr (Cert.KernelIdeal.Hand.Tile.inputs m c), fun c => Cert.KernelIdeal.Hand.Tile.normScaleArr (Cert.KernelIdeal.Hand.Tile.inputs m c), fun c => Cert.KernelIdeal.Hand.Tile.hidCodeArr (Cert.KernelIdeal.Hand.Tile.inputs m c), fun c => Cert.KernelIdeal.Hand.Tile.hidScaleArr (Cert.KernelIdeal.Hand.Tile.inputs m c), fun c => Cert.KernelIdeal.Hand.Tile.outArr (Cert.KernelIdeal.Hand.Tile.inputs m c),
    Cert.KernelIdeal.Hand.Tile.run_layer m g, ?_⟩
  refine (θ_run Cert.ReferenceIdeal.defs _ _).mono (fun r h c => ?_) (Cert.ReferenceIdeal.Value.run_layer m' g')
  obtain ⟨e0, e1, e2, e3, e4, e5, e6, e7, hk⟩ := h c
  rw [hi c] at e0 e1 e2 e3 e4 e5 e6 e7
  exact ⟨e0, e1, e2, e3, e4, e5, e6, e7, hk⟩

end Cert.Agreement

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.KernelFrame
public import proofs.«01_k».proof.Proof.KernelIdealFrame
public import proofs.«01_k».proof.Proof.Gen.ReferenceIdeal
public import proofs.«01_k».proof.Proof.Gen.ReferenceIdeal.Frame
public import proofs.«01_k».proof.Proof.Agreement
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ, fun m ρ _ => Cert.ReferenceIdeal.Gen.frame m ρ,
  trivial, Cert.Agreement.algebraic⟩

end Cert.Proof

end
